-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardIdeal_finite_gate [hPre_finite_gate : Cert.Pre_finite_gate.Facts] (m : (ℓ : Loc Cert.FeedForwardIdeal.nD Cert.FeedForwardIdeal.τ Cert.FeedForwardIdeal.sig) → Buf (Elt Ideal) ℓ) : Prop :=
  ∀ c : Dev Cert.FeedForwardIdeal.nD,
    (Cert.Pre_finite_gate.fn (F := Ideal) (m ((c.tc : Thread Cert.FeedForwardIdeal.nD Cert.FeedForwardIdeal.τ).loc Cert.FeedForwardIdeal.main_arg0)) (m ((c.tc : Thread Cert.FeedForwardIdeal.nD Cert.FeedForwardIdeal.τ).loc Cert.FeedForwardIdeal.main_arg1)) (m ((c.tc : Thread Cert.FeedForwardIdeal.nD Cert.FeedForwardIdeal.τ).loc Cert.FeedForwardIdeal.main_arg2)) (m ((c.tc : Thread Cert.FeedForwardIdeal.nD Cert.FeedForwardIdeal.τ).loc Cert.FeedForwardIdeal.main_arg3)) (m ((c.tc : Thread Cert.FeedForwardIdeal.nD Cert.FeedForwardIdeal.τ).loc Cert.FeedForwardIdeal.main_arg4))) = (fun _ => 1#1)

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_FeedForwardReferenceIdeal_finite_gate [hPre_finite_gate : Cert.Pre_finite_gate.Facts] (m : (ℓ : Loc Cert.FeedForwardReferenceIdeal.nD Cert.FeedForwardReferenceIdeal.τ Cert.FeedForwardReferenceIdeal.sig) → Buf (Elt Ideal) ℓ) : Prop :=
  ∀ c : Dev Cert.FeedForwardReferenceIdeal.nD,
    (Cert.Pre_finite_gate.fn (F := Ideal) (m ((c.tc : Thread Cert.FeedForwardReferenceIdeal.nD Cert.FeedForwardReferenceIdeal.τ).loc Cert.FeedForwardReferenceIdeal.main_arg0)) (m ((c.tc : Thread Cert.FeedForwardReferenceIdeal.nD Cert.FeedForwardReferenceIdeal.τ).loc Cert.FeedForwardReferenceIdeal.main_arg1)) (m ((c.tc : Thread Cert.FeedForwardReferenceIdeal.nD Cert.FeedForwardReferenceIdeal.τ).loc Cert.FeedForwardReferenceIdeal.main_arg2)) (m ((c.tc : Thread Cert.FeedForwardReferenceIdeal.nD Cert.FeedForwardReferenceIdeal.τ).loc Cert.FeedForwardReferenceIdeal.main_arg3)) (m ((c.tc : Thread Cert.FeedForwardReferenceIdeal.nD Cert.FeedForwardReferenceIdeal.τ).loc Cert.FeedForwardReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4))
      ∧ r.2.sem = fun _ => 0)

def quiescent_FeedForwardIdeal_pre_finite_gate [hFeedForwardIdeal : Cert.FeedForwardIdeal.Facts] [hPre_finite_gate : Cert.Pre_finite_gate.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal_finite_gate m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4))
      ∧ r.2.sem = fun _ => 0)

def quiescent_FeedForwardReferenceIdeal_pre_finite_gate [hFeedForwardReferenceIdeal : Cert.FeedForwardReferenceIdeal.Facts] [hPre_finite_gate : Cert.Pre_finite_gate.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal_finite_gate m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6)
      ∧ r.2.mem ((c.tc : Thread Cert.Projection.nD Cert.Projection.τ).loc Cert.Projection.main_arg7) = m ((c.tc : Thread Cert.Projection.nD Cert.Projection.τ).loc Cert.Projection.main_arg7)
      ∧ r.2.mem ((c.tc : Thread Cert.Projection.nD Cert.Projection.τ).loc Cert.Projection.main_arg8) = m ((c.tc : Thread Cert.Projection.nD Cert.Projection.τ).loc Cert.Projection.main_arg8)
      ∧ r.2.mem ((c.tc : Thread Cert.Projection.nD Cert.Projection.τ).loc Cert.Projection.main_arg9) = m ((c.tc : Thread Cert.Projection.nD Cert.Projection.τ).loc Cert.Projection.main_arg9))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
      ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
      ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
      ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6)
      ∧ r.2.mem ((c.tc : Thread Cert.ProjectionReferenceIdeal.nD Cert.ProjectionReferenceIdeal.τ).loc Cert.ProjectionReferenceIdeal.main_arg7) = m ((c.tc : Thread Cert.ProjectionReferenceIdeal.nD Cert.ProjectionReferenceIdeal.τ).loc Cert.ProjectionReferenceIdeal.main_arg7)
      ∧ r.2.mem ((c.tc : Thread Cert.ProjectionReferenceIdeal.nD Cert.ProjectionReferenceIdeal.τ).loc Cert.ProjectionReferenceIdeal.main_arg8) = m ((c.tc : Thread Cert.ProjectionReferenceIdeal.nD Cert.ProjectionReferenceIdeal.τ).loc Cert.ProjectionReferenceIdeal.main_arg8)
      ∧ r.2.mem ((c.tc : Thread Cert.ProjectionReferenceIdeal.nD Cert.ProjectionReferenceIdeal.τ).loc Cert.ProjectionReferenceIdeal.main_arg9) = m ((c.tc : Thread Cert.ProjectionReferenceIdeal.nD Cert.ProjectionReferenceIdeal.τ).loc Cert.ProjectionReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FeedForward_FeedForwardIdeal : Prop :=
  True

def algebraic_FeedForwardIdeal_FeedForwardReferenceIdeal_pre_finite_gate [hFeedForwardIdeal : Cert.FeedForwardIdeal.Facts] [hFeedForwardReferenceIdeal : Cert.FeedForwardReferenceIdeal.Facts] [hPre_finite_gate : Cert.Pre_finite_gate.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal_finite_gate m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)
      ∧ m' ((c.tc : Thread Cert.FeedForwardReferenceIdeal.nD Cert.FeedForwardReferenceIdeal.τ).loc Cert.FeedForwardReferenceIdeal.main_arg4) = m ((c.tc : Thread Cert.FeedForwardIdeal.nD Cert.FeedForwardIdeal.τ).loc Cert.FeedForwardIdeal.main_arg4)) →
    ∃ (v0 : (c : Dev Cert.FeedForwardIdeal.nD) → Buf (Elt Ideal) ((c.tc : Thread Cert.FeedForwardIdeal.nD Cert.FeedForwardIdeal.τ).loc Cert.FeedForwardIdeal.main_v5)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v5) = v0 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v21) = v0 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3)
          ∧ r.2.mem ((c.tc : Thread Cert.FeedForwardReferenceIdeal.nD Cert.FeedForwardReferenceIdeal.τ).loc Cert.FeedForwardReferenceIdeal.main_arg4) = m' ((c.tc : Thread Cert.FeedForwardReferenceIdeal.nD Cert.FeedForwardReferenceIdeal.τ).loc Cert.FeedForwardReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)
      ∧ m' ((c.tc : Thread Cert.ProjectionReferenceIdeal.nD Cert.ProjectionReferenceIdeal.τ).loc Cert.ProjectionReferenceIdeal.main_arg7) = m ((c.tc : Thread Cert.ProjectionIdeal.nD Cert.ProjectionIdeal.τ).loc Cert.ProjectionIdeal.main_arg7)
      ∧ m' ((c.tc : Thread Cert.ProjectionReferenceIdeal.nD Cert.ProjectionReferenceIdeal.τ).loc Cert.ProjectionReferenceIdeal.main_arg8) = m ((c.tc : Thread Cert.ProjectionIdeal.nD Cert.ProjectionIdeal.τ).loc Cert.ProjectionIdeal.main_arg8)
      ∧ m' ((c.tc : Thread Cert.ProjectionReferenceIdeal.nD Cert.ProjectionReferenceIdeal.τ).loc Cert.ProjectionReferenceIdeal.main_arg9) = m ((c.tc : Thread Cert.ProjectionIdeal.nD Cert.ProjectionIdeal.τ).loc Cert.ProjectionIdeal.main_arg9)) →
    ∃ (v0 : (c : Dev Cert.ProjectionIdeal.nD) → Buf (Elt Ideal) ((c.tc : Thread Cert.ProjectionIdeal.nD Cert.ProjectionIdeal.τ).loc Cert.ProjectionIdeal.main_v17_0)) (v1 : (c : Dev Cert.ProjectionIdeal.nD) → Buf (Elt Ideal) ((c.tc : Thread Cert.ProjectionIdeal.nD Cert.ProjectionIdeal.τ).loc Cert.ProjectionIdeal.main_v17_1)) (v2 : (c : Dev Cert.ProjectionIdeal.nD) → Buf (Elt Ideal) ((c.tc : Thread Cert.ProjectionIdeal.nD Cert.ProjectionIdeal.τ).loc Cert.ProjectionIdeal.main_v17_2)) (v3 : (c : Dev Cert.ProjectionIdeal.nD) → Buf (Elt Ideal) ((c.tc : Thread Cert.ProjectionIdeal.nD Cert.ProjectionIdeal.τ).loc Cert.ProjectionIdeal.main_v17_3)) (v4 : (c : Dev Cert.ProjectionIdeal.nD) → Buf (Elt Ideal) ((c.tc : Thread Cert.ProjectionIdeal.nD Cert.ProjectionIdeal.τ).loc Cert.ProjectionIdeal.main_v17_4)) (v5 : (c : Dev Cert.ProjectionIdeal.nD) → Buf (Elt Ideal) ((c.tc : Thread Cert.ProjectionIdeal.nD Cert.ProjectionIdeal.τ).loc Cert.ProjectionIdeal.main_v17_5)) (v6 : (c : Dev Cert.ProjectionIdeal.nD) → Buf (Elt Ideal) ((c.tc : Thread Cert.ProjectionIdeal.nD Cert.ProjectionIdeal.τ).loc Cert.ProjectionIdeal.main_v17_6)) (v7 : (c : Dev Cert.ProjectionIdeal.nD) → Buf (Elt Ideal) ((c.tc : Thread Cert.ProjectionIdeal.nD Cert.ProjectionIdeal.τ).loc Cert.ProjectionIdeal.main_v17_7)) (v8 : (c : Dev Cert.ProjectionIdeal.nD) → Buf (Elt Ideal) ((c.tc : Thread Cert.ProjectionIdeal.nD Cert.ProjectionIdeal.τ).loc Cert.ProjectionIdeal.main_v17_8)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v17_0) = v0 c
          ∧ r.2.mem ((c.tc : Thread Cert.ProjectionIdeal.nD Cert.ProjectionIdeal.τ).loc Cert.ProjectionIdeal.main_v17_1) = v1 c
          ∧ r.2.mem ((c.tc : Thread Cert.ProjectionIdeal.nD Cert.ProjectionIdeal.τ).loc Cert.ProjectionIdeal.main_v17_2) = v2 c
          ∧ r.2.mem ((c.tc : Thread Cert.ProjectionIdeal.nD Cert.ProjectionIdeal.τ).loc Cert.ProjectionIdeal.main_v17_3) = v3 c
          ∧ r.2.mem ((c.tc : Thread Cert.ProjectionIdeal.nD Cert.ProjectionIdeal.τ).loc Cert.ProjectionIdeal.main_v17_4) = v4 c
          ∧ r.2.mem ((c.tc : Thread Cert.ProjectionIdeal.nD Cert.ProjectionIdeal.τ).loc Cert.ProjectionIdeal.main_v17_5) = v5 c
          ∧ r.2.mem ((c.tc : Thread Cert.ProjectionIdeal.nD Cert.ProjectionIdeal.τ).loc Cert.ProjectionIdeal.main_v17_6) = v6 c
          ∧ r.2.mem ((c.tc : Thread Cert.ProjectionIdeal.nD Cert.ProjectionIdeal.τ).loc Cert.ProjectionIdeal.main_v17_7) = v7 c
          ∧ r.2.mem ((c.tc : Thread Cert.ProjectionIdeal.nD Cert.ProjectionIdeal.τ).loc Cert.ProjectionIdeal.main_v17_8) = v8 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
          ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
          ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
          ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v31) = v0 c
          ∧ r.2.mem ((c.tc : Thread Cert.ProjectionReferenceIdeal.nD Cert.ProjectionReferenceIdeal.τ).loc Cert.ProjectionReferenceIdeal.main_v32) = v1 c
          ∧ r.2.mem ((c.tc : Thread Cert.ProjectionReferenceIdeal.nD Cert.ProjectionReferenceIdeal.τ).loc Cert.ProjectionReferenceIdeal.main_v35) = v2 c
          ∧ r.2.mem ((c.tc : Thread Cert.ProjectionReferenceIdeal.nD Cert.ProjectionReferenceIdeal.τ).loc Cert.ProjectionReferenceIdeal.main_v38) = v3 c
          ∧ r.2.mem ((c.tc : Thread Cert.ProjectionReferenceIdeal.nD Cert.ProjectionReferenceIdeal.τ).loc Cert.ProjectionReferenceIdeal.main_v41) = v4 c
          ∧ r.2.mem ((c.tc : Thread Cert.ProjectionReferenceIdeal.nD Cert.ProjectionReferenceIdeal.τ).loc Cert.ProjectionReferenceIdeal.main_v44) = v5 c
          ∧ r.2.mem ((c.tc : Thread Cert.ProjectionReferenceIdeal.nD Cert.ProjectionReferenceIdeal.τ).loc Cert.ProjectionReferenceIdeal.main_v47) = v6 c
          ∧ r.2.mem ((c.tc : Thread Cert.ProjectionReferenceIdeal.nD Cert.ProjectionReferenceIdeal.τ).loc Cert.ProjectionReferenceIdeal.main_v50) = v7 c
          ∧ r.2.mem ((c.tc : Thread Cert.ProjectionReferenceIdeal.nD Cert.ProjectionReferenceIdeal.τ).loc Cert.ProjectionReferenceIdeal.main_v53) = v8 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6)
          ∧ r.2.mem ((c.tc : Thread Cert.ProjectionReferenceIdeal.nD Cert.ProjectionReferenceIdeal.τ).loc Cert.ProjectionReferenceIdeal.main_arg7) = m' ((c.tc : Thread Cert.ProjectionReferenceIdeal.nD Cert.ProjectionReferenceIdeal.τ).loc Cert.ProjectionReferenceIdeal.main_arg7)
          ∧ r.2.mem ((c.tc : Thread Cert.ProjectionReferenceIdeal.nD Cert.ProjectionReferenceIdeal.τ).loc Cert.ProjectionReferenceIdeal.main_arg8) = m' ((c.tc : Thread Cert.ProjectionReferenceIdeal.nD Cert.ProjectionReferenceIdeal.τ).loc Cert.ProjectionReferenceIdeal.main_arg8)
          ∧ r.2.mem ((c.tc : Thread Cert.ProjectionReferenceIdeal.nD Cert.ProjectionReferenceIdeal.τ).loc Cert.ProjectionReferenceIdeal.main_arg9) = m' ((c.tc : Thread Cert.ProjectionReferenceIdeal.nD Cert.ProjectionReferenceIdeal.τ).loc Cert.ProjectionReferenceIdeal.main_arg9))

def Claim : Prop :=
  ∃ (hKernel : Cert.Kernel.Facts) (hKernelIdeal : Cert.KernelIdeal.Facts) (hReferenceIdeal : Cert.ReferenceIdeal.Facts) (hFeedForward : Cert.FeedForward.Facts) (hFeedForwardIdeal : Cert.FeedForwardIdeal.Facts) (hFeedForwardReferenceIdeal : Cert.FeedForwardReferenceIdeal.Facts) (hMerge : Cert.Merge.Facts) (hMergeIdeal : Cert.MergeIdeal.Facts) (hMergeReferenceIdeal : Cert.MergeReferenceIdeal.Facts) (hProjection : Cert.Projection.Facts) (hProjectionIdeal : Cert.ProjectionIdeal.Facts) (hProjectionReferenceIdeal : Cert.ProjectionReferenceIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FeedForward (hFeedForward := hFeedForward)
    ∧ quiescent_FeedForwardIdeal (hFeedForwardIdeal := hFeedForwardIdeal)
    ∧ quiescent_FeedForwardIdeal_pre_finite_gate (hFeedForwardIdeal := hFeedForwardIdeal) (hPre_finite_gate := hPre_finite_gate)
    ∧ quiescent_FeedForwardReferenceIdeal (hFeedForwardReferenceIdeal := hFeedForwardReferenceIdeal)
    ∧ quiescent_FeedForwardReferenceIdeal_pre_finite_gate (hFeedForwardReferenceIdeal := hFeedForwardReferenceIdeal) (hPre_finite_gate := hPre_finite_gate)
    ∧ quiescent_Merge (hMerge := hMerge)
    ∧ quiescent_MergeIdeal (hMergeIdeal := hMergeIdeal)
    ∧ quiescent_MergeReferenceIdeal (hMergeReferenceIdeal := hMergeReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FeedForward_FeedForwardIdeal
    ∧ algebraic_FeedForwardIdeal_FeedForwardReferenceIdeal_pre_finite_gate (hFeedForwardIdeal := hFeedForwardIdeal) (hFeedForwardReferenceIdeal := hFeedForwardReferenceIdeal) (hPre_finite_gate := hPre_finite_gate)
    ∧ preserves_Merge_MergeIdeal
    ∧ algebraic_MergeIdeal_MergeReferenceIdeal (hMergeIdeal := hMergeIdeal) (hMergeReferenceIdeal := hMergeReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_finite.lean ====
abbrev S4x4096x8x192 : Shape := ⟨4, ![4, 4096, 8, 192]⟩
abbrev S4x4096x8x128 : Shape := ⟨4, ![4, 4096, 8, 128]⟩
abbrev S_ : Shape := ⟨0, ![]⟩

class Facts : Prop where
  bcast_S_S4x4096x8x192 : S_.BroadcastsInDim S4x4096x8x192 (![] : Fin 0 → Fin S4x4096x8x192.rank)
  reducesTo_S4x4096x8x192_S_d0_1_2_3 : S4x4096x8x192.ReducesTo [0, 1, 2, 3] S_
  h_S_ : 0 < S_.numel

variable [Facts]

def fn {F : FTy → Type} [FloatOps F] (main_arg0 : FVec F S4x4096x8x192 .f32) (main_arg1 : FVec F S4x4096x8x192 .f32) (main_arg2 : FVec F S4x4096x8x128 .f32) : IVec S_ 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_c : IVec S_ 1 := constantI S_ 1 1#1
  let main_v3 : IVec S_ 1 := (fun x v => Host.reduce IntOp.andi x v reducesTo_S4x4096x8x192_S_d0_1_2_3 h_S_) main_v2 main_c
  let main_v4 : FVec F S4x4096x8x192 .f32 := Host.absf main_arg1
  let main_cst_0 : FVec F S_ .f32 := constant S_ .f32 0x7F800000#32
  let main_v5 : FVec F S4x4096x8x192 .f32 := broadcastInDim S4x4096x8x192 ![] bcast_S_S4x4096x8x192 main_cst_0
  let main_v6 : IVec S4x4096x8x192 1 := cmpf .olt main_v4 main_v5
  let main_c_1 : IVec S_ 1 := constantI S_ 1 1#1
  let main_v7 : IVec S_ 1 := (fun x v => Host.reduce IntOp.andi x v reducesTo_S4x4096x8x192_S_d0_1_2_3 h_S_) main_v6 main_c_1
  let main_v8 : IVec S_ 1 := andi main_v3 main_v7
  main_v8
-- ==== Pre_finite_gate.lean ====
abbrev S4x4096x2048 : Shape := ⟨3, ![4, 4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S4x4096x2048 .f32) (main_arg1 : FVec F S2048 .f32) (main_arg2 : FVec F S2048x5632 .f32) (main_arg3 : FVec F S2048x5632 .f32) (main_arg4 : FVec F S5632x2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x5632 .f32 := Host.absf main_arg2
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  main_v8
-- ==== Kernel.lean ====
abbrev S4x4096x8x192 : Shape := ⟨4, ![4, 4096, 8, 192]⟩
abbrev S4x4096x8x128 : Shape := ⟨4, ![4, 4096, 8, 128]⟩
abbrev S16384x8x192 : Shape := ⟨3, ![16384, 8, 192]⟩
abbrev S8x16384x192 : Shape := ⟨3, ![8, 16384, 192]⟩
abbrev S_ : Shape := ⟨0, ![]⟩
abbrev S8x16384x256 : Shape := ⟨3, ![8, 16384, 256]⟩
abbrev S16384x8x128 : Shape := ⟨3, ![16384, 8, 128]⟩
abbrev S8x16384x128 : Shape := ⟨3, ![8, 16384, 128]⟩
abbrev S16384x1024 : Shape := ⟨2, ![16384, 1024]⟩
abbrev S4x512x256 : Shape := ⟨3, ![4, 512, 256]⟩
abbrev S4x4096x256 : Shape := ⟨3, ![4, 4096, 256]⟩
abbrev S512x512 : Shape := ⟨2, ![512, 512]⟩
abbrev S2x4x512x512 : Shape := ⟨4, ![2, 4, 512, 512]⟩
abbrev S1x512x256 : Shape := ⟨3, ![1, 512, 256]⟩
abbrev S512x256 : Shape := ⟨2, ![512, 256]⟩
abbrev S1x1x512x512 : Shape := ⟨4, ![1, 1, 512, 512]⟩
abbrev S512x1 : Shape := ⟨2, ![512, 1]⟩
abbrev S512 : Shape := ⟨1, ![512]⟩
abbrev S512x128 : Shape := ⟨2, ![512, 128]⟩

abbrev nBuf : Space → Nat
  | .hbm => 29
  | .vmem => 10
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S16384x8x192, .f32⟩
  | .hbm, ⟨4, _⟩ => ⟨S8x16384x192, .f32⟩
  | .hbm, ⟨5, _⟩ => ⟨S_, .f32⟩
  | .hbm, ⟨6, _⟩ => ⟨S8x16384x192, .f32⟩
  | .hbm, ⟨7, _⟩ => ⟨S8x16384x192, .f32⟩
  | .hbm, ⟨8, _⟩ => ⟨S_, .f32⟩
  | .hbm, ⟨9, _⟩ => ⟨S_, .f32⟩
  | .hbm, ⟨10, _⟩ => ⟨S8x16384x192, .f32⟩
  | .hbm, ⟨11, _⟩ => ⟨S8x16384x192, .f32⟩
  | .hbm, ⟨12, _⟩ => ⟨S_, .i32⟩
  | .hbm, ⟨13, _⟩ => ⟨S_, .f32⟩
  | .hbm, ⟨14, _⟩ => ⟨S8x16384x256, .f32⟩
  | .hbm, ⟨15, _⟩ => ⟨S8x16384x256, .bf16⟩
  | .hbm, ⟨16, _⟩ => ⟨S16384x8x192, .f32⟩
  | .hbm, ⟨17, _⟩ => ⟨S8x16384x192, .f32⟩
  | .hbm, ⟨18, _⟩ => ⟨S_, .i32⟩
  | .hbm, ⟨19, _⟩ => ⟨S_, .f32⟩
  | .hbm, ⟨20, _⟩ => ⟨S8x16384x256, .f32⟩
  | .hbm, ⟨21, _⟩ => ⟨S8x16384x256, .bf16⟩
  | .hbm, ⟨22, _⟩ => ⟨S16384x8x128, .f32⟩
  | .hbm, ⟨23, _⟩ => ⟨S8x16384x128, .f32⟩
  | .hbm, ⟨24, _⟩ => ⟨S_, .f32⟩
  | .hbm, ⟨25, _⟩ => ⟨S8x16384x128, .f32⟩
  | .hbm, ⟨26, _⟩ => ⟨S8x16384x256, .f32⟩
  | .hbm, ⟨27, _⟩ => ⟨S8x16384x256, .bf16⟩
  | .hbm, ⟨28, _⟩ => ⟨S16384x1024, .bf16⟩
  | .local _ .vmem, ⟨0, _⟩ => ⟨S4x512x256, .bf16⟩
  | .local _ .vmem, ⟨1, _⟩ => ⟨S4x512x256, .bf16⟩
  | .local _ .vmem, ⟨2, _⟩ => ⟨S4x4096x256, .bf16⟩
  | .local _ .vmem, ⟨3, _⟩ => ⟨S4x4096x256, .bf16⟩
  | .local _ .vmem, ⟨4, _⟩ => ⟨S4x4096x256, .bf16⟩
  | .local _ .vmem, ⟨5, _⟩ => ⟨S4x4096x256, .bf16⟩
  | .local _ .vmem, ⟨6, _⟩ => ⟨S512x512, .bf16⟩
  | .local _ .vmem, ⟨7, _⟩ => ⟨S512x512, .bf16⟩
  | .local _ .vmem, ⟨8, _⟩ => ⟨S2x4x512x512, .f32⟩
  | .local _ .vmem, ⟨9, _⟩ => ⟨S4x512x256, .f32⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_mult1 : BitVec 32 :=
  let c0_i32 : BitVec 32 := 0#32
  c0_i32
@[reducible] def k0_t1_loop (i : grid0.Coords) : Scf.Loop 32 :=
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_50 : BitVec 32 := 1#32
  ⟨c0_i32_48, v66, c1_i32_50⟩
def k0_mult2 (i : grid0.Coords) (k0_t1 : Fin (k0_t1_loop i).trips) : BitVec 32 :=
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let c1_i32_77 : BitVec 32 := 1#32
  let v114 : BitVec 32 := Scalar.addi v113 c1_i32_77
  let c512_i32 : BitVec 32 := 512#32
  let v115 : BitVec 32 := Scalar.muli v114 c512_i32
  v115
def k0_off1 (i : grid0.Coords) (k0_t1 : Fin (k0_t1_loop i).trips) (c1_i32_77 : BitVec 32) : Fin 3 → Nat :=
  let c0_81 : Index := 0#32
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let v114 : BitVec 32 := Scalar.addi v113 c1_i32_77
  let c512_i32 : BitVec 32 := 512#32
  let v115 : BitVec 32 := Scalar.muli v114 c512_i32
  let v116 : BitVec 32 := v115
  let v119 : Index := Scalar.indexCast v116
  let c0_82 : Index := 0#32
  ![0, v119.toNat, 0]
def k0_off2 (i : grid0.Coords) (k0_t1 : Fin (k0_t1_loop i).trips) (c1_i32_77 : BitVec 32) : Fin 3 → Nat :=
  let c1_91 : Index := 1#32
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let v114 : BitVec 32 := Scalar.addi v113 c1_i32_77
  let c512_i32 : BitVec 32 := 512#32
  let v115 : BitVec 32 := Scalar.muli v114 c512_i32
  let v116 : BitVec 32 := v115
  let v128 : Index := Scalar.indexCast v116
  let c0_92 : Index := 0#32
  ![1, v128.toNat, 0]
def k0_off3 (i : grid0.Coords) (k0_t1 : Fin (k0_t1_loop i).trips) (c1_i32_77 : BitVec 32) : Fin 3 → Nat :=
  let c2_101 : Index := 2#32
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let v114 : BitVec 32 := Scalar.addi v113 c1_i32_77
  let c512_i32 : BitVec 32 := 512#32
  let v115 : BitVec 32 := Scalar.muli v114 c512_i32
  let v116 : BitVec 32 := v115
  let v137 : Index := Scalar.indexCast v116
  let c0_102 : Index := 0#32
  ![2, v137.toNat, 0]
def k0_off4 (i : grid0.Coords) (k0_t1 : Fin (k0_t1_loop i).trips) (c1_i32_77 : BitVec 32) : Fin 3 → Nat :=
  let c3_111 : Index := 3#32
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let v114 : BitVec 32 := Scalar.addi v113 c1_i32_77
  let c512_i32 : BitVec 32 := 512#32
  let v115 : BitVec 32 := Scalar.muli v114 c512_i32
  let v116 : BitVec 32 := v115
  let v146 : Index := Scalar.indexCast v116
  let c0_112 : Index := 0#32
  ![3, v146.toNat, 0]
def k0_mult3 (i : grid0.Coords) (k0_t1 : Fin (k0_t1_loop i).trips) : BitVec 32 :=
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let c512_i32_118 : BitVec 32 := 512#32
  let v153 : BitVec 32 := Scalar.muli v113 c512_i32_118
  v153
def k0_off5 (i : grid0.Coords) (k0_t1 : Fin (k0_t1_loop i).trips) : Fin 3 → Nat :=
  let c0_142 : Index := 0#32
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let c512_i32_118 : BitVec 32 := 512#32
  let v153 : BitVec 32 := Scalar.muli v113 c512_i32_118
  let v154 : BitVec 32 := v153
  let v203 : Index := Scalar.indexCast v154
  let c0_143 : Index := 0#32
  ![0, v203.toNat, 0]
def k0_off6 (i : grid0.Coords) (k0_t1 : Fin (k0_t1_loop i).trips) : Fin 3 → Nat :=
  let c1_151 : Index := 1#32
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let c512_i32_118 : BitVec 32 := 512#32
  let v153 : BitVec 32 := Scalar.muli v113 c512_i32_118
  let v154 : BitVec 32 := v153
  let v215 : Index := Scalar.indexCast v154
  let c0_152 : Index := 0#32
  ![1, v215.toNat, 0]
def k0_off7 (i : grid0.Coords) (k0_t1 : Fin (k0_t1_loop i).trips) : Fin 3 → Nat :=
  let c2_160 : Index := 2#32
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let c512_i32_118 : BitVec 32 := 512#32
  let v153 : BitVec 32 := Scalar.muli v113 c512_i32_118
  let v154 : BitVec 32 := v153
  let v227 : Index := Scalar.indexCast v154
  let c0_161 : Index := 0#32
  ![2, v227.toNat, 0]
def k0_off8 (i : grid0.Coords) (k0_t1 : Fin (k0_t1_loop i).trips) : Fin 3 → Nat :=
  let c3_169 : Index := 3#32
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let c512_i32_118 : BitVec 32 := 512#32
  let v153 : BitVec 32 := Scalar.muli v113 c512_i32_118
  let v154 : BitVec 32 := v153
  let v239 : Index := Scalar.indexCast v154
  let c0_170 : Index := 0#32
  ![3, v239.toNat, 0]
def k0_mult4 (i : grid0.Coords) (k0_t1 : Fin (k0_t1_loop i).trips) : BitVec 32 :=
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let c2_i32_175 : BitVec 32 := 2#32
  let v247 : BitVec 32 := Scalar.addi v113 c2_i32_175
  let c512_i32_176 : BitVec 32 := 512#32
  let v248 : BitVec 32 := Scalar.muli v247 c512_i32_176
  v248
def k0_mult5 (i : grid0.Coords) (k0_t1 : Fin (k0_t1_loop i).trips) : BitVec 32 :=
  let c2_i32_76 : BitVec 32 := 2#32
  let c0_i32_48 : BitVec 32 := 0#32
  let c1_i32_50 : BitVec 32 := 1#32
  let arg9 : BitVec 32 := Scf.iv c0_i32_48 c1_i32_50 k0_t1
  let v113 : BitVec 32 := Scalar.muli c2_i32_76 arg9
  let c1_i32_217 : BitVec 32 := 1#32
  let v286 : BitVec 32 := Scalar.addi v113 c1_i32_217
  let c512_i32_218 : BitVec 32 := 512#32
  let v287 : BitVec 32 := Scalar.muli v286 c512_i32_218
  v287
@[reducible] def k0_t2_loop (i : grid0.Coords) : Scf.Loop 32 :=
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let v63 : BitVec 32 := Scalar.addi c0_i32_48 v62
  let c1_i32_51 : BitVec 32 := 1#32
  ⟨v66, v63, c1_i32_51⟩
def k0_mult6 (i : grid0.Coords) (k0_t2 : Fin (k0_t2_loop i).trips) : BitVec 32 :=
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let c1_i32_77 : BitVec 32 := 1#32
  let v114 : BitVec 32 := Scalar.addi v113 c1_i32_77
  let c512_i32 : BitVec 32 := 512#32
  let v115 : BitVec 32 := Scalar.muli v114 c512_i32
  v115
def k0_off9 (i : grid0.Coords) (k0_t2 : Fin (k0_t2_loop i).trips) (c1_i32_77 : BitVec 32) : Fin 3 → Nat :=
  let c0_81 : Index := 0#32
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let v114 : BitVec 32 := Scalar.addi v113 c1_i32_77
  let c512_i32 : BitVec 32 := 512#32
  let v115 : BitVec 32 := Scalar.muli v114 c512_i32
  let v116 : BitVec 32 := v115
  let v119 : Index := Scalar.indexCast v116
  let c0_82 : Index := 0#32
  ![0, v119.toNat, 0]
def k0_off10 (i : grid0.Coords) (k0_t2 : Fin (k0_t2_loop i).trips) (c1_i32_77 : BitVec 32) : Fin 3 → Nat :=
  let c1_91 : Index := 1#32
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let v114 : BitVec 32 := Scalar.addi v113 c1_i32_77
  let c512_i32 : BitVec 32 := 512#32
  let v115 : BitVec 32 := Scalar.muli v114 c512_i32
  let v116 : BitVec 32 := v115
  let v128 : Index := Scalar.indexCast v116
  let c0_92 : Index := 0#32
  ![1, v128.toNat, 0]
def k0_off11 (i : grid0.Coords) (k0_t2 : Fin (k0_t2_loop i).trips) (c1_i32_77 : BitVec 32) : Fin 3 → Nat :=
  let c2_101 : Index := 2#32
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let v114 : BitVec 32 := Scalar.addi v113 c1_i32_77
  let c512_i32 : BitVec 32 := 512#32
  let v115 : BitVec 32 := Scalar.muli v114 c512_i32
  let v116 : BitVec 32 := v115
  let v137 : Index := Scalar.indexCast v116
  let c0_102 : Index := 0#32
  ![2, v137.toNat, 0]
def k0_off12 (i : grid0.Coords) (k0_t2 : Fin (k0_t2_loop i).trips) (c1_i32_77 : BitVec 32) : Fin 3 → Nat :=
  let c3_111 : Index := 3#32
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let v114 : BitVec 32 := Scalar.addi v113 c1_i32_77
  let c512_i32 : BitVec 32 := 512#32
  let v115 : BitVec 32 := Scalar.muli v114 c512_i32
  let v116 : BitVec 32 := v115
  let v146 : Index := Scalar.indexCast v116
  let c0_112 : Index := 0#32
  ![3, v146.toNat, 0]
def k0_mult7 (i : grid0.Coords) (k0_t2 : Fin (k0_t2_loop i).trips) : BitVec 32 :=
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let c512_i32_118 : BitVec 32 := 512#32
  let v153 : BitVec 32 := Scalar.muli v113 c512_i32_118
  v153
def k0_off13 (i : grid0.Coords) (k0_t2 : Fin (k0_t2_loop i).trips) : Fin 3 → Nat :=
  let c0_142 : Index := 0#32
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let c512_i32_118 : BitVec 32 := 512#32
  let v153 : BitVec 32 := Scalar.muli v113 c512_i32_118
  let v154 : BitVec 32 := v153
  let v203 : Index := Scalar.indexCast v154
  let c0_143 : Index := 0#32
  ![0, v203.toNat, 0]
def k0_off14 (i : grid0.Coords) (k0_t2 : Fin (k0_t2_loop i).trips) : Fin 3 → Nat :=
  let c1_151 : Index := 1#32
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let c512_i32_118 : BitVec 32 := 512#32
  let v153 : BitVec 32 := Scalar.muli v113 c512_i32_118
  let v154 : BitVec 32 := v153
  let v215 : Index := Scalar.indexCast v154
  let c0_152 : Index := 0#32
  ![1, v215.toNat, 0]
def k0_off15 (i : grid0.Coords) (k0_t2 : Fin (k0_t2_loop i).trips) : Fin 3 → Nat :=
  let c2_160 : Index := 2#32
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let c512_i32_118 : BitVec 32 := 512#32
  let v153 : BitVec 32 := Scalar.muli v113 c512_i32_118
  let v154 : BitVec 32 := v153
  let v227 : Index := Scalar.indexCast v154
  let c0_161 : Index := 0#32
  ![2, v227.toNat, 0]
def k0_off16 (i : grid0.Coords) (k0_t2 : Fin (k0_t2_loop i).trips) : Fin 3 → Nat :=
  let c3_169 : Index := 3#32
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let c512_i32_118 : BitVec 32 := 512#32
  let v153 : BitVec 32 := Scalar.muli v113 c512_i32_118
  let v154 : BitVec 32 := v153
  let v239 : Index := Scalar.indexCast v154
  let c0_170 : Index := 0#32
  ![3, v239.toNat, 0]
def k0_mult8 (i : grid0.Coords) (k0_t2 : Fin (k0_t2_loop i).trips) : BitVec 32 :=
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let c2_i32_175 : BitVec 32 := 2#32
  let v247 : BitVec 32 := Scalar.addi v113 c2_i32_175
  let c512_i32_176 : BitVec 32 := 512#32
  let v248 : BitVec 32 := Scalar.muli v247 c512_i32_176
  v248
def k0_mult9 (i : grid0.Coords) (k0_t2 : Fin (k0_t2_loop i).trips) : BitVec 32 :=
  let c2_i32_76 : BitVec 32 := 2#32
  let c0_i32_48 : BitVec 32 := 0#32
  let arg2 : BitVec 32 := BitVec.ofNat 32 (i 2).val
  let c0_i32_39 : BitVec 32 := 0#32
  let v42 : BitVec 1 := Scalar.cmpi .sgt arg2 c0_i32_39
  let v43 : BitVec 32 := Scalar.extui v42
  let c0_i32_40 : BitVec 32 := 0#32
  let v44 : BitVec 1 := Scalar.cmpi .slt arg2 c0_i32_40
  let v45 : BitVec 32 := Scalar.extui v44
  let v46 : BitVec 32 := Scalar.subi v43 v45
  let c2_i32 : BitVec 32 := 2#32
  let c0_i32_41 : BitVec 32 := 0#32
  let v47 : BitVec 1 := Scalar.cmpi .sgt c2_i32 c0_i32_41
  let v48 : BitVec 32 := Scalar.extui v47
  let c0_i32_42 : BitVec 32 := 0#32
  let v49 : BitVec 1 := Scalar.cmpi .slt c2_i32 c0_i32_42
  let v50 : BitVec 32 := Scalar.extui v49
  let v51 : BitVec 32 := Scalar.subi v48 v50
  let v52 : BitVec 1 := Scalar.cmpi .ne v46 v51
  let v53 : BitVec 32 := Scalar.remsi arg2 c2_i32
  let c0_i32_43 : BitVec 32 := 0#32
  let v54 : BitVec 1 := Scalar.cmpi .ne v53 c0_i32_43
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v62 : BitVec 32 := Scalar.subi v57 c0_i32_48
  let c1_i32_49 : BitVec 32 := 1#32
  let v64 : BitVec 32 := Scalar.divsi v62 c1_i32_49
  let v65 : BitVec 32 := Scalar.muli v64 c1_i32_49
  let v66 : BitVec 32 := Scalar.addi c0_i32_48 v65
  let c1_i32_51 : BitVec 32 := 1#32
  let arg9 : BitVec 32 := Scf.iv v66 c1_i32_51 k0_t2
  let v113 : BitVec 32 := Scalar.muli c2_i32_76 arg9
  let c1_i32_217 : BitVec 32 := 1#32
  let v286 : BitVec 32 := Scalar.addi v113 c1_i32_217
  let c512_i32_218 : BitVec 32 := 512#32
  let v287 : BitVec 32 := Scalar.muli v286 c512_i32_218
  v287
def k0_cond1 (i : grid0.Coords) : BitVec 1 :=
  let arg2 : BitVec 32 := BitVec.ofNat 32 (i 2).val
  let c2_i32_60 : BitVec 32 := 2#32
  let c0_i32_61 : BitVec 32 := 0#32
  let v87 : BitVec 1 := Scalar.cmpi .eq c2_i32_60 c0_i32_61
  let c1_i32_62 : BitVec 32 := 1#32
  let v88 : BitVec 32 := Scalar.select v87 c1_i32_62 c2_i32_60
  let v89 : BitVec 32 := Scalar.remsi arg2 v88
  let c0_i32_64 : BitVec 32 := 0#32
  let v91 : BitVec 1 := Scalar.cmpi .slt v89 c0_i32_64
  let c0_i32_65 : BitVec 32 := 0#32
  let v92 : BitVec 1 := Scalar.cmpi .slt v88 c0_i32_65
  let v93 : BitVec 1 := Scalar.xori v91 v92
  let c0_i32_63 : BitVec 32 := 0#32
  let v90 : BitVec 1 := Scalar.cmpi .ne v89 c0_i32_63
  let v94 : BitVec 1 := Scalar.andi v93 v90
  let v95 : BitVec 32 := Scalar.addi v89 v88
  let v96 : BitVec 32 := Scalar.select v94 v95 v89
  let c0_i32_66 : BitVec 32 := 0#32
  let v97 : BitVec 1 := Scalar.cmpi .eq v96 c0_i32_66
  let v98 : BitVec 32 := Scalar.extui v97
  let c0_i32_67 : BitVec 32 := 0#32
  let v99 : BitVec 1 := Scalar.cmpi .ne v98 c0_i32_67
  v99

def k0_mult10 (i : grid0.Coords) : BitVec 32 :=
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32 : BitVec 32 := 512#32
  let v113 : BitVec 32 := Scalar.muli v86 c512_i32
  v113
def k0_off17 (i : grid0.Coords) : Fin 3 → Nat :=
  let c0_103 : Index := 0#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32 : BitVec 32 := 512#32
  let v113 : BitVec 32 := Scalar.muli v86 c512_i32
  let v114 : BitVec 32 := v113
  let v183 : Index := Scalar.indexCast v114
  let c0_104 : Index := 0#32
  ![0, v183.toNat, 0]
def k0_off18 (i : grid0.Coords) : Fin 3 → Nat :=
  let c1_112 : Index := 1#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32 : BitVec 32 := 512#32
  let v113 : BitVec 32 := Scalar.muli v86 c512_i32
  let v114 : BitVec 32 := v113
  let v195 : Index := Scalar.indexCast v114
  let c0_113 : Index := 0#32
  ![1, v195.toNat, 0]
def k0_off19 (i : grid0.Coords) : Fin 3 → Nat :=
  let c2_121 : Index := 2#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32 : BitVec 32 := 512#32
  let v113 : BitVec 32 := Scalar.muli v86 c512_i32
  let v114 : BitVec 32 := v113
  let v207 : Index := Scalar.indexCast v114
  let c0_122 : Index := 0#32
  ![2, v207.toNat, 0]
def k0_off20 (i : grid0.Coords) : Fin 3 → Nat :=
  let c3_130 : Index := 3#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32 : BitVec 32 := 512#32
  let v113 : BitVec 32 := Scalar.muli v86 c512_i32
  let v114 : BitVec 32 := v113
  let v219 : Index := Scalar.indexCast v114
  let c0_131 : Index := 0#32
  ![3, v219.toNat, 0]
def k0_cond2 (i : grid0.Coords) : BitVec 1 :=
  let arg2 : BitVec 32 := BitVec.ofNat 32 (i 2).val
  let c2_i32_68 : BitVec 32 := 2#32
  let c0_i32_69 : BitVec 32 := 0#32
  let v100 : BitVec 1 := Scalar.cmpi .eq c2_i32_68 c0_i32_69
  let c1_i32_70 : BitVec 32 := 1#32
  let v101 : BitVec 32 := Scalar.select v100 c1_i32_70 c2_i32_68
  let v102 : BitVec 32 := Scalar.remsi arg2 v101
  let c0_i32_72 : BitVec 32 := 0#32
  let v104 : BitVec 1 := Scalar.cmpi .slt v102 c0_i32_72
  let c0_i32_73 : BitVec 32 := 0#32
  let v105 : BitVec 1 := Scalar.cmpi .slt v101 c0_i32_73
  let v106 : BitVec 1 := Scalar.xori v104 v105
  let c0_i32_71 : BitVec 32 := 0#32
  let v103 : BitVec 1 := Scalar.cmpi .ne v102 c0_i32_71
  let v107 : BitVec 1 := Scalar.andi v106 v103
  let v108 : BitVec 32 := Scalar.addi v102 v101
  let v109 : BitVec 32 := Scalar.select v107 v108 v102
  let c1_i32_74 : BitVec 32 := 1#32
  let v110 : BitVec 1 := Scalar.cmpi .eq v109 c1_i32_74
  let v111 : BitVec 32 := Scalar.extui v110
  let c0_i32_75 : BitVec 32 := 0#32
  let v112 : BitVec 1 := Scalar.cmpi .ne v111 c0_i32_75
  v112

def k0_mult11 (i : grid0.Coords) : BitVec 32 :=
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c1_i32_76 : BitVec 32 := 1#32
  let v113 : BitVec 32 := Scalar.addi v86 c1_i32_76
  let c512_i32 : BitVec 32 := 512#32
  let v114 : BitVec 32 := Scalar.muli v113 c512_i32
  v114
def k0_off21 (i : grid0.Coords) : Fin 3 → Nat :=
  let c0_80 : Index := 0#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c1_i32_76 : BitVec 32 := 1#32
  let v113 : BitVec 32 := Scalar.addi v86 c1_i32_76
  let c512_i32 : BitVec 32 := 512#32
  let v114 : BitVec 32 := Scalar.muli v113 c512_i32
  let v115 : BitVec 32 := v114
  let v118 : Index := Scalar.indexCast v115
  let c0_81 : Index := 0#32
  ![0, v118.toNat, 0]
def k0_off22 (i : grid0.Coords) : Fin 3 → Nat :=
  let c1_90 : Index := 1#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c1_i32_76 : BitVec 32 := 1#32
  let v113 : BitVec 32 := Scalar.addi v86 c1_i32_76
  let c512_i32 : BitVec 32 := 512#32
  let v114 : BitVec 32 := Scalar.muli v113 c512_i32
  let v115 : BitVec 32 := v114
  let v127 : Index := Scalar.indexCast v115
  let c0_91 : Index := 0#32
  ![1, v127.toNat, 0]
def k0_off23 (i : grid0.Coords) : Fin 3 → Nat :=
  let c2_100 : Index := 2#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c1_i32_76 : BitVec 32 := 1#32
  let v113 : BitVec 32 := Scalar.addi v86 c1_i32_76
  let c512_i32 : BitVec 32 := 512#32
  let v114 : BitVec 32 := Scalar.muli v113 c512_i32
  let v115 : BitVec 32 := v114
  let v136 : Index := Scalar.indexCast v115
  let c0_101 : Index := 0#32
  ![2, v136.toNat, 0]
def k0_off24 (i : grid0.Coords) : Fin 3 → Nat :=
  let c3_110 : Index := 3#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c1_i32_76 : BitVec 32 := 1#32
  let v113 : BitVec 32 := Scalar.addi v86 c1_i32_76
  let c512_i32 : BitVec 32 := 512#32
  let v114 : BitVec 32 := Scalar.muli v113 c512_i32
  let v115 : BitVec 32 := v114
  let v145 : Index := Scalar.indexCast v115
  let c0_111 : Index := 0#32
  ![3, v145.toNat, 0]
def k0_mult12 (i : grid0.Coords) : BitVec 32 :=
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32_118 : BitVec 32 := 512#32
  let v153 : BitVec 32 := Scalar.muli v86 c512_i32_118
  v153
def k0_off25 (i : grid0.Coords) : Fin 3 → Nat :=
  let c0_142 : Index := 0#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32_118 : BitVec 32 := 512#32
  let v153 : BitVec 32 := Scalar.muli v86 c512_i32_118
  let v154 : BitVec 32 := v153
  let v203 : Index := Scalar.indexCast v154
  let c0_143 : Index := 0#32
  ![0, v203.toNat, 0]
def k0_off26 (i : grid0.Coords) : Fin 3 → Nat :=
  let c1_151 : Index := 1#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32_118 : BitVec 32 := 512#32
  let v153 : BitVec 32 := Scalar.muli v86 c512_i32_118
  let v154 : BitVec 32 := v153
  let v215 : Index := Scalar.indexCast v154
  let c0_152 : Index := 0#32
  ![1, v215.toNat, 0]
def k0_off27 (i : grid0.Coords) : Fin 3 → Nat :=
  let c2_160 : Index := 2#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32_118 : BitVec 32 := 512#32
  let v153 : BitVec 32 := Scalar.muli v86 c512_i32_118
  let v154 : BitVec 32 := v153
  let v227 : Index := Scalar.indexCast v154
  let c0_161 : Index := 0#32
  ![2, v227.toNat, 0]
def k0_off28 (i : grid0.Coords) : Fin 3 → Nat :=
  let c3_169 : Index := 3#32
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c512_i32_118 : BitVec 32 := 512#32
  let v153 : BitVec 32 := Scalar.muli v86 c512_i32_118
  let v154 : BitVec 32 := v153
  let v239 : Index := Scalar.indexCast v154
  let c0_170 : Index := 0#32
  ![3, v239.toNat, 0]
def k0_mult13 (i : grid0.Coords) : BitVec 32 :=
  let c2_i32_59 : BitVec 32 := 2#32
  let arg2 : BitVec 32 := BitVec.ofNat 32 (i 2).val
  let c0_i32_53 : BitVec 32 := 0#32
  let v70 : BitVec 1 := Scalar.cmpi .sgt arg2 c0_i32_53
  let v71 : BitVec 32 := Scalar.extui v70
  let c0_i32_54 : BitVec 32 := 0#32
  let v72 : BitVec 1 := Scalar.cmpi .slt arg2 c0_i32_54
  let v73 : BitVec 32 := Scalar.extui v72
  let v74 : BitVec 32 := Scalar.subi v71 v73
  let c2_i32_52 : BitVec 32 := 2#32
  let c0_i32_55 : BitVec 32 := 0#32
  let v75 : BitVec 1 := Scalar.cmpi .sgt c2_i32_52 c0_i32_55
  let v76 : BitVec 32 := Scalar.extui v75
  let c0_i32_56 : BitVec 32 := 0#32
  let v77 : BitVec 1 := Scalar.cmpi .slt c2_i32_52 c0_i32_56
  let v78 : BitVec 32 := Scalar.extui v77
  let v79 : BitVec 32 := Scalar.subi v76 v78
  let v80 : BitVec 1 := Scalar.cmpi .ne v74 v79
  let v81 : BitVec 32 := Scalar.remsi arg2 c2_i32_52
  let c0_i32_57 : BitVec 32 := 0#32
  let v82 : BitVec 1 := Scalar.cmpi .ne v81 c0_i32_57
  let v83 : BitVec 1 := Scalar.andi v80 v82
  let v69 : BitVec 32 := Scalar.divsi arg2 c2_i32_52
  let c1_i32_58 : BitVec 32 := 1#32
  let v84 : BitVec 32 := Scalar.subi v69 c1_i32_58
  let v85 : BitVec 32 := Scalar.select v83 v84 v69
  let v86 : BitVec 32 := Scalar.muli c2_i32_59 v85
  let c1_i32_117 : BitVec 32 := 1#32
  let v152 : BitVec 32 := Scalar.addi v86 c1_i32_117
  let c512_i32_175 : BitVec 32 := 512#32
  let v247 : BitVec 32 := Scalar.muli v152 c512_i32_175
  v247
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x8x192 : Shape := ⟨4, ![4, 4096, 8, 192]⟩
abbrev S4x4096x8x128 : Shape := ⟨4, ![4, 4096, 8, 128]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S4x8x4096x4096, .f32⟩
  | .hbm, ⟨4, _⟩ => ⟨S_, .f32⟩
  | .hbm, ⟨5, _⟩ => ⟨S4x8x4096x4096, .f32⟩
  | .hbm, ⟨6, _⟩ => ⟨S4x8x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S4x8x4096x4096, .i1⟩
  | .hbm, ⟨16, _⟩ => ⟨S4x8x4096x4096, .f32⟩
  | .hbm, ⟨17, _⟩ => ⟨S4x8x4096x4096, .f32⟩
  | .hbm, ⟨18, _⟩ => ⟨S_, .f32⟩
  | .hbm, ⟨19, _⟩ => ⟨S4x8x4096, .f32⟩
  | .hbm, ⟨20, _⟩ => ⟨S_, .f32⟩
  | .hbm, ⟨21, _⟩ => ⟨S4x8x4096, .f32⟩
  | .hbm, ⟨22, _⟩ => ⟨S4x8x4096, .f32⟩
  | .hbm, ⟨23, _⟩ => ⟨S4x8x4096x1, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S_, .f32⟩
  | .hbm, ⟨28, _⟩ => ⟨S4x8x4096, .f32⟩
  | .hbm, ⟨29, _⟩ => ⟨S4x8x4096x1, .f32⟩
  | .hbm, ⟨30, _⟩ => ⟨S4x8x4096x4096, .f32⟩
  | .hbm, ⟨31, _⟩ => ⟨S4x8x4096x4096, .f32⟩
  | .hbm, ⟨32, _⟩ => ⟨S4x8x128x4096, .f32⟩
  | .hbm, ⟨33, _⟩ => ⟨S4x4096x8x128, .f32⟩
  | .hbm, ⟨34, _⟩ => ⟨S16384x1024, .f32⟩
  | .hbm, ⟨35, _⟩ => ⟨S16384x1024, .bf16⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== FeedForward.lean ====
abbrev S4x4096x2048 : Shape := ⟨3, ![4, 4096, 2048]⟩
abbrev S2048 : Shape := ⟨1, ![2048]⟩
abbrev S2048x5632 : Shape := ⟨2, ![2048, 5632]⟩
abbrev S5632x2048 : Shape := ⟨2, ![5632, 2048]⟩
abbrev S16384x2048 : Shape := ⟨2, ![16384, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FeedForwardReferenceIdeal.lean ====
abbrev S4x4096x2048 : Shape := ⟨3, ![4, 4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩
abbrev S16384x2048 : Shape := ⟨2, ![16384, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x5632, .f32⟩
  | .hbm, ⟨22, _⟩ => ⟨S4x4096x5632, .f32⟩
  | .hbm, ⟨23, _⟩ => ⟨S4x4096x5632, .f32⟩
  | .hbm, ⟨24, _⟩ => ⟨S_, .f32⟩
  | .hbm, ⟨25, _⟩ => ⟨S4x4096x5632, .f32⟩
  | .hbm, ⟨26, _⟩ => ⟨S4x4096x5632, .f32⟩
  | .hbm, ⟨27, _⟩ => ⟨S_, .f32⟩
  | .hbm, ⟨28, _⟩ => ⟨S4x4096x5632, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S4x4096x5632, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x6144 : Shape := ⟨3, ![4, 4096, 6144]⟩
abbrev S6144 : Shape := ⟨1, ![6144]⟩
abbrev S4x4096x2048 : Shape := ⟨3, ![4, 4096, 2048]⟩
abbrev S1024x2048 : Shape := ⟨2, ![1024, 2048]⟩
abbrev S2048x2048 : Shape := ⟨2, ![2048, 2048]⟩
abbrev S16384x6144 : Shape := ⟨2, ![16384, 6144]⟩
abbrev S_ : Shape := ⟨0, ![]⟩
abbrev S16384x14336 : Shape := ⟨2, ![16384, 14336]⟩
abbrev S16384x1024 : Shape := ⟨2, ![16384, 1024]⟩
abbrev S1x6144 : Shape := ⟨2, ![1, 6144]⟩
abbrev S16384x2048 : Shape := ⟨2, ![16384, 2048]⟩
abbrev S256x1024 : Shape := ⟨2, ![256, 1024]⟩
abbrev S256x2048 : Shape := ⟨2, ![256, 2048]⟩
abbrev S1x2048 : Shape := ⟨2, ![1, 2048]⟩

abbrev nBuf : Space → Nat
  | .hbm => 28
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x6144, .f32⟩
  | .hbm, ⟨4, _⟩ => ⟨S6144, .f32⟩
  | .hbm, ⟨5, _⟩ => ⟨S4x4096x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S16384x6144, .f32⟩
  | .hbm, ⟨11, _⟩ => ⟨S16384x6144, .bf16⟩
  | .hbm, ⟨12, _⟩ => ⟨S_, .i32⟩
  | .hbm, ⟨13, _⟩ => ⟨S_, .bf16⟩
  | .hbm, ⟨14, _⟩ => ⟨S16384x14336, .bf16⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S16384x1024, .bf16⟩
  | .hbm, ⟨21, _⟩ => ⟨S1x6144, .f32⟩
  | .hbm, ⟨22, _⟩ => ⟨S16384x2048, .f32⟩
  | .hbm, ⟨23, _⟩ => ⟨S1024x2048, .bf16⟩
  | .hbm, ⟨24, _⟩ => ⟨S1024x2048, .bf16⟩
  | .hbm, ⟨25, _⟩ => ⟨S1024x2048, .bf16⟩
  | .hbm, ⟨26, _⟩ => ⟨S2048x2048, .bf16⟩
  | .hbm, ⟨27, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S1x6144, .f32⟩
  | .local _ .vmem, ⟨13, _⟩ => ⟨S256x2048, .f32⟩
  | .local _ .vmem, ⟨14, _⟩ => ⟨S256x2048, .f32⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S256x2048, .f32⟩
  | .local _ .vmem, ⟨20, _⟩ => ⟨S256x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S4x4096x1024 : Shape := ⟨3, ![4, 4096, 1024]⟩
abbrev S4x4096x6144 : Shape := ⟨3, ![4, 4096, 6144]⟩
abbrev S6144 : Shape := ⟨1, ![6144]⟩
abbrev S4x4096x2048 : Shape := ⟨3, ![4, 4096, 2048]⟩
abbrev S1024x2048 : Shape := ⟨2, ![1024, 2048]⟩
abbrev S2048x2048 : Shape := ⟨2, ![2048, 2048]⟩
abbrev S1x1x6144 : Shape := ⟨3, ![1, 1, 6144]⟩
abbrev S_ : Shape := ⟨0, ![]⟩
abbrev S4x4096x3x2048 : Shape := ⟨4, ![4, 4096, 3, 2048]⟩
abbrev S4x4096x1x2048 : Shape := ⟨4, ![4, 4096, 1, 2048]⟩
abbrev S16384x2048 : Shape := ⟨2, ![16384, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x6144, .f32⟩
  | .hbm, ⟨4, _⟩ => ⟨S6144, .f32⟩
  | .hbm, ⟨5, _⟩ => ⟨S4x4096x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S1x1x6144, .f32⟩
  | .hbm, ⟨11, _⟩ => ⟨S4x4096x6144, .f32⟩
  | .hbm, ⟨12, _⟩ => ⟨S4x4096x6144, .f32⟩
  | .hbm, ⟨13, _⟩ => ⟨S4x4096x6144, .f32⟩
  | .hbm, ⟨14, _⟩ => ⟨S4x4096x6144, .f32⟩
  | .hbm, ⟨15, _⟩ => ⟨S_, .f32⟩
  | .hbm, ⟨16, _⟩ => ⟨S4x4096x6144, .f32⟩
  | .hbm, ⟨17, _⟩ => ⟨S4x4096x6144, .f32⟩
  | .hbm, ⟨18, _⟩ => ⟨S_, .f32⟩
  | .hbm, ⟨19, _⟩ => ⟨S4x4096x6144, .f32⟩
  | .hbm, ⟨20, _⟩ => ⟨S4x4096x6144, .f32⟩
  | .hbm, ⟨21, _⟩ => ⟨S4x4096x3x2048, .f32⟩
  | .hbm, ⟨22, _⟩ => ⟨S4x4096x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x1x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S16384x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Projection.lean ====
abbrev S4x4096x2048 : Shape := ⟨3, ![4, 4096, 2048]⟩
abbrev S2048 : Shape := ⟨1, ![2048]⟩
abbrev S2048x14160 : Shape := ⟨2, ![2048, 14160]⟩
abbrev S2x1024x2048 : Shape := ⟨3, ![2, 1024, 2048]⟩
abbrev S2x2048x2048 : Shape := ⟨3, ![2, 2048, 2048]⟩
abbrev S2x2048x5632 : Shape := ⟨3, ![2, 2048, 5632]⟩
abbrev S2x5632x2048 : Shape := ⟨3, ![2, 5632, 2048]⟩
abbrev S2048x6144 : Shape := ⟨2, ![2048, 6144]⟩
abbrev S2048x1024 : Shape := ⟨2, ![2048, 1024]⟩
abbrev S2048x1536 : Shape := ⟨2, ![2048, 1536]⟩
abbrev S2048x64 : Shape := ⟨2, ![2048, 64]⟩
abbrev S_ : Shape := ⟨0, ![]⟩
abbrev S2048x192 : Shape := ⟨2, ![2048, 192]⟩
abbrev S2048x768 : Shape := ⟨2, ![2048, 768]⟩
abbrev S2048x512 : Shape := ⟨2, ![2048, 512]⟩
abbrev S2048x16 : Shape := ⟨2, ![2048, 16]⟩
abbrev S2048x112 : Shape := ⟨2, ![2048, 112]⟩
abbrev S2048x14464 : Shape := ⟨2, ![2048, 14464]⟩
abbrev S16384x2048 : Shape := ⟨2, ![16384, 2048]⟩
abbrev S1x2048 : Shape := ⟨2, ![1, 2048]⟩
abbrev S16384x14336 : Shape := ⟨2, ![16384, 14336]⟩
abbrev S16384x128 : Shape := ⟨2, ![16384, 128]⟩
abbrev S1024x2048 : Shape := ⟨2, ![1024, 2048]⟩
abbrev S2048x2048 : Shape := ⟨2, ![2048, 2048]⟩
abbrev S2048x5632 : Shape := ⟨2, ![2048, 5632]⟩
abbrev S5632x2048 : Shape := ⟨2, ![5632, 2048]⟩
abbrev S2048x128 : Shape := ⟨2, ![2048, 128]⟩
abbrev S1x16x2048 : Shape := ⟨3, ![1, 16, 2048]⟩
abbrev S1x32x2048 : Shape := ⟨3, ![1, 32, 2048]⟩
abbrev S1x32x5632 : Shape := ⟨3, ![1, 32, 5632]⟩
abbrev S1x64x2048 : Shape := ⟨3, ![1, 64, 2048]⟩
abbrev S1024x128 : Shape := ⟨2, ![1024, 128]⟩
abbrev S16x2048 : Shape := ⟨2, ![16, 2048]⟩
abbrev S32x2048 : Shape := ⟨2, ![32, 2048]⟩
abbrev S32x5632 : Shape := ⟨2, ![32, 5632]⟩
abbrev S64x2048 : Shape := ⟨2, ![64, 2048]⟩
abbrev S1024 : Shape := ⟨1, ![1024]⟩
abbrev S1024x1 : Shape := ⟨2, ![1024, 1]⟩

abbrev nBuf : Space → Nat
  | .hbm => 38
  | .vmem => 39
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x14160, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048x5632, .f32⟩
  | .hbm, ⟨8, _⟩ => ⟨S2x2048x5632, .f32⟩
  | .hbm, ⟨9, _⟩ => ⟨S2x5632x2048, .f32⟩
  | .hbm, ⟨10, _⟩ => ⟨S2048x14160, .bf16⟩
  | .hbm, ⟨11, _⟩ => ⟨S2048x6144, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x1536, .bf16⟩
  | .hbm, ⟨18, _⟩ => ⟨S2048x64, .bf16⟩
  | .hbm, ⟨19, _⟩ => ⟨S_, .bf16⟩
  | .hbm, ⟨20, _⟩ => ⟨S2048x192, .bf16⟩
  | .hbm, ⟨21, _⟩ => ⟨S2048x768, .bf16⟩
  | .hbm, ⟨22, _⟩ => ⟨S2048x512, .bf16⟩
  | .hbm, ⟨23, _⟩ => ⟨S2048x16, .bf16⟩
  | .hbm, ⟨24, _⟩ => ⟨S_, .bf16⟩
  | .hbm, ⟨25, _⟩ => ⟨S2048x112, .bf16⟩
  | .hbm, ⟨26, _⟩ => ⟨S2048x14464, .bf16⟩
  | .hbm, ⟨27, _⟩ => ⟨S16384x2048, .f32⟩
  | .hbm, ⟨28, _⟩ => ⟨S1x2048, .f32⟩
  | .hbm, ⟨29, _⟩ => ⟨S16384x14336, .bf16⟩
  | .hbm, ⟨30, _⟩ => ⟨S16384x128, .f32⟩
  | .hbm, ⟨31, _⟩ => ⟨S1024x2048, .bf16⟩
  | .hbm, ⟨32, _⟩ => ⟨S1024x2048, .bf16⟩
  | .hbm, ⟨33, _⟩ => ⟨S1024x2048, .bf16⟩
  | .hbm, ⟨34, _⟩ => ⟨S2048x2048, .bf16⟩
  | .hbm, ⟨35, _⟩ => ⟨S2048x5632, .bf16⟩
  | .hbm, ⟨36, _⟩ => ⟨S2048x5632, .bf16⟩
  | .hbm, ⟨37, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x128, .bf16⟩
  | .local _ .vmem, ⟨6, _⟩ => ⟨S1x16x2048, .f32⟩
  | .local _ .vmem, ⟨7, _⟩ => ⟨S1x16x2048, .f32⟩
  | .local _ .vmem, ⟨8, _⟩ => ⟨S1x16x2048, .f32⟩
  | .local _ .vmem, ⟨9, _⟩ => ⟨S1x16x2048, .f32⟩
  | .local _ .vmem, ⟨10, _⟩ => ⟨S1x16x2048, .f32⟩
  | .local _ .vmem, ⟨11, _⟩ => ⟨S1x16x2048, .f32⟩
  | .local _ .vmem, ⟨12, _⟩ => ⟨S1x32x2048, .f32⟩
  | .local _ .vmem, ⟨13, _⟩ => ⟨S1x32x2048, .f32⟩
  | .local _ .vmem, ⟨14, _⟩ => ⟨S1x32x5632, .f32⟩
  | .local _ .vmem, ⟨15, _⟩ => ⟨S1x32x5632, .f32⟩
  | .local _ .vmem, ⟨16, _⟩ => ⟨S1x32x5632, .f32⟩
  | .local _ .vmem, ⟨17, _⟩ => ⟨S1x32x5632, .f32⟩
  | .local _ .vmem, ⟨18, _⟩ => ⟨S1x64x2048, .f32⟩
  | .local _ .vmem, ⟨19, _⟩ => ⟨S1x64x2048, .f32⟩
  | .local _ .vmem, ⟨20, _⟩ => ⟨S1024x2048, .bf16⟩
  | .local _ .vmem, ⟨21, _⟩ => ⟨S1024x2048, .bf16⟩
  | .local _ .vmem, ⟨22, _⟩ => ⟨S1024x128, .f32⟩
  | .local _ .vmem, ⟨23, _⟩ => ⟨S1024x128, .f32⟩
  | .local _ .vmem, ⟨24, _⟩ => ⟨S16x2048, .bf16⟩
  | .local _ .vmem, ⟨25, _⟩ => ⟨S16x2048, .bf16⟩
  | .local _ .vmem, ⟨26, _⟩ => ⟨S16x2048, .bf16⟩
  | .local _ .vmem, ⟨27, _⟩ => ⟨S16x2048, .bf16⟩
  | .local _ .vmem, ⟨28, _⟩ => ⟨S16x2048, .bf16⟩
  | .local _ .vmem, ⟨29, _⟩ => ⟨S16x2048, .bf16⟩
  | .local _ .vmem, ⟨30, _⟩ => ⟨S32x2048, .bf16⟩
  | .local _ .vmem, ⟨31, _⟩ => ⟨S32x2048, .bf16⟩
  | .local _ .vmem, ⟨32, _⟩ => ⟨S32x5632, .bf16⟩
  | .local _ .vmem, ⟨33, _⟩ => ⟨S32x5632, .bf16⟩
  | .local _ .vmem, ⟨34, _⟩ => ⟨S32x5632, .bf16⟩
  | .local _ .vmem, ⟨35, _⟩ => ⟨S32x5632, .bf16⟩
  | .local _ .vmem, ⟨36, _⟩ => ⟨S64x2048, .bf16⟩
  | .local _ .vmem, ⟨37, _⟩ => ⟨S64x2048, .bf16⟩
  | .local _ .vmem, ⟨38, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v17_4 : Ref sig .tc := ⟨.hbm, 33, rfl⟩
abbrev main_v17_5 : Ref sig .tc := ⟨.hbm, 34, rfl⟩
abbrev main_v17_6 : Ref sig .tc := ⟨.hbm, 35, rfl⟩
abbrev main_v17_7 : Ref sig .tc := ⟨.hbm, 36, rfl⟩
abbrev main_v17_8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c112_i32 : BitVec 32 := 112#32
  let c0_i32_0 : BitVec 32 := 0#32
  ![c0_i32.toNat, c112_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  let c0_i32_1 : BitVec 32 := 0#32
  ![c0_i32.toNat, v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S32x5632 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ProjectionReferenceIdeal.lean ====
abbrev S4x4096x2048 : Shape := ⟨3, ![4, 4096, 2048]⟩
abbrev S2048 : Shape := ⟨1, ![2048]⟩
abbrev S2048x14160 : Shape := ⟨2, ![2048, 14160]⟩
abbrev S2x1024x2048 : Shape := ⟨3, ![2, 1024, 2048]⟩
abbrev S2x2048x2048 : Shape := ⟨3, ![2, 2048, 2048]⟩
abbrev S2x2048x5632 : Shape := ⟨3, ![2, 2048, 5632]⟩
abbrev S2x5632x2048 : Shape := ⟨3, ![2, 5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x14160 : Shape := ⟨3, ![4, 4096, 14160]⟩
abbrev S4x4096x1024 : Shape := ⟨3, ![4, 4096, 1024]⟩
abbrev S4x4096x1536 : Shape := ⟨3, ![4, 4096, 1536]⟩
abbrev S4x4096x16 : Shape := ⟨3, ![4, 4096, 16]⟩
abbrev S4x4096x768 : Shape := ⟨3, ![4, 4096, 768]⟩
abbrev S4x4096x576 : Shape := ⟨3, ![4, 4096, 576]⟩
abbrev S4x4096x6144 : Shape := ⟨3, ![4, 4096, 6144]⟩
abbrev S4x4096x512 : Shape := ⟨3, ![4, 4096, 512]⟩
abbrev S4x4096x64 : Shape := ⟨3, ![4, 4096, 64]⟩
abbrev S4x4096x192 : Shape := ⟨3, ![4, 4096, 192]⟩
abbrev S4x4096x14336 : Shape := ⟨3, ![4, 4096, 14336]⟩
abbrev S4x4096x112 : Shape := ⟨3, ![4, 4096, 112]⟩
abbrev S4x4096x128 : Shape := ⟨3, ![4, 4096, 128]⟩
abbrev S16384x14336 : Shape := ⟨2, ![16384, 14336]⟩
abbrev S16384x128 : Shape := ⟨2, ![16384, 128]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x14160, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048x5632, .f32⟩
  | .hbm, ⟨8, _⟩ => ⟨S2x2048x5632, .f32⟩
  | .hbm, ⟨9, _⟩ => ⟨S2x5632x2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S4x4096x14160, .f32⟩
  | .hbm, ⟨27, _⟩ => ⟨S4x4096x1024, .f32⟩
  | .hbm, ⟨28, _⟩ => ⟨S4x4096x1536, .f32⟩
  | .hbm, ⟨29, _⟩ => ⟨S4x4096x16, .f32⟩
  | .hbm, ⟨30, _⟩ => ⟨S4x4096x768, .f32⟩
  | .hbm, ⟨31, _⟩ => ⟨S4x4096x576, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x6144, .f32⟩
  | .hbm, ⟨37, _⟩ => ⟨S4x4096x512, .f32⟩
  | .hbm, ⟨38, _⟩ => ⟨S4x4096x64, .f32⟩
  | .hbm, ⟨39, _⟩ => ⟨S_, .f32⟩
  | .hbm, ⟨40, _⟩ => ⟨S4x4096x192, .f32⟩
  | .hbm, ⟨41, _⟩ => ⟨S4x4096x14336, .f32⟩
  | .hbm, ⟨42, _⟩ => ⟨S_, .f32⟩
  | .hbm, ⟨43, _⟩ => ⟨S4x4096x112, .f32⟩
  | .hbm, ⟨44, _⟩ => ⟨S4x4096x128, .f32⟩
  | .hbm, ⟨45, _⟩ => ⟨S16384x14336, .f32⟩
  | .hbm, ⟨46, _⟩ => ⟨S16384x14336, .bf16⟩
  | .hbm, ⟨47, _⟩ => ⟨S16384x128, .f32⟩
  | .hbm, ⟨48, _⟩ => ⟨S1x1024x2048, .f32⟩
  | .hbm, ⟨49, _⟩ => ⟨S1024x2048, .f32⟩
  | .hbm, ⟨50, _⟩ => ⟨S1024x2048, .bf16⟩
  | .hbm, ⟨51, _⟩ => ⟨S1x1024x2048, .f32⟩
  | .hbm, ⟨52, _⟩ => ⟨S1024x2048, .f32⟩
  | .hbm, ⟨53, _⟩ => ⟨S1024x2048, .bf16⟩
  | .hbm, ⟨54, _⟩ => ⟨S1x1024x2048, .f32⟩
  | .hbm, ⟨55, _⟩ => ⟨S1024x2048, .f32⟩
  | .hbm, ⟨56, _⟩ => ⟨S1024x2048, .bf16⟩
  | .hbm, ⟨57, _⟩ => ⟨S1x2048x2048, .f32⟩
  | .hbm, ⟨58, _⟩ => ⟨S2048x2048, .f32⟩
  | .hbm, ⟨59, _⟩ => ⟨S2048x2048, .bf16⟩
  | .hbm, ⟨60, _⟩ => ⟨S1x2048x5632, .f32⟩
  | .hbm, ⟨61, _⟩ => ⟨S2048x5632, .f32⟩
  | .hbm, ⟨62, _⟩ => ⟨S2048x5632, .bf16⟩
  | .hbm, ⟨63, _⟩ => ⟨S1x2048x5632, .f32⟩
  | .hbm, ⟨64, _⟩ => ⟨S2048x5632, .f32⟩
  | .hbm, ⟨65, _⟩ => ⟨S2048x5632, .bf16⟩
  | .hbm, ⟨66, _⟩ => ⟨S1x5632x2048, .f32⟩
  | .hbm, ⟨67, _⟩ => ⟨S5632x2048, .f32⟩
  | .hbm, ⟨68, _⟩ => ⟨S5632x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Proof.State.lean ====
module

public import proofs.«01_k».proof.Proof.Gen.KernelIdeal.Loops
public import Idealize.ShloMosaic.Lib.Pipeline.FrameBody
public import Idealize.ShloMosaic.Lib.WritesUnit

@[expose] public section

/-! The state the attention kernel keeps, as functions of the three blocks it reads: the scores of one key block, the
    running row maximum and the running weighted sums of the values, by the number of key blocks taken in. -/

set_option maxRecDepth 16384

noncomputable section

namespace Cert.KernelIdeal.Att

open Idealize.ShloMosaic Idealize.ShloMosaic.TcCoe
open Cert.KernelIdeal Cert.KernelIdeal.Gen

section Reads

variable {sig : RefSig} {κ : Kind} {sp : Space} {s : Shape} {e : EltTy} {Val : EltTy → Type}

/-- A load through the newest piece's rectangle reads its payload. -/
theorem rd_hit (v : View sig κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

theorem sep_disjoint {off size off' size' : Fin s.rank → ℕ} {inb : ∀ a, off a + size a ≤ s.size a}
    {inb' : ∀ a, off' a + size' a ≤ s.size a} (h : ∃ a, off' a + size' a ≤ off a ∨ off a + size a ≤ off' a)
    (y : s.Idx) (hy : y ∈ (Rect.unit off size inb).set) : y ∉ (Rect.unit off' size' inb').set := by
  obtain ⟨a, ha⟩ := h
  intro h'
  rw [Rect.mem_set_unit] at hy h'
  have h1 := hy a
  have h2 := h' a
  omega

/-- A load through a box separated from the newest piece's on some axis reads what the earlier pieces left. -/
theorem rd_skip (v : View sig κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e))
    (h : ∃ a, off' a + size' a ≤ off a ∨ off a + size a ≤ off' a) :
    v.readAt Val (Rect.unit off size inb).toLoadRect (v.writes Val f (⟨Rect.unit off' size' inb', w⟩ :: L))
      = v.readAt Val (Rect.unit off size inb).toLoadRect (v.writes Val f L) := by
  funext x
  rw [View.readAt_apply, View.readAt_apply, View.writes_cons]
  refine View.read_slice_write_of_not_mem _ _ _ _ ?_
  rw [Rect.map_emb_univ]
  exact sep_disjoint (inb' := inb') h _ ((Rect.unit off size inb).toLoadRect.idx_mem x)

theorem rc_skip [∀ e, Nonempty (Val e)] (v : View sig κ sp s e) {off size off' size' : Fin s.rank → ℕ}
    (inb : ∀ a, off a + size a ≤ s.size a) (inb' : ∀ a, off' a + size' a ≤ s.size a)
    (w : (Rect.unit off' size' inb').shape.Idx → Val e) (L : List (View.Piece Val s e))
    (h : ∃ a, off' a + size' a ≤ off a ∨ off a + size a ≤ off' a) :
    v.readCov (⟨Rect.unit off' size' inb', w⟩ :: L) (Rect.unit off size inb).toLoadRect
      = v.readCov L (Rect.unit off size inb).toLoadRect := by
  refine View.readCov_cons_of_disjoint v _ L _ (Finset.disjoint_right.mpr fun y hy => ?_)
  exact sep_disjoint (inb := inb) (inb' := inb') h y hy

end Reads

variable {F : FTy → Type} [FloatOps F]

theorem qslab_inb (a : ℕ) : ∀ x, (![min a 3, 0, 0] : Fin 3 → ℕ) x + S1x512x256.size x ≤ S4x512x256.size x := by
  intro x
  match x with
  | 0 => show min a 3 + 1 ≤ 4; omega
  | 1 => show 0 + 512 ≤ 512; omega
  | 2 => show 0 + 256 ≤ 256; omega

theorem kslab_inb (a n : ℕ) : ∀ x, (![min a 3, min n 3584, 0] : Fin 3 → ℕ) x + S1x512x256.size x ≤ S4x4096x256.size x := by
  intro x
  match x with
  | 0 => show min a 3 + 1 ≤ 4; omega
  | 1 => show min n 3584 + 512 ≤ 4096; omega
  | 2 => show 0 + 256 ≤ 256; omega

/-- Head `a`'s slab of a block of four heads. -/
abbrev qslab {e : EltTy} (Q : Vec F S4x512x256 e) (a : ℕ) : Vec F S1x512x256 e :=
  View.ld Q (Rect.unit (s := S4x512x256) ![min a 3, 0, 0] S1x512x256.size (qslab_inb a))

/-- Head `a`'s 512 rows from row `n` on of a block of four heads' whole sequence. -/
abbrev kslab (K : Vec F S4x4096x256 .bf16) (a n : ℕ) : Vec F S1x512x256 .bf16 :=
  View.ld K (Rect.unit (s := S4x4096x256) ![min a 3, min n 3584, 0] S1x512x256.size (kslab_inb a n))

/-- The scores of head `h`'s query rows against key block `j`. -/
def Sc (Q : Vec F S4x512x256 .bf16) (K : Vec F S4x4096x256 .bf16) (j h : ℕ) : Vec F S1x1x512x512 .f32 :=
  k0_pay5 (qslab Q h) (kslab K h (512 * j))

/-- The row maximum before key block `j`. -/
def Mx (Q : Vec F S4x512x256 .bf16) (K : Vec F S4x4096x256 .bf16) : ℕ → ℕ → FVec F S512x1 .f32
  | 0, _ => k0_pay194
  | j + 1, h => k0_pay11 (Mx Q K j h) (Sc Q K j h)

/-- The weighted sums of the values (and of the ones beside them) before key block `j`. -/
def Ac (Q : Vec F S4x512x256 .bf16) (K V : Vec F S4x4096x256 .bf16) : ℕ → ℕ → Vec F S1x512x256 .f32
  | 0, h => qslab (e := .f32) k0_pay192 h
  | j + 1, h => k0_pay27 (k0_pay12 (Mx Q K j h) (Sc Q K j h)) (k0_pay13 (Mx Q K j h) (Sc Q K j h)) (Ac Q K V j h)
      (kslab V h (512 * j))

/-- The weighted sums after the block on the diagonal, block `n`. -/
def Fin_ (Q : Vec F S4x512x256 .bf16) (K V : Vec F S4x4096x256 .bf16) (n h : ℕ) : Vec F S1x512x256 .f32 :=
  k0_pay27 (k0_pay113 (Mx Q K n h) (Sc Q K n h)) (k0_pay114 (Mx Q K n h) (Sc Q K n h)) (Ac Q K V n h)
    (kslab V h (512 * n))

/-- The block of the result the kernel writes for query block `n`: head `h`'s quotients in columns `128 h` on. -/
def Out (Q : Vec F S4x512x256 .bf16) (K V : Vec F S4x4096x256 .bf16) (n : ℕ) : Vec F S512x512 .bf16 :=
  fun y => k0_pay1 (Fin_ Q K V n ((y 1).val / 128))
    (fun | ⟨0, _⟩ => y 0 | ⟨1, _⟩ => ⟨(y 1).val % 128, Nat.mod_lt _ (by decide)⟩)

end Cert.KernelIdeal.Att

end
-- ==== Proof.Trip.lean ====
module

public import proofs.«01_k».proof.Proof.State

@[expose] public section

/-! One trip of the kernel's loop over pairs of key blocks takes the state before key block `2 k` to the state before key
    block `2 k + 2`, and so do all its trips together. -/

set_option maxRecDepth 16384

noncomputable section

namespace Cert.KernelIdeal.Att

open Idealize.ShloMosaic Idealize.ShloMosaic.TcCoe Idealize.ShloMosaic.Tactic
open Cert.KernelIdeal Cert.KernelIdeal.Gen

variable {F : FTy → Type} [FloatOps F]

theorem ld_off {sp : Space} {s : Shape} {e : EltTy} (M : Memref sig .tc sp s e) (X : BufTy.Contents (Elt F) M.view.ty)
    {off off' size : Fin s.rank → ℕ} (inb : ∀ x, off x + size x ≤ s.size x) (inb' : ∀ x, off' x + size x ≤ s.size x)
    (h : off = off') : M.view.readAt (Elt F) (Rect.unit off size inb).toLoadRect X
      = View.ld (M.view.read (Elt F) X) (Rect.unit off' size inb') := by
  subst h; rfl

theorem q_read {sp : Space} (M : Memref sig .tc sp S4x512x256 .bf16) (X : BufTy.Contents (Elt F) M.view.ty) (a : ℕ)
    (inb : ∀ x, (![a, 0, 0] : Fin 3 → ℕ) x + (![1, 512, 256] : Fin 3 → ℕ) x ≤ S4x512x256.size x) (ha : a ≤ 3) :
    M.view.readAt (Elt F) (Rect.unit (s := S4x512x256) ![a, 0, 0] ![1, 512, 256] inb).toLoadRect X
      = qslab (M.view.read (Elt F) X) a :=
  ld_off M X inb (qslab_inb a) (by rw [Nat.min_eq_left ha])

theorem k_read {sp : Space} (M : Memref sig .tc sp S4x4096x256 .bf16) (X : BufTy.Contents (Elt F) M.view.ty) (a n m : ℕ)
    (h : n = m) (hm : m ≤ 3584)
    (inb : ∀ x, (![a, n, 0] : Fin 3 → ℕ) x + (![1, 512, 256] : Fin 3 → ℕ) x ≤ S4x4096x256.size x) (ha : a ≤ 3) :
    M.view.readAt (Elt F) (Rect.unit (s := S4x4096x256) ![a, n, 0] ![1, 512, 256] inb).toLoadRect X
      = kslab (M.view.read (Elt F) X) a m :=
  ld_off M X inb (kslab_inb a m) (by rw [Nat.min_eq_left ha, Nat.min_eq_left hm, h])

/-- The score scratch holds key block `j`'s scores in its first slot. -/
structure At7 {sp : Space} (M : Memref sig .tc sp S2x4x512x512 .f32) (f : BufTy.Contents (Elt F) M.view.ty)
    (Q : Vec F S4x512x256 .bf16) (K : Vec F S4x4096x256 .bf16) (j : ℕ) : Prop where
  h0 : M.view.readAt (Elt F) (Rect.unit (s := S2x4x512x512) ![0, 0, 0, 0] ![1, 1, 512, 512] inb_S2x4x512x512_S1x1x512x512_0_0_0_0).toLoadRect f = Sc Q K j 0
  h1 : M.view.readAt (Elt F) (Rect.unit (s := S2x4x512x512) ![0, 1, 0, 0] ![1, 1, 512, 512] inb_S2x4x512x512_S1x1x512x512_0_1_0_0).toLoadRect f = Sc Q K j 1
  h2 : M.view.readAt (Elt F) (Rect.unit (s := S2x4x512x512) ![0, 2, 0, 0] ![1, 1, 512, 512] inb_S2x4x512x512_S1x1x512x512_0_2_0_0).toLoadRect f = Sc Q K j 2
  h3 : M.view.readAt (Elt F) (Rect.unit (s := S2x4x512x512) ![0, 3, 0, 0] ![1, 1, 512, 512] inb_S2x4x512x512_S1x1x512x512_0_3_0_0).toLoadRect f = Sc Q K j 3

/-- The sum scratch holds the weighted sums before key block `j`. -/
structure At8 {sp : Space} (M : Memref sig .tc sp S4x512x256 .f32) (f : BufTy.Contents (Elt F) M.view.ty)
    (Q : Vec F S4x512x256 .bf16) (K V : Vec F S4x4096x256 .bf16) (j : ℕ) : Prop where
  h0 : M.view.readAt (Elt F) (Rect.unit (s := S4x512x256) ![0, 0, 0] ![1, 512, 256] inb_S4x512x256_S1x512x256_0_0_0).toLoadRect f = Ac Q K V j 0
  h1 : M.view.readAt (Elt F) (Rect.unit (s := S4x512x256) ![1, 0, 0] ![1, 512, 256] inb_S4x512x256_S1x512x256_1_0_0).toLoadRect f = Ac Q K V j 1
  h2 : M.view.readAt (Elt F) (Rect.unit (s := S4x512x256) ![2, 0, 0] ![1, 512, 256] inb_S4x512x256_S1x512x256_2_0_0).toLoadRect f = Ac Q K V j 2
  h3 : M.view.readAt (Elt F) (Rect.unit (s := S4x512x256) ![3, 0, 0] ![1, 512, 256] inb_S4x512x256_S1x512x256_3_0_0).toLoadRect f = Ac Q K V j 3

/-- The four heads' row maxima before key block `j`. -/
def Mx4 (Q : Vec F S4x512x256 .bf16) (K : Vec F S4x4096x256 .bf16) (j : ℕ) :
    FVec F S512x1 .f32 × FVec F S512x1 .f32 × FVec F S512x1 .f32 × FVec F S512x1 .f32 :=
  (Mx Q K j 0, Mx Q K j 1, Mx Q K j 2, Mx Q K j 3)

theorem trips_t1 : ∀ i : grid0.Coords, (k0_t1_loop i).trips = (i 2).val / 2 := by decide +kernel

theorem trips_t2 : ∀ i : grid0.Coords, (k0_t2_loop i).trips = 0 := by decide +kernel

theorem word0 : ∀ k : Fin 4, BitVec.toNat (Scalar.indexCast (Scalar.muli (Scalar.muli (2#32) (Scf.iv 0#32 1#32 k.val)) 512#32)) = 512 * (2 * k.val) := by
  decide +kernel

theorem word1 : ∀ k : Fin 4, BitVec.toNat (Scalar.indexCast (Scalar.muli (Scalar.addi (Scalar.muli (2#32) (Scf.iv 0#32 1#32 k.val)) 1#32) 512#32)) = 512 * (2 * k.val + 1) := by
  decide +kernel

theorem word2 : ∀ k : Fin 4, BitVec.toNat (Scalar.indexCast (Scalar.muli (Scalar.addi (Scalar.muli (2#32) (Scf.iv 0#32 1#32 k.val)) 2#32) 512#32)) = 512 * (2 * k.val + 2) := by
  decide +kernel

theorem Mx_succ (Q : Vec F S4x512x256 .bf16) (K : Vec F S4x4096x256 .bf16) (j h : ℕ) :
    Mx Q K (j + 1) h = k0_pay11 (Mx Q K j h) (Sc Q K j h) := rfl

theorem Ac_succ (Q : Vec F S4x512x256 .bf16) (K V : Vec F S4x4096x256 .bf16) (j h : ℕ) :
    Ac Q K V (j + 1) h = k0_pay27 (k0_pay12 (Mx Q K j h) (Sc Q K j h)) (k0_pay13 (Mx Q K j h) (Sc Q K j h)) (Ac Q K V j h)
      (kslab V h (512 * j)) := rfl

section Trip

variable (𝒱 : Variants) (c : Dev nD) (bd : Option 𝒱.V) (i : grid0.Coords) (arg3 : Memref sig .tc .vmem S4x512x256 .bf16) (harg3 : arg3.IsWhole) (arg4 : Memref sig .tc .vmem S4x4096x256 .bf16) (harg4 : arg4.IsWhole) (arg5 : Memref sig .tc .vmem S4x4096x256 .bf16) (harg5 : arg5.IsWhole) (arg6 : Memref sig .tc .vmem S512x512 .bf16) (harg6 : arg6.IsWhole) (arg7 : Memref sig .tc .vmem S2x4x512x512 .f32) (harg7 : arg7.IsWhole) (arg8 : Memref sig .tc .vmem S4x512x256 .f32) (harg8 : arg8.IsWhole) (arg2 : BitVec 32) (v57 : BitVec 32) (v58 : FVec F S512x1 .f32) (X3 : BufTy.Contents (Elt F) arg3.view.ty) (X4 : BufTy.Contents (Elt F) arg4.view.ty) (X5 : BufTy.Contents (Elt F) arg5.view.ty)

local notation "𝐐" => View.read (Elt F) arg3.view X3
local notation "𝐊" => View.read (Elt F) arg4.view X4
local notation "𝐕" => View.read (Elt F) arg5.view X5

set_option backward.isDefEq.respectTransparency.types false in
theorem trip_R (k : Fin (k0_t1_loop i).trips) (f7 : BufTy.Contents (Elt F) arg7.view.ty) (f8 : BufTy.Contents (Elt F) arg8.view.ty)
    (H7 : At7 arg7 f7 𝐐 𝐊 (2 * k.val)) :
    tripR_k0_t1 𝒱 c bd i arg3 harg3 arg4 harg4 arg5 harg5 arg6 harg6 arg7 harg7 arg8 harg8 arg2 v57 v58 X3 X4 X5 k (Mx4 𝐐 𝐊 (2 * k.val)) f7 f8
      = Mx4 𝐐 𝐊 (2 * k.val + 2) := by
  have hk4 : k.val < 4 ∧ 2 * k.val + 2 < 8 := by
    have h1 := k.isLt
    have h2 := trips_t1 i
    have h3 := (i 2).isLt
    have h4 : (i 2).val < 8 := h3
    omega
  obtain ⟨hk4, hk8⟩ := hk4
  have w0 := word0 ⟨k.val, hk4⟩
  have w1 := word1 ⟨k.val, hk4⟩
  have w2 := word2 ⟨k.val, hk4⟩
  dsimp only at w0 w1 w2
  have K0 := fun M X a => k_read (F := F) (sp := .vmem) M X a _ _ w0 (by omega)
  have K1 := fun M X a => k_read (F := F) (sp := .vmem) M X a _ _ w1 (by omega)
  have K2 := fun M X a => k_read (F := F) (sp := .vmem) M X a _ _ w2 (by omega)
  unfold tripR_k0_t1 trip_k0_t1
  dsimp only
  sl_unfold_words
  simp (disch := first | decide | omega) only [rc_skip, View.readCov_cons_toLoadRect, q_read, K0, K1, K2, H7.h0, H7.h1, H7.h2, H7.h3, Mx4]
  simp only [show 2 * k.val + 2 = (2 * k.val + 1) + 1 from rfl, Mx_succ, Sc]
  rfl

set_option backward.isDefEq.respectTransparency.types false in
theorem trip_7 (k : Fin (k0_t1_loop i).trips) (f7 : BufTy.Contents (Elt F) arg7.view.ty) (f8 : BufTy.Contents (Elt F) arg8.view.ty)
    (a : FVec F S512x1 .f32 × FVec F S512x1 .f32 × FVec F S512x1 .f32 × FVec F S512x1 .f32) :
    At7 arg7 (arg7.view.writes (Elt F) f7
      (tripL_k0_t1 𝒱 c bd i arg3 harg3 arg4 harg4 arg5 harg5 arg6 harg6 arg7 harg7 arg8 harg8 arg2 v57 v58 X3 X4 X5 k a f7 f8).1)
      𝐐 𝐊 (2 * k.val + 2) := by
  have hk4 : k.val < 4 ∧ 2 * k.val + 2 < 8 := by
    have h1 := k.isLt
    have h2 := trips_t1 i
    have h3 := (i 2).isLt
    have h4 : (i 2).val < 8 := h3
    omega
  obtain ⟨hk4, hk8⟩ := hk4
  have w0 := word0 ⟨k.val, hk4⟩
  have w1 := word1 ⟨k.val, hk4⟩
  have w2 := word2 ⟨k.val, hk4⟩
  dsimp only at w0 w1 w2
  have K0 := fun M X a => k_read (F := F) (sp := .vmem) M X a _ _ w0 (by omega)
  have K1 := fun M X a => k_read (F := F) (sp := .vmem) M X a _ _ w1 (by omega)
  have K2 := fun M X a => k_read (F := F) (sp := .vmem) M X a _ _ w2 (by omega)
  unfold tripL_k0_t1 trip_k0_t1
  dsimp only
  sl_unfold_words
  constructor <;>
  · simp (disch := first | decide | omega) only [rd_skip, rd_hit, q_read, K0, K1, K2]
    simp only [show 2 * k.val + 2 = (2 * k.val + 1) + 1 from rfl, Ac_succ, Mx_succ, Sc]
    rfl

set_option backward.isDefEq.respectTransparency.types false in
theorem trip_8 (k : Fin (k0_t1_loop i).trips) (f7 : BufTy.Contents (Elt F) arg7.view.ty) (f8 : BufTy.Contents (Elt F) arg8.view.ty)
    (H7 : At7 arg7 f7 𝐐 𝐊 (2 * k.val)) (H8 : At8 arg8 f8 𝐐 𝐊 𝐕 (2 * k.val)) :
    At8 arg8 (arg8.view.writes (Elt F) f8
      (tripL_k0_t1 𝒱 c bd i arg3 harg3 arg4 harg4 arg5 harg5 arg6 harg6 arg7 harg7 arg8 harg8 arg2 v57 v58 X3 X4 X5 k (Mx4 𝐐 𝐊 (2 * k.val)) f7 f8).2)
      𝐐 𝐊 𝐕 (2 * k.val + 2) := by
  have hk4 : k.val < 4 ∧ 2 * k.val + 2 < 8 := by
    have h1 := k.isLt
    have h2 := trips_t1 i
    have h3 := (i 2).isLt
    have h4 : (i 2).val < 8 := h3
    omega
  obtain ⟨hk4, hk8⟩ := hk4
  have w0 := word0 ⟨k.val, hk4⟩
  have w1 := word1 ⟨k.val, hk4⟩
  have w2 := word2 ⟨k.val, hk4⟩
  dsimp only at w0 w1 w2
  have K0 := fun M X a => k_read (F := F) (sp := .vmem) M X a _ _ w0 (by omega)
  have K1 := fun M X a => k_read (F := F) (sp := .vmem) M X a _ _ w1 (by omega)
  have K2 := fun M X a => k_read (F := F) (sp := .vmem) M X a _ _ w2 (by omega)
  unfold tripL_k0_t1 trip_k0_t1
  dsimp only
  sl_unfold_words
  constructor <;>
  · simp (disch := first | decide | omega) only [rd_skip, rd_hit, rc_skip, View.readCov_cons_toLoadRect, q_read, K0, K1, K2, H7.h0, H7.h1, H7.h2, H7.h3, H8.h0, H8.h1, H8.h2, H8.h3, Mx4]
    simp only [show 2 * k.val + 2 = (2 * k.val + 1) + 1 from rfl, Ac_succ, Mx_succ, Sc]
    rfl

variable (G7 : BufTy.Contents (Elt F) arg7.view.ty) (G8 : BufTy.Contents (Elt F) arg8.view.ty)

/-- The state before trip `n` of the loop over pairs of key blocks. -/
theorem trips_state (H7 : At7 arg7 G7 𝐐 𝐊 0) (H8 : At8 arg8 G8 𝐐 𝐊 𝐕 0) (n : ℕ) (hn : n ≤ (k0_t1_loop i).trips) :
    (st_k0_t1 𝒱 c bd i arg3 harg3 arg4 harg4 arg5 harg5 arg6 harg6 arg7 harg7 arg8 harg8 arg2 v57 v58 X3 X4 X5 G7 G8 (Mx4 𝐐 𝐊 0) n).1
        = Mx4 𝐐 𝐊 (2 * n)
      ∧ At7 arg7 (arg7.view.writes (Elt F) G7 (st_k0_t1 𝒱 c bd i arg3 harg3 arg4 harg4 arg5 harg5 arg6 harg6 arg7 harg7 arg8 harg8 arg2 v57 v58 X3 X4 X5 G7 G8 (Mx4 𝐐 𝐊 0) n).2.1) 𝐐 𝐊 (2 * n)
      ∧ At8 arg8 (arg8.view.writes (Elt F) G8 (st_k0_t1 𝒱 c bd i arg3 harg3 arg4 harg4 arg5 harg5 arg6 harg6 arg7 harg7 arg8 harg8 arg2 v57 v58 X3 X4 X5 G7 G8 (Mx4 𝐐 𝐊 0) n).2.2) 𝐐 𝐊 𝐕 (2 * n) := by
  induction n with
  | zero => exact ⟨rfl, H7, H8⟩
  | succ n ih =>
    obtain ⟨e1, e7, e8⟩ := ih (by omega)
    have hs := st_k0_t1_succ 𝒱 c bd i arg3 harg3 arg4 harg4 arg5 harg5 arg6 harg6 arg7 harg7 arg8 harg8 arg2 v57 v58 X3 X4 X5 G7 G8 (Mx4 𝐐 𝐊 0) ⟨n, by omega⟩
    dsimp only at hs
    rw [hs]
    dsimp only
    rw [View.writes_append, View.writes_append, e1]
    exact ⟨trip_R (k := ⟨n, by omega⟩) (H7 := e7) .., trip_7 (k := ⟨n, by omega⟩) .., trip_8 (k := ⟨n, by omega⟩) (H7 := e7) (H8 := e8) ..⟩

end Trip

end Cert.KernelIdeal.Att

end
-- ==== Proof.Body.lean ====
module

public import proofs.«01_k».proof.Proof.Trip
public import proofs.«01_k».proof.Proof.Gen.KernelIdeal.Frame
public import Idealize.ShloMosaic.Lib.Tactic

@[expose] public section

/-! The kernel's body on whole blocks: what it leaves in the result's block, and the run of the launch. -/

set_option maxRecDepth 16384

noncomputable section

namespace Cert.KernelIdeal.Att

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

theorem cond1_iff : ∀ i : grid0.Coords, k0_cond1 i = 1#1 ↔ (i 2).val % 2 = 0 := by decide +kernel

theorem cond2_iff : ∀ i : grid0.Coords, k0_cond2 i = 1#1 ↔ (i 2).val % 2 = 1 := by decide +kernel

theorem off17 : ∀ i : grid0.Coords, (i 2).val % 2 = 0 → k0_off17 i = ![min 0 3, min (512 * (i 2).val) 3584, 0] := by decide +kernel

theorem off18 : ∀ i : grid0.Coords, (i 2).val % 2 = 0 → k0_off18 i = ![min 1 3, min (512 * (i 2).val) 3584, 0] := by decide +kernel

theorem off19 : ∀ i : grid0.Coords, (i 2).val % 2 = 0 → k0_off19 i = ![min 2 3, min (512 * (i 2).val) 3584, 0] := by decide +kernel

theorem off20 : ∀ i : grid0.Coords, (i 2).val % 2 = 0 → k0_off20 i = ![min 3 3, min (512 * (i 2).val) 3584, 0] := by decide +kernel

theorem st2_zero (𝒱 : Variants) (c : Dev nD) (bd : Option 𝒱.V) (i : grid0.Coords) (arg3 : Memref sig .tc .vmem S4x512x256 .bf16) (harg3 : arg3.IsWhole) (arg4 : Memref sig .tc .vmem S4x4096x256 .bf16) (harg4 : arg4.IsWhole) (arg5 : Memref sig .tc .vmem S4x4096x256 .bf16) (harg5 : arg5.IsWhole) (arg6 : Memref sig .tc .vmem S512x512 .bf16) (harg6 : arg6.IsWhole) (arg7 : Memref sig .tc .vmem S2x4x512x512 .f32) (harg7 : arg7.IsWhole) (arg8 : Memref sig .tc .vmem S4x512x256 .f32) (harg8 : arg8.IsWhole) (arg2 : BitVec 32) (v57 : BitVec 32) (v58 : FVec F S512x1 .f32) (v66 : BitVec 32) (X3 : BufTy.Contents (Elt F) arg3.view.ty) (X4 : BufTy.Contents (Elt F) arg4.view.ty) (X5 : BufTy.Contents (Elt F) arg5.view.ty) (G7 : BufTy.Contents (Elt F) arg7.view.ty) (G8 : BufTy.Contents (Elt F) arg8.view.ty) (init : FVec F S512x1 .f32 × FVec F S512x1 .f32 × FVec F S512x1 .f32 × FVec F S512x1 .f32) :
    st_k0_t2 𝒱 c bd i arg3 harg3 arg4 harg4 arg5 harg5 arg6 harg6 arg7 harg7 arg8 harg8 arg2 v57 v58 v66 X3 X4 X5 G7 G8 init 0 = (init, [], []) := rfl

theorem some_owns {s : Shape} {e : EltTy} (c : Dev nD) (M : Memref sig .tc .vmem s e) (f : BufTy.Contents (Elt F) M.view.ty) :
    (View.loc (c : Thread nD τ) M.view ↦[M.view.set]{fullShare} f : sProp 𝕄)
      ⊢ iprop(∃ d, ∃ f, ⌜View.read (Elt F) M.view f = d⌝ ∗ (View.loc (c : Thread nD τ) M.view ↦[M.view.set]{fullShare} f)) := by
  iintro H
  iexists (View.read (Elt F) M.view f)
  iexists f
  isplitr [H]
  · ipureintro; rfl
  · iexact H

/-- Four slabs of 128 columns, stored beside one another. -/
theorem out_read (M : Memref sig .tc .vmem S512x512 .bf16) (f : BufTy.Contents (Elt F) M.view.ty) (A : ℕ → Vec F S1x512x256 .f32) :
    View.read (Elt F) M.view (M.view.writes (Elt F) f
      [⟨Rect.unit ![0, 384] S512x128.size inb_S512x512_S512x128_0_384, k0_pay4 (A 3)⟩,
        ⟨Rect.unit ![0, 256] S512x128.size inb_S512x512_S512x128_0_256, k0_pay3 (A 2)⟩,
        ⟨Rect.unit ![0, 128] S512x128.size inb_S512x512_S512x128_0_128, k0_pay2 (A 1)⟩,
        ⟨Rect.unit ![0, 0] S512x128.size inb_S512x512_S512x128_0_0, k0_pay1 (A 0)⟩])
      = fun y => k0_pay1 (A ((y 1).val / 128)) (fun | ⟨0, _⟩ => y 0 | ⟨1, _⟩ => ⟨(y 1).val % 128, Nat.mod_lt _ (by decide)⟩) := by
  funext y
  have hy := (y 1).isLt
  have hy : (y 1).val < 512 := hy
  have key : ∀ h : ℕ, (y 1).val / 128 = h → ∀ (inb : ∀ a, (![0, 128 * h] : Fin 2 → ℕ) a + S512x128.size a ≤ S512x512.size a)
      (w : Vec F S512x128 .bf16) L, View.read (Elt F) M.view (M.view.writes (Elt F) f (⟨Rect.unit ![0, 128 * h] S512x128.size inb, w⟩ :: L)) y
        = w (fun | ⟨0, _⟩ => y 0 | ⟨1, _⟩ => ⟨(y 1).val % 128, Nat.mod_lt _ (by decide)⟩) := by
    intro h hh inb w L
    refine View.read_writes_cons_unit_of_mem M.view f inb w L y _ rfl fun a => ?_
    match a with
    | 0 => exact (Nat.zero_add _).symm
    | 1 => show (y 1).val = 128 * h + (y 1).val % 128; omega
  have skip : ∀ h : ℕ, (y 1).val / 128 ≠ h → ∀ (inb : ∀ a, (![0, 128 * h] : Fin 2 → ℕ) a + S512x128.size a ≤ S512x512.size a)
      (w : Vec F S512x128 .bf16) L, View.read (Elt F) M.view (M.view.writes (Elt F) f (⟨Rect.unit ![0, 128 * h] S512x128.size inb, w⟩ :: L)) y
        = View.read (Elt F) M.view (M.view.writes (Elt F) f L) y := by
    intro h hh inb w L
    refine View.read_writes_cons_unit_of_not_mem M.view f inb w L y rfl 1 ?_
    show (y 1).val < 128 * h ∨ 128 * h + 128 ≤ (y 1).val
    omega
  have hc : (y 1).val / 128 = 0 ∨ (y 1).val / 128 = 1 ∨ (y 1).val / 128 = 2 ∨ (y 1).val / 128 = 3 := by omega
  rcases hc with h | h | h | h
  · exact (skip 3 (by omega) _ _ _).trans ((skip 2 (by omega) _ _ _).trans ((skip 1 (by omega) _ _ _).trans ((key 0 h _ _ _).trans (by rw [h]))))
  · exact (skip 3 (by omega) _ _ _).trans ((skip 2 (by omega) _ _ _).trans ((key 1 h _ _ _).trans (by rw [h]; rfl)))
  · exact (skip 3 (by omega) _ _ _).trans ((key 2 h _ _ _).trans (by rw [h]; rfl))
  · exact (key 3 h _ _ _).trans (by rw [h]; rfl)

/-- The four score tiles stored before the loop. -/
abbrev P7 (w0 w1 w2 w3 : Vec F S1x1x512x512 .f32) : List (View.Piece (Elt F) S2x4x512x512 .f32) :=
  [⟨(Rect.unit (s := S2x4x512x512) ![0, 3, 0, 0] ![1, 1, 512, 512] inb_S2x4x512x512_S1x1x512x512_0_3_0_0), w3⟩, ⟨(Rect.unit (s := S2x4x512x512) ![0, 2, 0, 0] ![1, 1, 512, 512] inb_S2x4x512x512_S1x1x512x512_0_2_0_0), w2⟩, ⟨(Rect.unit (s := S2x4x512x512) ![0, 1, 0, 0] ![1, 1, 512, 512] inb_S2x4x512x512_S1x1x512x512_0_1_0_0), w1⟩, ⟨(Rect.unit (s := S2x4x512x512) ![0, 0, 0, 0] ![1, 1, 512, 512] inb_S2x4x512x512_S1x1x512x512_0_0_0_0), w0⟩]

theorem cov7_0 (M : Memref sig .tc .vmem S2x4x512x512 .f32) (f : BufTy.Contents (Elt F) M.view.ty) (w0 w1 w2 w3 : Vec F S1x1x512x512 .f32)
    (L : List (View.Piece (Elt F) S2x4x512x512 .f32)) :
    M.view.readCov (L ++ P7 w0 w1 w2 w3) (Rect.unit (s := S2x4x512x512) ![0, 0, 0, 0] ![1, 1, 512, 512] inb_S2x4x512x512_S1x1x512x512_0_0_0_0).toLoadRect
      = M.view.readAt (Elt F) (Rect.unit (s := S2x4x512x512) ![0, 0, 0, 0] ![1, 1, 512, 512] inb_S2x4x512x512_S1x1x512x512_0_0_0_0).toLoadRect (M.view.writes (Elt F) (M.view.writes (Elt F) f (P7 w0 w1 w2 w3)) L) := by
  rw [← View.writes_append]
  refine (View.readAt_writes_of_cover M.view f _ _ fun j => ⟨⟨(Rect.unit (s := S2x4x512x512) ![0, 0, 0, 0] ![1, 1, 512, 512] inb_S2x4x512x512_S1x1x512x512_0_0_0_0), w0⟩, List.mem_append_right _ ?_, LoadRect.idx_mem _ j⟩).symm
  simp

theorem cov7_1 (M : Memref sig .tc .vmem S2x4x512x512 .f32) (f : BufTy.Contents (Elt F) M.view.ty) (w0 w1 w2 w3 : Vec F S1x1x512x512 .f32)
    (L : List (View.Piece (Elt F) S2x4x512x512 .f32)) :
    M.view.readCov (L ++ P7 w0 w1 w2 w3) (Rect.unit (s := S2x4x512x512) ![0, 1, 0, 0] ![1, 1, 512, 512] inb_S2x4x512x512_S1x1x512x512_0_1_0_0).toLoadRect
      = M.view.readAt (Elt F) (Rect.unit (s := S2x4x512x512) ![0, 1, 0, 0] ![1, 1, 512, 512] inb_S2x4x512x512_S1x1x512x512_0_1_0_0).toLoadRect (M.view.writes (Elt F) (M.view.writes (Elt F) f (P7 w0 w1 w2 w3)) L) := by
  rw [← View.writes_append]
  refine (View.readAt_writes_of_cover M.view f _ _ fun j => ⟨⟨(Rect.unit (s := S2x4x512x512) ![0, 1, 0, 0] ![1, 1, 512, 512] inb_S2x4x512x512_S1x1x512x512_0_1_0_0), w1⟩, List.mem_append_right _ ?_, LoadRect.idx_mem _ j⟩).symm
  simp

theorem cov7_2 (M : Memref sig .tc .vmem S2x4x512x512 .f32) (f : BufTy.Contents (Elt F) M.view.ty) (w0 w1 w2 w3 : Vec F S1x1x512x512 .f32)
    (L : List (View.Piece (Elt F) S2x4x512x512 .f32)) :
    M.view.readCov (L ++ P7 w0 w1 w2 w3) (Rect.unit (s := S2x4x512x512) ![0, 2, 0, 0] ![1, 1, 512, 512] inb_S2x4x512x512_S1x1x512x512_0_2_0_0).toLoadRect
      = M.view.readAt (Elt F) (Rect.unit (s := S2x4x512x512) ![0, 2, 0, 0] ![1, 1, 512, 512] inb_S2x4x512x512_S1x1x512x512_0_2_0_0).toLoadRect (M.view.writes (Elt F) (M.view.writes (Elt F) f (P7 w0 w1 w2 w3)) L) := by
  rw [← View.writes_append]
  refine (View.readAt_writes_of_cover M.view f _ _ fun j => ⟨⟨(Rect.unit (s := S2x4x512x512) ![0, 2, 0, 0] ![1, 1, 512, 512] inb_S2x4x512x512_S1x1x512x512_0_2_0_0), w2⟩, List.mem_append_right _ ?_, LoadRect.idx_mem _ j⟩).symm
  simp

theorem cov7_3 (M : Memref sig .tc .vmem S2x4x512x512 .f32) (f : BufTy.Contents (Elt F) M.view.ty) (w0 w1 w2 w3 : Vec F S1x1x512x512 .f32)
    (L : List (View.Piece (Elt F) S2x4x512x512 .f32)) :
    M.view.readCov (L ++ P7 w0 w1 w2 w3) (Rect.unit (s := S2x4x512x512) ![0, 3, 0, 0] ![1, 1, 512, 512] inb_S2x4x512x512_S1x1x512x512_0_3_0_0).toLoadRect
      = M.view.readAt (Elt F) (Rect.unit (s := S2x4x512x512) ![0, 3, 0, 0] ![1, 1, 512, 512] inb_S2x4x512x512_S1x1x512x512_0_3_0_0).toLoadRect (M.view.writes (Elt F) (M.view.writes (Elt F) f (P7 w0 w1 w2 w3)) L) := by
  rw [← View.writes_append]
  refine (View.readAt_writes_of_cover M.view f _ _ fun j => ⟨⟨(Rect.unit (s := S2x4x512x512) ![0, 3, 0, 0] ![1, 1, 512, 512] inb_S2x4x512x512_S1x1x512x512_0_3_0_0), w3⟩, List.mem_append_right _ ?_, LoadRect.idx_mem _ j⟩).symm
  simp

theorem cov8 (M : Memref sig .tc .vmem S4x512x256 .f32) (L P : List (View.Piece (Elt F) S4x512x256 .f32)) (r : LoadRect S4x512x256) :
    M.view.readCov (L ++ P) r = M.view.readAt (Elt F) r (M.view.writes (Elt F) (M.view.writes (Elt F) M.view.junk P) L) := by
  rw [← View.writes_append]
  rfl

theorem start7 (M3 : Memref sig .tc .vmem S4x512x256 .bf16) (M4 : Memref sig .tc .vmem S4x4096x256 .bf16) (M : Memref sig .tc .vmem S2x4x512x512 .f32)
    (f3 : BufTy.Contents (Elt F) M3.view.ty) (f4 : BufTy.Contents (Elt F) M4.view.ty) (f : BufTy.Contents (Elt F) M.view.ty) (w0 w1 w2 w3 : Vec F S1x1x512x512 .f32)
    (h0 : w0 = k0_pay5 (M3.view.readAt (Elt F) (Rect.unit (s := S4x512x256) ![0, 0, 0] ![1, 512, 256] inb_S4x512x256_S1x512x256_0_0_0).toLoadRect f3) (M4.view.readAt (Elt F) (Rect.unit (s := S4x4096x256) ![0, 0, 0] ![1, 512, 256] inb_S4x4096x256_S1x512x256_0_0_0).toLoadRect f4))
    (h1 : w1 = k0_pay5 (M3.view.readAt (Elt F) (Rect.unit (s := S4x512x256) ![1, 0, 0] ![1, 512, 256] inb_S4x512x256_S1x512x256_1_0_0).toLoadRect f3) (M4.view.readAt (Elt F) (Rect.unit (s := S4x4096x256) ![1, 0, 0] ![1, 512, 256] inb_S4x4096x256_S1x512x256_1_0_0).toLoadRect f4))
    (h2 : w2 = k0_pay5 (M3.view.readAt (Elt F) (Rect.unit (s := S4x512x256) ![2, 0, 0] ![1, 512, 256] inb_S4x512x256_S1x512x256_2_0_0).toLoadRect f3) (M4.view.readAt (Elt F) (Rect.unit (s := S4x4096x256) ![2, 0, 0] ![1, 512, 256] inb_S4x4096x256_S1x512x256_2_0_0).toLoadRect f4))
    (h3 : w3 = k0_pay5 (M3.view.readAt (Elt F) (Rect.unit (s := S4x512x256) ![3, 0, 0] ![1, 512, 256] inb_S4x512x256_S1x512x256_3_0_0).toLoadRect f3) (M4.view.readAt (Elt F) (Rect.unit (s := S4x4096x256) ![3, 0, 0] ![1, 512, 256] inb_S4x4096x256_S1x512x256_3_0_0).toLoadRect f4)) :
    At7 M (M.view.writes (Elt F) f (P7 w0 w1 w2 w3)) (View.read (Elt F) M3.view f3) (View.read (Elt F) M4.view f4) 0 := by
  have K0 := fun M X a => k_read (F := F) (sp := .vmem) M X a 0 (512 * 0) rfl (by omega)
  subst h0 h1 h2 h3
  constructor <;>
  · simp (disch := decide) only [P7, rd_skip, rd_hit, q_read, K0]
    rfl

theorem start8 (M : Memref sig .tc .vmem S4x512x256 .f32) (f : BufTy.Contents (Elt F) M.view.ty) (Q : Vec F S4x512x256 .bf16) (K V : Vec F S4x4096x256 .bf16) :
    At8 M (M.view.writes (Elt F) f [⟨Rect.unit (s := S4x512x256) ![0, 0, 0] S4x512x256.size inb_S4x512x256_S4x512x256_0_0_0, k0_pay192⟩]) Q K V 0 := by
  have h : M.view.read (Elt F) (M.view.writes (Elt F) f [⟨Rect.unit (s := S4x512x256) ![0, 0, 0] S4x512x256.size inb_S4x512x256_S4x512x256_0_0_0, k0_pay192⟩]) = k0_pay192 := by
    funext y
    exact View.read_writes_cons_unit_of_mem M.view f _ _ _ y y rfl fun a => by match a with | 0 | 1 | 2 => exact (Nat.zero_add _).symm
  constructor <;>
  · rw [View.readAt_eq_ld, h]
    rfl

set_option maxHeartbeats 4000000 in
theorem body_even (c : Dev nD) (i : grid0.Coords) (arg3 : Memref sig .tc .vmem S4x512x256 .bf16) (harg3 : arg3.IsWhole) (arg4 : Memref sig .tc .vmem S4x4096x256 .bf16) (harg4 : arg4.IsWhole) (arg5 : Memref sig .tc .vmem S4x4096x256 .bf16) (harg5 : arg5.IsWhole) (arg6 : Memref sig .tc .vmem S512x512 .bf16) (harg6 : arg6.IsWhole) (arg7 : Memref sig .tc .vmem S2x4x512x512 .f32) (harg7 : arg7.IsWhole) (arg8 : Memref sig .tc .vmem S4x512x256 .f32) (harg8 : arg8.IsWhole)
    (Q : Vec F S4x512x256 .bf16) (K V : Vec F S4x4096x256 .bf16) (hi : (i 2).val % 2 = 0)
    (E : Set ℕ) (Kt : PUnit → sProp 𝕄) :
    iprop(owns (c : Thread nD τ) arg3 fullShare Q ∗ owns (c : Thread nD τ) arg4 fullShare K ∗ owns (c : Thread nD τ) arg5 fullShare V
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare Q ∗ owns (c : Thread nD τ) arg4 fullShare K ∗ owns (c : Thread nD τ) arg5 fullShare V
        ∗ owns (c : Thread nD τ) arg6 fullShare (Out Q K V (i 2).val) ∗ (∃ d, owns (c : Thread nD τ) arg7 fullShare d) ∗ (∃ d, owns (c : Thread nD τ) arg8 fullShare d)) -∗ Kt ⟨⟩))
      ⊢ wp frame (wpE (defs₀ (F := F)) 𝒱₀ c none) E (cc0_mla_attention i arg3 harg3 arg4 harg4 arg5 harg5 arg6 harg6 arg7 harg7 arg8 harg8) Kt := by
  have hc1 := (cond1_iff i).2 hi
  have hc2 : ¬ k0_cond2 i = 1#1 := fun h => by have := (cond2_iff i).1 h; omega
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, Hk⟩
  sl_unfold [cc0_mla_attention]
  sl_exec! (disch := first | sl_exact hc1 | sl_exact hc2)
  sl_step
  iapply Hk
  isplitl [H3]
  · iexists f3
    isplitr [H3]
    · ipureintro; exact h3
    · iexact H3
  isplitl [H4]
  · iexists f4
    isplitr [H4]
    · ipureintro; exact h4
    · iexact H4
  isplitl [H5]
  · iexists f5
    isplitr [H5]
    · ipureintro; exact h5
    · iexact H5
  isplitl [H6]
  · iexists _
    isplitr [H6]
    rotate_left
    · iexact H6
    ipureintro
    subst h3 h4 h5
    have hz : Scf.trips (k0_t2_loop i).lb (k0_t2_loop i).ub (k0_t2_loop i).st = 0 := trips_t2 i
    have hn : 2 * (k0_t1_loop i).trips = (i 2).val := by rw [trips_t1 i]; omega
    have key := fun a b d G7 G8 h7 h8 => trips_state (F := F) 𝒱₀ c none i arg3 harg3 arg4 harg4 arg5 harg5 arg6 harg6 arg7 harg7 arg8 harg8 a b d f3 f4 f5 G7 G8 h7 h8 _ le_rfl
    rw [hn] at key
    have eS0 : body_even.sl.v115 c i arg3 harg3 arg4 harg4 arg5 harg5 arg6 harg6 arg7 harg7 arg8 harg8 f3 f4 f5 f7 = Sc (View.read (Elt F) arg3.view f3) (View.read (Elt F) arg4.view f4) (i 2).val 0 := by
      unfold body_even.sl.v115
      rw [hz]
      simp only [st2_zero, List.nil_append]
      refine (cov7_0 arg7 f7 _ _ _ _ _).trans ?_
      exact (key _ _ _ _ _ (start7 arg3 arg4 arg7 f3 f4 f7 _ _ _ _ rfl rfl rfl rfl) (start8 arg8 _ _ _ _)).2.1.h0
    have eS1 : body_even.sl.v131 c i arg3 harg3 arg4 harg4 arg5 harg5 arg6 harg6 arg7 harg7 arg8 harg8 f3 f4 f5 f7 = Sc (View.read (Elt F) arg3.view f3) (View.read (Elt F) arg4.view f4) (i 2).val 1 := by
      unfold body_even.sl.v131
      rw [hz]
      simp only [st2_zero, List.nil_append]
      refine (cov7_1 arg7 f7 _ _ _ _ _).trans ?_
      exact (key _ _ _ _ _ (start7 arg3 arg4 arg7 f3 f4 f7 _ _ _ _ rfl rfl rfl rfl) (start8 arg8 _ _ _ _)).2.1.h1
    have eS2 : body_even.sl.v147 c i arg3 harg3 arg4 harg4 arg5 harg5 arg6 harg6 arg7 harg7 arg8 harg8 f3 f4 f5 f7 = Sc (View.read (Elt F) arg3.view f3) (View.read (Elt F) arg4.view f4) (i 2).val 2 := by
      unfold body_even.sl.v147
      rw [hz]
      simp only [st2_zero, List.nil_append]
      refine (cov7_2 arg7 f7 _ _ _ _ _).trans ?_
      exact (key _ _ _ _ _ (start7 arg3 arg4 arg7 f3 f4 f7 _ _ _ _ rfl rfl rfl rfl) (start8 arg8 _ _ _ _)).2.1.h2
    have eS3 : body_even.sl.v163 c i arg3 harg3 arg4 harg4 arg5 harg5 arg6 harg6 arg7 harg7 arg8 harg8 f3 f4 f5 f7 = Sc (View.read (Elt F) arg3.view f3) (View.read (Elt F) arg4.view f4) (i 2).val 3 := by
      unfold body_even.sl.v163
      rw [hz]
      simp only [st2_zero, List.nil_append]
      refine (cov7_3 arg7 f7 _ _ _ _ _).trans ?_
      exact (key _ _ _ _ _ (start7 arg3 arg4 arg7 f3 f4 f7 _ _ _ _ rfl rfl rfl rfl) (start8 arg8 _ _ _ _)).2.1.h3
    have eM0 : body_even.sl.r_1 c i arg3 harg3 arg4 harg4 arg5 harg5 arg6 harg6 arg7 harg7 arg8 harg8 f3 f4 f5 f7 = Mx (View.read (Elt F) arg3.view f3) (View.read (Elt F) arg4.view f4) (i 2).val 0 := by
      unfold body_even.sl.r_1
      rw [hz]
      simp only [st2_zero]
      exact congrArg (fun z => z.1) (key _ _ _ _ _ (start7 arg3 arg4 arg7 f3 f4 f7 _ _ _ _ rfl rfl rfl rfl) (start8 arg8 _ _ _ _)).1
    have eM1 : body_even.sl.r_2 c i arg3 harg3 arg4 harg4 arg5 harg5 arg6 harg6 arg7 harg7 arg8 harg8 f3 f4 f5 f7 = Mx (View.read (Elt F) arg3.view f3) (View.read (Elt F) arg4.view f4) (i 2).val 1 := by
      unfold body_even.sl.r_2
      rw [hz]
      simp only [st2_zero]
      exact congrArg (fun z => z.2.1) (key _ _ _ _ _ (start7 arg3 arg4 arg7 f3 f4 f7 _ _ _ _ rfl rfl rfl rfl) (start8 arg8 _ _ _ _)).1
    have eM2 : body_even.sl.r_3 c i arg3 harg3 arg4 harg4 arg5 harg5 arg6 harg6 arg7 harg7 arg8 harg8 f3 f4 f5 f7 = Mx (View.read (Elt F) arg3.view f3) (View.read (Elt F) arg4.view f4) (i 2).val 2 := by
      unfold body_even.sl.r_3
      rw [hz]
      simp only [st2_zero]
      exact congrArg (fun z => z.2.2.1) (key _ _ _ _ _ (start7 arg3 arg4 arg7 f3 f4 f7 _ _ _ _ rfl rfl rfl rfl) (start8 arg8 _ _ _ _)).1
    have eM3 : body_even.sl.r_4 c i arg3 harg3 arg4 harg4 arg5 harg5 arg6 harg6 arg7 harg7 arg8 harg8 f3 f4 f5 f7 = Mx (View.read (Elt F) arg3.view f3) (View.read (Elt F) arg4.view f4) (i 2).val 3 := by
      unfold body_even.sl.r_4
      rw [hz]
      simp only [st2_zero]
      exact congrArg (fun z => z.2.2.2) (key _ _ _ _ _ (start7 arg3 arg4 arg7 f3 f4 f7 _ _ _ _ rfl rfl rfl rfl) (start8 arg8 _ _ _ _)).1
    have eA0 : body_even.sl.v179 c i arg3 harg3 arg4 harg4 arg5 harg5 arg6 harg6 arg7 harg7 arg8 harg8 f3 f4 f5 f7 = Ac (View.read (Elt F) arg3.view f3) (View.read (Elt F) arg4.view f4) (View.read (Elt F) arg5.view f5) (i 2).val 0 := by
      unfold body_even.sl.v179
      rw [hz]
      simp only [st2_zero, List.nil_append]
      rw [cov8]
      exact (key _ _ _ _ _ (start7 arg3 arg4 arg7 f3 f4 f7 _ _ _ _ rfl rfl rfl rfl) (start8 arg8 _ _ _ _)).2.2.h0
    have eA1 : body_even.sl.v191 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) (i 2).val 1 := by
      unfold body_even.sl.v191 body_even.sl.H8_1_1
      refine (rc_skip arg8.view _ _ _ _ (by decide)).trans ?_
      rw [hz]
      simp only [st2_zero, List.nil_append]
      rw [cov8]
      exact (key _ _ _ _ _ (start7 arg3 arg4 arg7 f3 f4 f7 _ _ _ _ rfl rfl rfl rfl) (start8 arg8 _ _ _ _)).2.2.h1
    have eA2 : body_even.sl.v203 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) (i 2).val 2 := by
      unfold body_even.sl.v203 body_even.sl.H8_2 body_even.sl.H8_1_1
      refine (rc_skip arg8.view _ _ _ _ (by decide)).trans ?_
      refine (rc_skip arg8.view _ _ _ _ (by decide)).trans ?_
      rw [hz]
      simp only [st2_zero, List.nil_append]
      rw [cov8]
      exact (key _ _ _ _ _ (start7 arg3 arg4 arg7 f3 f4 f7 _ _ _ _ rfl rfl rfl rfl) (start8 arg8 _ _ _ _)).2.2.h2
    have eA3 : body_even.sl.v215 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) (i 2).val 3 := by
      unfold body_even.sl.v215 body_even.sl.H8_3 body_even.sl.H8_2 body_even.sl.H8_1_1
      refine (rc_skip arg8.view _ _ _ _ (by decide)).trans ?_
      refine (rc_skip arg8.view _ _ _ _ (by decide)).trans ?_
      refine (rc_skip arg8.view _ _ _ _ (by decide)).trans ?_
      rw [hz]
      simp only [st2_zero, List.nil_append]
      rw [cov8]
      exact (key _ _ _ _ _ (start7 arg3 arg4 arg7 f3 f4 f7 _ _ _ _ rfl rfl rfl rfl) (start8 arg8 _ _ _ _)).2.2.h3
    have e0 : body_even.sl.v227 c i arg3 harg3 arg4 harg4 arg5 harg5 arg6 harg6 arg7 harg7 arg8 harg8 hc1 f3 f4 f5 f7 = Fin_ (View.read (Elt F) arg3.view f3) (View.read (Elt F) arg4.view f4) (View.read (Elt F) arg5.view f5) (i 2).val 0 := by
      unfold body_even.sl.v227 body_even.sl.H8_4 body_even.sl.H8_3 body_even.sl.H8_2 body_even.sl.H8_1_1
      refine (rc_skip arg8.view _ _ _ _ (by decide)).trans ?_
      refine (rc_skip arg8.view _ _ _ _ (by decide)).trans ?_
      refine (rc_skip arg8.view _ _ _ _ (by decide)).trans ?_
      refine (View.readCov_cons_toLoadRect _ _ _ _).trans ?_
      unfold body_even.sl.r_5 body_even.sl.r_6
      rw [eS0, eM0, eA0]
      exact congrArg (k0_pay27 (k0_pay113 (Mx (View.read (Elt F) arg3.view f3) (View.read (Elt F) arg4.view f4) (i 2).val 0) (Sc (View.read (Elt F) arg3.view f3) (View.read (Elt F) arg4.view f4) (i 2).val 0)) (k0_pay114 (Mx (View.read (Elt F) arg3.view f3) (View.read (Elt F) arg4.view f4) (i 2).val 0) (Sc (View.read (Elt F) arg3.view f3) (View.read (Elt F) arg4.view f4) (i 2).val 0)) (Ac (View.read (Elt F) arg3.view f3) (View.read (Elt F) arg4.view f4) (View.read (Elt F) arg5.view f5) (i 2).val 0)) (ld_off arg5 f5 _ (kslab_inb 0 (512 * (i 2).val)) (off17 i hi))
    have e1 : body_even.sl.v234 c i arg3 harg3 arg4 harg4 arg5 harg5 arg6 harg6 arg7 harg7 arg8 harg8 hc1 f3 f4 f5 f7 = Fin_ (View.read (Elt F) arg3.view f3) (View.read (Elt F) arg4.view f4) (View.read (Elt F) arg5.view f5) (i 2).val 1 := by
      unfold body_even.sl.v234 body_even.sl.H8_4 body_even.sl.H8_3 body_even.sl.H8_2
      refine (rc_skip arg8.view _ _ _ _ (by decide)).trans ?_
      refine (rc_skip arg8.view _ _ _ _ (by decide)).trans ?_
      refine (View.readCov_cons_toLoadRect _ _ _ _).trans ?_
      unfold body_even.sl.r_8 body_even.sl.r_14 body_even.sl.r_7
      rw [eS1, eM1, eA1]
      exact congrArg (k0_pay27 (k0_pay113 (Mx (View.read (Elt F) arg3.view f3) (View.read (Elt F) arg4.view f4) (i 2).val 1) (Sc (View.read (Elt F) arg3.view f3) (View.read (Elt F) arg4.view f4) (i 2).val 1)) (k0_pay114 (Mx (View.read (Elt F) arg3.view f3) (View.read (Elt F) arg4.view f4) (i 2).val 1) (Sc (View.read (Elt F) arg3.view f3) (View.read (Elt F) arg4.view f4) (i 2).val 1)) (Ac (View.read (Elt F) arg3.view f3) (View.read (Elt F) arg4.view f4) (View.read (Elt F) arg5.view f5) (i 2).val 1)) (ld_off arg5 f5 _ (kslab_inb 1 (512 * (i 2).val)) (off18 i hi))
    have e2 : body_even.sl.v241 c i arg3 harg3 arg4 harg4 arg5 harg5 arg6 harg6 arg7 harg7 arg8 harg8 hc1 f3 f4 f5 f7 = Fin_ (View.read (Elt F) arg3.view f3) (View.read (Elt F) arg4.view f4) (View.read (Elt F) arg5.view f5) (i 2).val 2 := by
      unfold body_even.sl.v241 body_even.sl.H8_4 body_even.sl.H8_3
      refine (rc_skip arg8.view _ _ _ _ (by decide)).trans ?_
      refine (View.readCov_cons_toLoadRect _ _ _ _).trans ?_
      unfold body_even.sl.r_10 body_even.sl.r_11 body_even.sl.r_9
      rw [eS2, eM2, eA2]
      exact congrArg (k0_pay27 (k0_pay113 (Mx (View.read (Elt F) arg3.view f3) (View.read (Elt F) arg4.view f4) (i 2).val 2) (Sc (View.read (Elt F) arg3.view f3) (View.read (Elt F) arg4.view f4) (i 2).val 2)) (k0_pay114 (Mx (View.read (Elt F) arg3.view f3) (View.read (Elt F) arg4.view f4) (i 2).val 2) (Sc (View.read (Elt F) arg3.view f3) (View.read (Elt F) arg4.view f4) (i 2).val 2)) (Ac (View.read (Elt F) arg3.view f3) (View.read (Elt F) arg4.view f4) (View.read (Elt F) arg5.view f5) (i 2).val 2)) (ld_off arg5 f5 _ (kslab_inb 2 (512 * (i 2).val)) (off19 i hi))
    have e3 : body_even.sl.v248 c i arg3 harg3 arg4 harg4 arg5 harg5 arg6 harg6 arg7 harg7 arg8 harg8 hc1 f3 f4 f5 f7 = Fin_ (View.read (Elt F) arg3.view f3) (View.read (Elt F) arg4.view f4) (View.read (Elt F) arg5.view f5) (i 2).val 3 := by
      unfold body_even.sl.v248 body_even.sl.H8_4
      refine (View.readCov_cons_toLoadRect _ _ _ _).trans ?_
      unfold body_even.sl.r_12 body_even.sl.r_13
      rw [eS3, eM3, eA3]
      exact congrArg (k0_pay27 (k0_pay113 (Mx (View.read (Elt F) arg3.view f3) (View.read (Elt F) arg4.view f4) (i 2).val 3) (Sc (View.read (Elt F) arg3.view f3) (View.read (Elt F) arg4.view f4) (i 2).val 3)) (k0_pay114 (Mx (View.read (Elt F) arg3.view f3) (View.read (Elt F) arg4.view f4) (i 2).val 3) (Sc (View.read (Elt F) arg3.view f3) (View.read (Elt F) arg4.view f4) (i 2).val 3)) (Ac (View.read (Elt F) arg3.view f3) (View.read (Elt F) arg4.view f4) (View.read (Elt F) arg5.view f5) (i 2).val 3)) (ld_off arg5 f5 _ (kslab_inb 3 (512 * (i 2).val)) (off20 i hi))
    unfold body_even.sl.H6_4
    rw [e0, e1, e2, e3]
    exact out_read arg6 _ (Fin_ (View.read (Elt F) arg3.view f3) (View.read (Elt F) arg4.view f4) (View.read (Elt F) arg5.view f5) (i 2).val)
  isplitl [H7]
  · iapply (some_owns c arg7 _)
    iexact H7
  · iapply (some_owns c arg8 _)
    iexact H8

end Cert.KernelIdeal.Att

end
-- ==== Proof.BodyOdd.lean ====
module

public import proofs.«01_k».proof.Proof.Trip
public import proofs.«01_k».proof.Proof.Gen.KernelIdeal.Frame
public import proofs.«01_k».proof.Proof.Body
public import Idealize.ShloMosaic.Lib.Tactic

@[expose] public section

/-! The kernel's body on whole blocks: what it leaves in the result's block, and the run of the launch. -/

set_option maxRecDepth 16384

noncomputable section

namespace Cert.KernelIdeal.Att

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem off21 : ∀ i : grid0.Coords, (i 2).val % 2 = 1 → k0_off21 i = ![min 0 3, min (512 * (i 2).val) 3584, 0] := by decide +kernel

theorem off22 : ∀ i : grid0.Coords, (i 2).val % 2 = 1 → k0_off22 i = ![min 1 3, min (512 * (i 2).val) 3584, 0] := by decide +kernel

theorem off23 : ∀ i : grid0.Coords, (i 2).val % 2 = 1 → k0_off23 i = ![min 2 3, min (512 * (i 2).val) 3584, 0] := by decide +kernel

theorem off24 : ∀ i : grid0.Coords, (i 2).val % 2 = 1 → k0_off24 i = ![min 3 3, min (512 * (i 2).val) 3584, 0] := by decide +kernel

theorem off25 : ∀ i : grid0.Coords, (i 2).val % 2 = 1 → k0_off25 i = ![min 0 3, min (512 * ((i 2).val - 1)) 3584, 0] := by decide +kernel

theorem off26 : ∀ i : grid0.Coords, (i 2).val % 2 = 1 → k0_off26 i = ![min 1 3, min (512 * ((i 2).val - 1)) 3584, 0] := by decide +kernel

theorem off27 : ∀ i : grid0.Coords, (i 2).val % 2 = 1 → k0_off27 i = ![min 2 3, min (512 * ((i 2).val - 1)) 3584, 0] := by decide +kernel

theorem off28 : ∀ i : grid0.Coords, (i 2).val % 2 = 1 → k0_off28 i = ![min 3 3, min (512 * ((i 2).val - 1)) 3584, 0] := by decide +kernel

set_option maxHeartbeats 4000000 in
theorem body_odd (c : Dev nD) (i : grid0.Coords) (arg3 : Memref sig .tc .vmem S4x512x256 .bf16) (harg3 : arg3.IsWhole) (arg4 : Memref sig .tc .vmem S4x4096x256 .bf16) (harg4 : arg4.IsWhole) (arg5 : Memref sig .tc .vmem S4x4096x256 .bf16) (harg5 : arg5.IsWhole) (arg6 : Memref sig .tc .vmem S512x512 .bf16) (harg6 : arg6.IsWhole) (arg7 : Memref sig .tc .vmem S2x4x512x512 .f32) (harg7 : arg7.IsWhole) (arg8 : Memref sig .tc .vmem S4x512x256 .f32) (harg8 : arg8.IsWhole)
    (Q : Vec F S4x512x256 .bf16) (K V : Vec F S4x4096x256 .bf16) (hi : (i 2).val % 2 = 1)
    (E : Set ℕ) (Kt : PUnit → sProp 𝕄) :
    iprop(owns (c : Thread nD τ) arg3 fullShare Q ∗ owns (c : Thread nD τ) arg4 fullShare K ∗ owns (c : Thread nD τ) arg5 fullShare V
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare Q ∗ owns (c : Thread nD τ) arg4 fullShare K ∗ owns (c : Thread nD τ) arg5 fullShare V
        ∗ owns (c : Thread nD τ) arg6 fullShare (Out Q K V (i 2).val) ∗ (∃ d, owns (c : Thread nD τ) arg7 fullShare d) ∗ (∃ d, owns (c : Thread nD τ) arg8 fullShare d)) -∗ Kt ⟨⟩))
      ⊢ wp frame (wpE (defs₀ (F := F)) 𝒱₀ c none) E (cc0_mla_attention i arg3 harg3 arg4 harg4 arg5 harg5 arg6 harg6 arg7 harg7 arg8 harg8) Kt := by
  have hc1 := (cond2_iff i).2 hi
  have hc2 : ¬ k0_cond1 i = 1#1 := fun h => by have := (cond1_iff i).1 h; omega
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, Hk⟩
  sl_unfold [cc0_mla_attention]
  sl_exec! (disch := first | sl_exact hc1 | sl_exact hc2)
  sl_step
  iapply Hk
  isplitl [H3]
  · iexists f3
    isplitr [H3]
    · ipureintro; exact h3
    · iexact H3
  isplitl [H4]
  · iexists f4
    isplitr [H4]
    · ipureintro; exact h4
    · iexact H4
  isplitl [H5]
  · iexists f5
    isplitr [H5]
    · ipureintro; exact h5
    · iexact H5
  isplitl [H6]
  · iexists _
    isplitr [H6]
    rotate_left
    · iexact H6
    ipureintro
    subst h3 h4 h5
    have hz : Scf.trips (k0_t2_loop i).lb (k0_t2_loop i).ub (k0_t2_loop i).st = 0 := trips_t2 i
    obtain ⟨m, hm, hn⟩ : ∃ m, (i 2).val = m + 1 ∧ 2 * (k0_t1_loop i).trips = m := ⟨_, by rw [trips_t1 i]; omega, rfl⟩
    have key := fun a b d G7 G8 h7 h8 => trips_state (F := F) 𝒱₀ c none i arg3 harg3 arg4 harg4 arg5 harg5 arg6 harg6 arg7 harg7 arg8 harg8 a b d f3 f4 f5 G7 G8 h7 h8 _ le_rfl
    rw [hn] at key
    rw [hm]
    have eS0 : body_odd.sl.v155 c i arg3 harg3 arg4 harg4 arg5 harg5 arg6 harg6 arg7 harg7 arg8 harg8 hc1 f3 f4 f5 f7 = Sc (View.read (Elt F) arg3.view f3) (View.read (Elt F) arg4.view f4) m 0 := by
      unfold body_odd.sl.v155 body_odd.sl.H7_4
      refine (rc_skip arg7.view _ _ _ _ (by decide)).trans ?_
      refine (rc_skip arg7.view _ _ _ _ (by decide)).trans ?_
      refine (rc_skip arg7.view _ _ _ _ (by decide)).trans ?_
      refine (rc_skip arg7.view _ _ _ _ (by decide)).trans ?_
      rw [hz]
      simp only [st2_zero, List.nil_append]
      refine (cov7_0 arg7 f7 _ _ _ _ _).trans ?_
      exact (key _ _ _ _ _ (start7 arg3 arg4 arg7 f3 f4 f7 _ _ _ _ rfl rfl rfl rfl) (start8 arg8 _ _ _ _)).2.1.h0
    have eS1 : body_odd.sl.v166 c i arg3 harg3 arg4 harg4 arg5 harg5 arg6 harg6 arg7 harg7 arg8 harg8 hc1 f3 f4 f5 f7 = Sc (View.read (Elt F) arg3.view f3) (View.read (Elt F) arg4.view f4) m 1 := by
      unfold body_odd.sl.v166 body_odd.sl.H7_4
      refine (rc_skip arg7.view _ _ _ _ (by decide)).trans ?_
      refine (rc_skip arg7.view _ _ _ _ (by decide)).trans ?_
      refine (rc_skip arg7.view _ _ _ _ (by decide)).trans ?_
      refine (rc_skip arg7.view _ _ _ _ (by decide)).trans ?_
      rw [hz]
      simp only [st2_zero, List.nil_append]
      refine (cov7_1 arg7 f7 _ _ _ _ _).trans ?_
      exact (key _ _ _ _ _ (start7 arg3 arg4 arg7 f3 f4 f7 _ _ _ _ rfl rfl rfl rfl) (start8 arg8 _ _ _ _)).2.1.h1
    have eS2 : body_odd.sl.v177 c i arg3 harg3 arg4 harg4 arg5 harg5 arg6 harg6 arg7 harg7 arg8 harg8 hc1 f3 f4 f5 f7 = Sc (View.read (Elt F) arg3.view f3) (View.read (Elt F) arg4.view f4) m 2 := by
      unfold body_odd.sl.v177 body_odd.sl.H7_4
      refine (rc_skip arg7.view _ _ _ _ (by decide)).trans ?_
      refine (rc_skip arg7.view _ _ _ _ (by decide)).trans ?_
      refine (rc_skip arg7.view _ _ _ _ (by decide)).trans ?_
      refine (rc_skip arg7.view _ _ _ _ (by decide)).trans ?_
      rw [hz]
      simp only [st2_zero, List.nil_append]
      refine (cov7_2 arg7 f7 _ _ _ _ _).trans ?_
      exact (key _ _ _ _ _ (start7 arg3 arg4 arg7 f3 f4 f7 _ _ _ _ rfl rfl rfl rfl) (start8 arg8 _ _ _ _)).2.1.h2
    have eS3 : body_odd.sl.v188 c i arg3 harg3 arg4 harg4 arg5 harg5 arg6 harg6 arg7 harg7 arg8 harg8 hc1 f3 f4 f5 f7 = Sc (View.read (Elt F) arg3.view f3) (View.read (Elt F) arg4.view f4) m 3 := by
      unfold body_odd.sl.v188 body_odd.sl.H7_4
      refine (rc_skip arg7.view _ _ _ _ (by decide)).trans ?_
      refine (rc_skip arg7.view _ _ _ _ (by decide)).trans ?_
      refine (rc_skip arg7.view _ _ _ _ (by decide)).trans ?_
      refine (rc_skip arg7.view _ _ _ _ (by decide)).trans ?_
      rw [hz]
      simp only [st2_zero, List.nil_append]
      refine (cov7_3 arg7 f7 _ _ _ _ _).trans ?_
      exact (key _ _ _ _ _ (start7 arg3 arg4 arg7 f3 f4 f7 _ _ _ _ rfl rfl rfl rfl) (start8 arg8 _ _ _ _)).2.1.h3
    have eM0 : body_odd.sl.r_1 c i arg3 harg3 arg4 harg4 arg5 harg5 arg6 harg6 arg7 harg7 arg8 harg8 f3 f4 f5 f7 = Mx (View.read (Elt F) arg3.view f3) (View.read (Elt F) arg4.view f4) m 0 := by
      unfold body_odd.sl.r_1
      rw [hz]
      simp only [st2_zero]
      exact congrArg (fun z => z.1) (key _ _ _ _ _ (start7 arg3 arg4 arg7 f3 f4 f7 _ _ _ _ rfl rfl rfl rfl) (start8 arg8 _ _ _ _)).1
    have eM1 : body_odd.sl.r_2 c i arg3 harg3 arg4 harg4 arg5 harg5 arg6 harg6 arg7 harg7 arg8 harg8 f3 f4 f5 f7 = Mx (View.read (Elt F) arg3.view f3) (View.read (Elt F) arg4.view f4) m 1 := by
      unfold body_odd.sl.r_2
      rw [hz]
      simp only [st2_zero]
      exact congrArg (fun z => z.2.1) (key _ _ _ _ _ (start7 arg3 arg4 arg7 f3 f4 f7 _ _ _ _ rfl rfl rfl rfl) (start8 arg8 _ _ _ _)).1
    have eM2 : body_odd.sl.r_3 c i arg3 harg3 arg4 harg4 arg5 harg5 arg6 harg6 arg7 harg7 arg8 harg8 f3 f4 f5 f7 = Mx (View.read (Elt F) arg3.view f3) (View.read (Elt F) arg4.view f4) m 2 := by
      unfold body_odd.sl.r_3
      rw [hz]
      simp only [st2_zero]
      exact congrArg (fun z => z.2.2.1) (key _ _ _ _ _ (start7 arg3 arg4 arg7 f3 f4 f7 _ _ _ _ rfl rfl rfl rfl) (start8 arg8 _ _ _ _)).1
    have eM3 : body_odd.sl.r_4 c i arg3 harg3 arg4 harg4 arg5 harg5 arg6 harg6 arg7 harg7 arg8 harg8 f3 f4 f5 f7 = Mx (View.read (Elt F) arg3.view f3) (View.read (Elt F) arg4.view f4) m 3 := by
      unfold body_odd.sl.r_4
      rw [hz]
      simp only [st2_zero]
      exact congrArg (fun z => z.2.2.2) (key _ _ _ _ _ (start7 arg3 arg4 arg7 f3 f4 f7 _ _ _ _ rfl rfl rfl rfl) (start8 arg8 _ _ _ _)).1
    have eT0 : body_odd.sl.v249 c i arg3 harg3 arg4 harg4 arg5 harg5 arg6 harg6 arg7 harg7 arg8 harg8 hc1 f3 f4 f5 f7 = Sc (View.read (Elt F) arg3.view f3) (View.read (Elt F) arg4.view f4) (m + 1) 0 := by
      unfold body_odd.sl.v249 body_odd.sl.H7_4
      refine (rc_skip arg7.view _ _ _ _ (by decide)).trans ?_
      refine (rc_skip arg7.view _ _ _ _ (by decide)).trans ?_
      refine (rc_skip arg7.view _ _ _ _ (by decide)).trans ?_
      refine (View.readCov_cons_toLoadRect _ _ _ _).trans ?_
      exact congrArg₂ k0_pay5 (ld_off arg3 f3 _ (qslab_inb 0) rfl) (ld_off arg4 f4 _ (kslab_inb 0 (512 * (m + 1))) ((off21 i hi).trans (by rw [hm])))
    have eT1 : body_odd.sl.v265 c i arg3 harg3 arg4 harg4 arg5 harg5 arg6 harg6 arg7 harg7 arg8 harg8 hc1 f3 f4 f5 f7 = Sc (View.read (Elt F) arg3.view f3) (View.read (Elt F) arg4.view f4) (m + 1) 1 := by
      unfold body_odd.sl.v265 body_odd.sl.H7_4
      refine (rc_skip arg7.view _ _ _ _ (by decide)).trans ?_
      refine (rc_skip arg7.view _ _ _ _ (by decide)).trans ?_
      refine (View.readCov_cons_toLoadRect _ _ _ _).trans ?_
      exact congrArg₂ k0_pay5 (ld_off arg3 f3 _ (qslab_inb 1) rfl) (ld_off arg4 f4 _ (kslab_inb 1 (512 * (m + 1))) ((off22 i hi).trans (by rw [hm])))
    have eT2 : body_odd.sl.v281 c i arg3 harg3 arg4 harg4 arg5 harg5 arg6 harg6 arg7 harg7 arg8 harg8 hc1 f3 f4 f5 f7 = Sc (View.read (Elt F) arg3.view f3) (View.read (Elt F) arg4.view f4) (m + 1) 2 := by
      unfold body_odd.sl.v281 body_odd.sl.H7_4 body_odd.sl.r_5
      refine (rc_skip arg7.view _ _ _ _ (by decide)).trans ?_
      refine (View.readCov_cons_toLoadRect _ _ _ _).trans ?_
      exact congrArg₂ k0_pay5 (ld_off arg3 f3 _ (qslab_inb 2) rfl) (ld_off arg4 f4 _ (kslab_inb 2 (512 * (m + 1))) ((off23 i hi).trans (by rw [hm])))
    have eT3 : body_odd.sl.v297 c i arg3 harg3 arg4 harg4 arg5 harg5 arg6 harg6 arg7 harg7 arg8 harg8 hc1 f3 f4 f5 f7 = Sc (View.read (Elt F) arg3.view f3) (View.read (Elt F) arg4.view f4) (m + 1) 3 := by
      unfold body_odd.sl.v297 body_odd.sl.H7_4
      refine (View.readCov_cons_toLoadRect _ _ _ _).trans ?_
      exact congrArg₂ k0_pay5 (ld_off arg3 f3 _ (qslab_inb 3) rfl) (ld_off arg4 f4 _ (kslab_inb 3 (512 * (m + 1))) ((off24 i hi).trans (by rw [hm])))
    have eA0 : body_odd.sl.v199 c i arg3 harg3 arg4 harg4 arg5 harg5 arg6 harg6 arg7 harg7 arg8 harg8 f3 f4 f5 f7 = Ac (View.read (Elt F) arg3.view f3) (View.read (Elt F) arg4.view f4) (View.read (Elt F) arg5.view f5) m 0 := by
      unfold body_odd.sl.v199
      rw [hz]
      simp only [st2_zero, List.nil_append]
      rw [cov8]
      exact (key _ _ _ _ _ (start7 arg3 arg4 arg7 f3 f4 f7 _ _ _ _ rfl rfl rfl rfl) (start8 arg8 _ _ _ _)).2.2.h0
    have eA1 : body_odd.sl.v211 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) m 1 := by
      unfold body_odd.sl.v211 body_odd.sl.H8_1_1
      refine (rc_skip arg8.view _ _ _ _ (by decide)).trans ?_
      rw [hz]
      simp only [st2_zero, List.nil_append]
      rw [cov8]
      exact (key _ _ _ _ _ (start7 arg3 arg4 arg7 f3 f4 f7 _ _ _ _ rfl rfl rfl rfl) (start8 arg8 _ _ _ _)).2.2.h1
    have eA2 : body_odd.sl.v223 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) m 2 := by
      unfold body_odd.sl.v223 body_odd.sl.H8_2 body_odd.sl.H8_1_1
      refine (rc_skip arg8.view _ _ _ _ (by decide)).trans ?_
      refine (rc_skip arg8.view _ _ _ _ (by decide)).trans ?_
      rw [hz]
      simp only [st2_zero, List.nil_append]
      rw [cov8]
      exact (key _ _ _ _ _ (start7 arg3 arg4 arg7 f3 f4 f7 _ _ _ _ rfl rfl rfl rfl) (start8 arg8 _ _ _ _)).2.2.h2
    have eA3 : body_odd.sl.v235 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) m 3 := by
      unfold body_odd.sl.v235 body_odd.sl.H8_3 body_odd.sl.H8_2 body_odd.sl.H8_1_1
      refine (rc_skip arg8.view _ _ _ _ (by decide)).trans ?_
      refine (rc_skip arg8.view _ _ _ _ (by decide)).trans ?_
      refine (rc_skip arg8.view _ _ _ _ (by decide)).trans ?_
      rw [hz]
      simp only [st2_zero, List.nil_append]
      rw [cov8]
      exact (key _ _ _ _ _ (start7 arg3 arg4 arg7 f3 f4 f7 _ _ _ _ rfl rfl rfl rfl) (start8 arg8 _ _ _ _)).2.2.h3
    have eB0 : body_odd.sl.v313 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) (m + 1) 0 := by
      unfold body_odd.sl.v313 body_odd.sl.H8_4 body_odd.sl.H8_3 body_odd.sl.H8_2 body_odd.sl.H8_1_1
      refine (rc_skip arg8.view _ _ _ _ (by decide)).trans ?_
      refine (rc_skip arg8.view _ _ _ _ (by decide)).trans ?_
      refine (rc_skip arg8.view _ _ _ _ (by decide)).trans ?_
      refine (View.readCov_cons_toLoadRect _ _ _ _).trans ?_
      unfold body_odd.sl.r_7 body_odd.sl.r_8
      rw [eS0, eM0, eA0]
      exact congrArg (k0_pay27 (k0_pay12 (Mx (View.read (Elt F) arg3.view f3) (View.read (Elt F) arg4.view f4) m 0) (Sc (View.read (Elt F) arg3.view f3) (View.read (Elt F) arg4.view f4) m 0)) (k0_pay13 (Mx (View.read (Elt F) arg3.view f3) (View.read (Elt F) arg4.view f4) m 0) (Sc (View.read (Elt F) arg3.view f3) (View.read (Elt F) arg4.view f4) m 0)) (Ac (View.read (Elt F) arg3.view f3) (View.read (Elt F) arg4.view f4) (View.read (Elt F) arg5.view f5) m 0)) (ld_off arg5 f5 _ (kslab_inb 0 (512 * m)) ((off25 i hi).trans (by rw [hm, Nat.add_sub_cancel])))
    have eB1 : body_odd.sl.v325 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) (m + 1) 1 := by
      unfold body_odd.sl.v325 body_odd.sl.H8_5 body_odd.sl.H8_4 body_odd.sl.H8_3 body_odd.sl.H8_2
      refine (rc_skip arg8.view _ _ _ _ (by decide)).trans ?_
      refine (rc_skip arg8.view _ _ _ _ (by decide)).trans ?_
      refine (rc_skip arg8.view _ _ _ _ (by decide)).trans ?_
      refine (View.readCov_cons_toLoadRect _ _ _ _).trans ?_
      unfold body_odd.sl.r_10 body_odd.sl.r_12 body_odd.sl.r_11
      rw [eS1, eM1, eA1]
      exact congrArg (k0_pay27 (k0_pay12 (Mx (View.read (Elt F) arg3.view f3) (View.read (Elt F) arg4.view f4) m 1) (Sc (View.read (Elt F) arg3.view f3) (View.read (Elt F) arg4.view f4) m 1)) (k0_pay13 (Mx (View.read (Elt F) arg3.view f3) (View.read (Elt F) arg4.view f4) m 1) (Sc (View.read (Elt F) arg3.view f3) (View.read (Elt F) arg4.view f4) m 1)) (Ac (View.read (Elt F) arg3.view f3) (View.read (Elt F) arg4.view f4) (View.read (Elt F) arg5.view f5) m 1)) (ld_off arg5 f5 _ (kslab_inb 1 (512 * m)) ((off26 i hi).trans (by rw [hm, Nat.add_sub_cancel])))
    have eB2 : body_odd.sl.v337 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) (m + 1) 2 := by
      unfold body_odd.sl.v337 body_odd.sl.H8_6 body_odd.sl.H8_5 body_odd.sl.H8_4 body_odd.sl.H8_3
      refine (rc_skip arg8.view _ _ _ _ (by decide)).trans ?_
      refine (rc_skip arg8.view _ _ _ _ (by decide)).trans ?_
      refine (rc_skip arg8.view _ _ _ _ (by decide)).trans ?_
      refine (View.readCov_cons_toLoadRect _ _ _ _).trans ?_
      unfold body_odd.sl.r_14 body_odd.sl.r_15
      rw [eS2, eM2, eA2]
      exact congrArg (k0_pay27 (k0_pay12 (Mx (View.read (Elt F) arg3.view f3) (View.read (Elt F) arg4.view f4) m 2) (Sc (View.read (Elt F) arg3.view f3) (View.read (Elt F) arg4.view f4) m 2)) (k0_pay13 (Mx (View.read (Elt F) arg3.view f3) (View.read (Elt F) arg4.view f4) m 2) (Sc (View.read (Elt F) arg3.view f3) (View.read (Elt F) arg4.view f4) m 2)) (Ac (View.read (Elt F) arg3.view f3) (View.read (Elt F) arg4.view f4) (View.read (Elt F) arg5.view f5) m 2)) (ld_off arg5 f5 _ (kslab_inb 2 (512 * m)) ((off27 i hi).trans (by rw [hm, Nat.add_sub_cancel])))
    have eB3 : body_odd.sl.v349 c i arg3 harg3 arg4 harg4 arg5 harg5 arg6 harg6 arg7 harg7 arg8 harg8 hc1 f3 f4 f5 f7 = Ac (View.read (Elt F) arg3.view f3) (View.read (Elt F) arg4.view f4) (View.read (Elt F) arg5.view f5) (m + 1) 3 := by
      unfold body_odd.sl.v349 body_odd.sl.H8_7 body_odd.sl.H8_6 body_odd.sl.H8_5 body_odd.sl.H8_4
      refine (rc_skip arg8.view _ _ _ _ (by decide)).trans ?_
      refine (rc_skip arg8.view _ _ _ _ (by decide)).trans ?_
      refine (rc_skip arg8.view _ _ _ _ (by decide)).trans ?_
      refine (View.readCov_cons_toLoadRect _ _ _ _).trans ?_
      unfold body_odd.sl.r_19 body_odd.sl.r_17 body_odd.sl.r_18
      rw [eS3, eM3, eA3]
      exact congrArg (k0_pay27 (k0_pay12 (Mx (View.read (Elt F) arg3.view f3) (View.read (Elt F) arg4.view f4) m 3) (Sc (View.read (Elt F) arg3.view f3) (View.read (Elt F) arg4.view f4) m 3)) (k0_pay13 (Mx (View.read (Elt F) arg3.view f3) (View.read (Elt F) arg4.view f4) m 3) (Sc (View.read (Elt F) arg3.view f3) (View.read (Elt F) arg4.view f4) m 3)) (Ac (View.read (Elt F) arg3.view f3) (View.read (Elt F) arg4.view f4) (View.read (Elt F) arg5.view f5) m 3)) (ld_off arg5 f5 _ (kslab_inb 3 (512 * m)) ((off28 i hi).trans (by rw [hm, Nat.add_sub_cancel])))
    have e0 : body_odd.sl.v361 c i arg3 harg3 arg4 harg4 arg5 harg5 arg6 harg6 arg7 harg7 arg8 harg8 hc1 f3 f4 f5 f7 = Fin_ (View.read (Elt F) arg3.view f3) (View.read (Elt F) arg4.view f4) (View.read (Elt F) arg5.view f5) (m + 1) 0 := by
      unfold body_odd.sl.v361 body_odd.sl.H8_8 body_odd.sl.H8_7 body_odd.sl.H8_6 body_odd.sl.H8_5
      refine (rc_skip arg8.view _ _ _ _ (by decide)).trans ?_
      refine (rc_skip arg8.view _ _ _ _ (by decide)).trans ?_
      refine (rc_skip arg8.view _ _ _ _ (by decide)).trans ?_
      refine (View.readCov_cons_toLoadRect _ _ _ _).trans ?_
      unfold body_odd.sl.r_20 body_odd.sl.r_21 body_odd.sl.r_6
      rw [eS0, eM0, eT0, eB0]
      exact congrArg (k0_pay27 (k0_pay113 (Mx (View.read (Elt F) arg3.view f3) (View.read (Elt F) arg4.view f4) (m + 1) 0) (Sc (View.read (Elt F) arg3.view f3) (View.read (Elt F) arg4.view f4) (m + 1) 0)) (k0_pay114 (Mx (View.read (Elt F) arg3.view f3) (View.read (Elt F) arg4.view f4) (m + 1) 0) (Sc (View.read (Elt F) arg3.view f3) (View.read (Elt F) arg4.view f4) (m + 1) 0)) (Ac (View.read (Elt F) arg3.view f3) (View.read (Elt F) arg4.view f4) (View.read (Elt F) arg5.view f5) (m + 1) 0)) (ld_off arg5 f5 _ (kslab_inb 0 (512 * (m + 1))) ((off21 i hi).trans (by rw [hm])))
    have e1 : body_odd.sl.v368 c i arg3 harg3 arg4 harg4 arg5 harg5 arg6 harg6 arg7 harg7 arg8 harg8 hc1 f3 f4 f5 f7 = Fin_ (View.read (Elt F) arg3.view f3) (View.read (Elt F) arg4.view f4) (View.read (Elt F) arg5.view f5) (m + 1) 1 := by
      unfold body_odd.sl.v368 body_odd.sl.H8_8 body_odd.sl.H8_7 body_odd.sl.H8_6
      refine (rc_skip arg8.view _ _ _ _ (by decide)).trans ?_
      refine (rc_skip arg8.view _ _ _ _ (by decide)).trans ?_
      refine (View.readCov_cons_toLoadRect _ _ _ _).trans ?_
      unfold body_odd.sl.r_22 body_odd.sl.r_23 body_odd.sl.r_29 body_odd.sl.r_9
      rw [eS1, eM1, eT1, eB1]
      exact congrArg (k0_pay27 (k0_pay113 (Mx (View.read (Elt F) arg3.view f3) (View.read (Elt F) arg4.view f4) (m + 1) 1) (Sc (View.read (Elt F) arg3.view f3) (View.read (Elt F) arg4.view f4) (m + 1) 1)) (k0_pay114 (Mx (View.read (Elt F) arg3.view f3) (View.read (Elt F) arg4.view f4) (m + 1) 1) (Sc (View.read (Elt F) arg3.view f3) (View.read (Elt F) arg4.view f4) (m + 1) 1)) (Ac (View.read (Elt F) arg3.view f3) (View.read (Elt F) arg4.view f4) (View.read (Elt F) arg5.view f5) (m + 1) 1)) (ld_off arg5 f5 _ (kslab_inb 1 (512 * (m + 1))) ((off22 i hi).trans (by rw [hm])))
    have e2 : body_odd.sl.v375 c i arg3 harg3 arg4 harg4 arg5 harg5 arg6 harg6 arg7 harg7 arg8 harg8 hc1 f3 f4 f5 f7 = Fin_ (View.read (Elt F) arg3.view f3) (View.read (Elt F) arg4.view f4) (View.read (Elt F) arg5.view f5) (m + 1) 2 := by
      unfold body_odd.sl.v375 body_odd.sl.H8_8 body_odd.sl.H8_7
      refine (rc_skip arg8.view _ _ _ _ (by decide)).trans ?_
      refine (View.readCov_cons_toLoadRect _ _ _ _).trans ?_
      unfold body_odd.sl.r_25 body_odd.sl.r_26 body_odd.sl.r_13 body_odd.sl.r_24
      rw [eS2, eM2, eT2, eB2]
      exact congrArg (k0_pay27 (k0_pay113 (Mx (View.read (Elt F) arg3.view f3) (View.read (Elt F) arg4.view f4) (m + 1) 2) (Sc (View.read (Elt F) arg3.view f3) (View.read (Elt F) arg4.view f4) (m + 1) 2)) (k0_pay114 (Mx (View.read (Elt F) arg3.view f3) (View.read (Elt F) arg4.view f4) (m + 1) 2) (Sc (View.read (Elt F) arg3.view f3) (View.read (Elt F) arg4.view f4) (m + 1) 2)) (Ac (View.read (Elt F) arg3.view f3) (View.read (Elt F) arg4.view f4) (View.read (Elt F) arg5.view f5) (m + 1) 2)) (ld_off arg5 f5 _ (kslab_inb 2 (512 * (m + 1))) ((off23 i hi).trans (by rw [hm])))
    have e3 : body_odd.sl.v382 c i arg3 harg3 arg4 harg4 arg5 harg5 arg6 harg6 arg7 harg7 arg8 harg8 hc1 f3 f4 f5 f7 = Fin_ (View.read (Elt F) arg3.view f3) (View.read (Elt F) arg4.view f4) (View.read (Elt F) arg5.view f5) (m + 1) 3 := by
      unfold body_odd.sl.v382 body_odd.sl.H8_8
      refine (View.readCov_cons_toLoadRect _ _ _ _).trans ?_
      unfold body_odd.sl.r_30 body_odd.sl.r_27 body_odd.sl.r_28 body_odd.sl.r_16
      rw [eS3, eM3, eT3, eB3]
      exact congrArg (k0_pay27 (k0_pay113 (Mx (View.read (Elt F) arg3.view f3) (View.read (Elt F) arg4.view f4) (m + 1) 3) (Sc (View.read (Elt F) arg3.view f3) (View.read (Elt F) arg4.view f4) (m + 1) 3)) (k0_pay114 (Mx (View.read (Elt F) arg3.view f3) (View.read (Elt F) arg4.view f4) (m + 1) 3) (Sc (View.read (Elt F) arg3.view f3) (View.read (Elt F) arg4.view f4) (m + 1) 3)) (Ac (View.read (Elt F) arg3.view f3) (View.read (Elt F) arg4.view f4) (View.read (Elt F) arg5.view f5) (m + 1) 3)) (ld_off arg5 f5 _ (kslab_inb 3 (512 * (m + 1))) ((off24 i hi).trans (by rw [hm])))
    unfold body_odd.sl.H6_4
    rw [e0, e1, e2, e3]
    exact out_read arg6 _ (Fin_ (View.read (Elt F) arg3.view f3) (View.read (Elt F) arg4.view f4) (View.read (Elt F) arg5.view f5) (m + 1))
  isplitl [H7]
  · iapply (some_owns c arg7 _)
    iexact H7
  · iapply (some_owns c arg8 _)
    iexact H8

end Cert.KernelIdeal.Att

end
-- ==== Proof.Run.lean ====
module

public import proofs.«01_k».proof.Proof.BodyOdd
public import proofs.«01_k».proof.Proof.Gen.KernelIdeal.Points

@[expose] public section

/-! The run of the attention's launch: the body at every grid point, and the frame. -/

set_option maxRecDepth 16384

noncomputable section

namespace Cert.KernelIdeal.Att

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem body_triple (c : Dev nD) (i : grid0.Coords) (arg3 : Memref sig .tc .vmem S4x512x256 .bf16) (harg3 : arg3.IsWhole) (arg4 : Memref sig .tc .vmem S4x4096x256 .bf16) (harg4 : arg4.IsWhole) (arg5 : Memref sig .tc .vmem S4x4096x256 .bf16) (harg5 : arg5.IsWhole) (arg6 : Memref sig .tc .vmem S512x512 .bf16) (harg6 : arg6.IsWhole) (arg7 : Memref sig .tc .vmem S2x4x512x512 .f32) (harg7 : arg7.IsWhole) (arg8 : Memref sig .tc .vmem S4x512x256 .f32) (harg8 : arg8.IsWhole)
    (Q : Vec F S4x512x256 .bf16) (K V : Vec F S4x4096x256 .bf16) (E : Set ℕ) (Kt : PUnit → sProp 𝕄) :
    iprop(owns (c : Thread nD τ) arg3 fullShare Q ∗ owns (c : Thread nD τ) arg4 fullShare K ∗ owns (c : Thread nD τ) arg5 fullShare V
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare Q ∗ owns (c : Thread nD τ) arg4 fullShare K ∗ owns (c : Thread nD τ) arg5 fullShare V
        ∗ owns (c : Thread nD τ) arg6 fullShare (Out Q K V (i 2).val) ∗ (∃ d, owns (c : Thread nD τ) arg7 fullShare d) ∗ (∃ d, owns (c : Thread nD τ) arg8 fullShare d)) -∗ Kt ⟨⟩))
      ⊢ wp frame (wpE (defs₀ (F := F)) 𝒱₀ c none) E (cc0_mla_attention i arg3 harg3 arg4 harg4 arg5 harg5 arg6 harg6 arg7 harg7 arg8 harg8) Kt := by
  rcases Nat.mod_two_eq_zero_or_one (i 2).val with h | h
  · exact body_even c i arg3 harg3 arg4 harg4 arg5 harg5 arg6 harg6 arg7 harg7 arg8 harg8 Q K V h E Kt
  · exact body_odd c i arg3 harg3 arg4 harg4 arg5 harg5 arg6 harg6 arg7 harg7 arg8 harg8 Q K V h E Kt

theorem back_owns (c : Dev nD) (b : Ref sig .tc) (g : b.ty.Contents (Elt F)) :
    (owns (c : Thread nD τ) (Memref.whole b) fullShare g : sProp 𝕄) ⊢ iprop(∃ f, ((c : Thread nD τ).loc b) ↦{fullShare} f) := by
  rw [owns_whole]
  iintro H
  iexists _
  iexact H

variable (m : (ℓ : Loc nD τ sig) → Buf (Elt F) ℓ) (ρ : Dev nD → PrngReg)

/-- What the body leaves in the result's block at grid point `t`. -/
def outsAt (c : Dev nD) (t : Fin cfg0.N) : Vec F S512x512 .bf16 :=
  Out (iblk m c 0 t) (iblk m c 1 t) (iblk m c 2 t) (grid0.coords t 2).val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold outsAt ΦA
  rw [scopedRest0_eq]
  iintro ⟨⟨⟨⟨%g0, S0⟩, ⟨%g1, S1⟩⟩, HR⟩, Ho, ⟨%d0, H0⟩, ⟨%d1, H1⟩, ⟨%d2, H2⟩, ⟨%d3, H3⟩⟩
  iapply (body_triple c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [S0]
  · iexists _
    rw [owns_whole]
    iexact S0
  isplitl [S1]
  · iexists _
    rw [owns_whole]
    iexact S1
  iintro ⟨H0, H1, H2, H3, ⟨%g0', S0⟩, ⟨%g1', S1⟩⟩
  isplitl [S0 S1 HR]
  · isplitr [HR]
    · isplitl [S0]
      · iapply (back_owns c cc0_scratch0 g0'); iexact S0
      · iapply (back_owns c cc0_scratch1 g1'); iexact S1
    · iexact HR
  isplitl [Ho]; · iexact Ho
  isplitl [H0]; · iexact H0
  isplitl [H1]; · iexact H1
  isplitl [H2]; · iexact H2
  rw [show (win0 3).flush t = true from flush0_3 t]
  cases idle0 3 (grid0.coords t)
  · iexact H3
  · iexact H3

set_option backward.isDefEq.respectTransparency.types false in
/-- The launch's run: every array ends at what the proof data says, every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.KernelIdeal.Att

end
-- ==== Proof.Frames.lean ====
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

/-! The frames of the attention and of its reference, from the one run of `Run.lean` over any float values. -/

noncomputable section

namespace Cert.Att

open Idealize.ShloMosaic Idealize.ShloMosaic.TcCoe Idealize.SL.Sem

/-! The two printings of the kernel have one text: one body, one body table. -/

theorem same_body : @Cert.Kernel.cc0_mla_attention Bits _ _ = @Cert.KernelIdeal.cc0_mla_attention Bits _ _ := rfl

theorem same_main : Cert.Kernel.main (F := Bits) = Cert.KernelIdeal.main (F := Bits) := rfl

theorem same_table : Cert.Kernel.defs₀ (F := Bits) = Cert.KernelIdeal.defs₀ (F := Bits) := by
  unfold Cert.Kernel.defs₀ Cert.KernelIdeal.defs₀
  refine congrArg Defs.onTc ?_
  funext a b
  rcases a with ⟨a, ha⟩
  obtain _ | a := a
  · rcases b with ⟨t, s⟩
    exact congrFun (congrFun (congrFun (congrFun (congrFun (congrFun (congrFun (congrFun (congrFun (congrFun (congrFun (congrFun (congrFun same_body _) _) _) _) _) _) _) _) _) _) _) _) _
  · exact absurd ha (by omega)

theorem same_defs : Cert.Kernel.defs (F := Bits) = Cert.KernelIdeal.defs (F := Bits) := by
  unfold Cert.Kernel.defs Cert.KernelIdeal.defs
  exact congrArg (Pipeline.defs _) same_table

theorem frame_attention : Cert.quiescent_Kernel := fun m ρ _ => by
  rw [same_defs, same_main]
  exact θ_run_with_sems (Cert.KernelIdeal.Gen.frame_of (F := Bits) m ρ (Cert.KernelIdeal.Att.dats m) fun _ _ => rfl)
    (Cert.KernelIdeal.Att.run_main (F := Bits) m ρ)

theorem frame_attention_ideal : Cert.quiescent_KernelIdeal := fun m ρ _ =>
  θ_run_with_sems (Cert.KernelIdeal.Gen.frame_of (F := Ideal) m ρ (Cert.KernelIdeal.Att.dats m) fun _ _ => rfl)
    (Cert.KernelIdeal.Att.run_main (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The attention's result array after its launch. -/
def final (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v18) :=
  (Cert.KernelIdeal.Att.dats m 0 c).arrAt 3 Cert.KernelIdeal.cfg0.N

theorem run_final (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v18) = final m c) :=
  (θ_run Cert.KernelIdeal.defs _ _).mono (fun _ h c => (h.1 c).1 3) (Cert.KernelIdeal.Att.run_main (F := Ideal) m ρ)

end Cert.Att

end
-- ==== Proof.Soft.lean ====
module

public import Idealize.ShloMosaic.PureOps.Ideal
public import Idealize.ShloMosaic.PureOps.Ideal.Laws
public import Mathlib.Analysis.SpecialFunctions.Pow.Real

@[expose] public section

/-! A softmax-weighted sum taken block by block: the running row maximum, the sums rescaled to it, and the quotient
at the end, over extended reals. The scores come as weights `u i ≥ 0`: a score is `log₂ (u i)`, and `⊥` where `u i = 0`. -/

noncomputable section

namespace Cert.Soft

open Idealize.ShloMosaic
open scoped BigOperators

theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- A score of weight `w`: its logarithm to base two, or minus infinity. -/
def score (w : ℝ) : EReal := if 0 < w then ((Real.log w / Real.log 2 : ℝ) : EReal) else ⊥

/-- The factor `2 ^ (-M)`. -/
def g (M : ℝ) : ℝ := Real.exp (-(Real.log 2 * M))

theorem g_pos (M : ℝ) : 0 < g M := Real.exp_pos _

theorem log_two_ne : Real.log 2 ≠ 0 := (Real.log_pos (by norm_num)).ne'

theorem exp2_score (w : ℝ) (hw : 0 ≤ w) (M : ℝ) : Ideal.exp2 (score w - (M : EReal)) = ((w * g M : ℝ) : EReal) := by
  unfold score
  split
  · rename_i h
    rw [← EReal.coe_sub, Ideal.exp2_coe]
    congr 1
    rw [Real.rpow_eq_pow, Real.rpow_def_of_pos (by norm_num), g, mul_sub, Real.exp_sub, mul_div_cancel₀ _ log_two_ne, Real.exp_log h, Real.exp_neg]
    rfl
  · rename_i h
    have : w = 0 := le_antisymm (not_lt.1 h) hw
    rw [EReal.bot_sub, Ideal.exp2_bot, this, zero_mul, EReal.coe_zero]

theorem exp2_sub (M M' : ℝ) : Ideal.exp2 ((M : EReal) - (M' : EReal)) = ((g M' / g M : ℝ) : EReal) := by
  rw [← EReal.coe_sub, Ideal.exp2_coe]
  congr 1
  rw [Real.rpow_eq_pow, Real.rpow_def_of_pos (by norm_num), g, g, ← Real.exp_sub]
  congr 1
  ring

theorem max_real {ι : Type} (s : Finset ι) (f : ι → EReal) (m : EReal) (hm : m ≠ ⊤) (hf : ∀ i ∈ s, f i ≠ ⊤)
    (h0 : ∃ i ∈ s, f i ≠ ⊥) : ∃ M : ℝ, max m (s.fold max ⊥ f) = (M : EReal) := by
  have h1 : max m (s.fold max ⊥ f) ≠ ⊤ := by
    have : s.fold max ⊥ f < ⊤ := (Finset.fold_max_lt _).2 ⟨bot_lt_top, fun i hi => lt_top_iff_ne_top.2 (hf i hi)⟩
    exact (max_lt (lt_top_iff_ne_top.2 hm) this).ne
  have h2 : max m (s.fold max ⊥ f) ≠ ⊥ := by
    obtain ⟨i, hi, hne⟩ := h0
    have : ⊥ < s.fold max ⊥ f := (Finset.lt_fold_max _).2 (Or.inr ⟨i, hi, bot_lt_iff_ne_bot.2 hne⟩)
    exact (lt_of_lt_of_le this (le_max_right _ _)).ne'
  exact ⟨_, (EReal.coe_toReal h1 h2).symm⟩

theorem score_ne_top (w : ℝ) : score w ≠ ⊤ := by
  unfold score
  split
  · exact EReal.coe_ne_top _
  · exact bot_ne_top

theorem score_ne_bot (w : ℝ) (h : 0 < w) : score w ≠ ⊥ := by
  unfold score
  rw [if_pos h]
  exact EReal.coe_ne_bot _

section Online
variable {ι : Type} (u : ℕ → ℝ) (v : ι → ℕ → EReal)

/-- What the running maximum `m` and the sums `A` are after the first `N` keys. -/
def Inv (N : ℕ) (m : EReal) (A : ι → EReal) : Prop :=
  (N = 0 ∧ m = ⊥ ∧ ∀ e, A e = 0) ∨
    ∃ M : ℝ, m = (M : EReal) ∧ ∀ e, A e = ∑ i ∈ Finset.range N, ((u i * g M : ℝ) : EReal) * v e i

theorem inv_step (hu : ∀ i, 0 ≤ u i) (N W : ℕ) (m : EReal) (A : ι → EReal) (h : Inv u v N m A) (x : Fin W → EReal)
    (hx : ∀ c, x c = score (u (N + c.val))) (h0 : ∃ c : Fin W, 0 < u (N + c.val)) (m' : EReal)
    (hm' : m' = max m ((Finset.univ : Finset (Fin W)).fold max ⊥ x)) (A' : ι → EReal)
    (hA' : ∀ e, A' e = Ideal.exp2 (m - m') * A e + ∑ c : Fin W, Ideal.exp2 (x c - m') * v e (N + c.val)) :
    Inv u v (N + W) m' A' := by
  have hm : m ≠ ⊤ := by
    rcases h with ⟨_, h, _⟩ | ⟨M, h, _⟩ <;> rw [h]
    · exact bot_ne_top
    · exact EReal.coe_ne_top _
  obtain ⟨M', hM'⟩ := max_real Finset.univ x m hm (fun c _ => by rw [hx]; exact score_ne_top _)
    (by obtain ⟨c, hc⟩ := h0; exact ⟨c, Finset.mem_univ _, by rw [hx]; exact score_ne_bot _ hc⟩)
  rw [hM'] at hm'
  subst hm'
  refine Or.inr ⟨M', rfl, fun e => ?_⟩
  have hnew : ∑ c : Fin W, Ideal.exp2 (x c - (M' : EReal)) * v e (N + c.val)
      = ∑ i ∈ Finset.range W, ((u (N + i) * g M' : ℝ) : EReal) * v e (N + i) := by
    rw [Finset.sum_range]
    exact Finset.sum_congr rfl fun c _ => by rw [hx, exp2_score _ (hu _)]
  rw [hA', hnew, Finset.sum_range_add]
  congr 1
  rcases h with ⟨h1, h2, h3⟩ | ⟨M, h2, h3⟩
  · subst h1
    rw [h2, h3, mul_zero, Finset.range_zero, Finset.sum_empty]
  · rw [h2, h3, exp2_sub, coe_mul_sum _ _ (div_nonneg (g_pos _).le (g_pos _).le)]
    refine Finset.sum_congr rfl fun i _ => ?_
    rw [← mul_assoc, ← EReal.coe_mul]
    congr 2
    have := (g_pos M).ne'
    field_simp

/-- The quotient at the end is the weighted mean. -/
theorem inv_quot (N : ℕ) (m : EReal) (A : ι → EReal) (h : Inv u v N m A) (hpos : 0 < ∑ i ∈ Finset.range N, u i)
    (e l : ι) (hl : ∀ i, i < N → v l i = 1) (hu : ∀ i, 0 ≤ u i) :
    Ideal.div (A e) (A l) = ∑ i ∈ Finset.range N, ((u i / ∑ i ∈ Finset.range N, u i : ℝ) : EReal) * v e i := by
  rcases h with ⟨h1, _, _⟩ | ⟨M, _, h⟩
  · subst h1
    simp at hpos
  have hden : A l = (((∑ i ∈ Finset.range N, u i) * g M : ℝ) : EReal) := by
    rw [h, Finset.sum_mul, coe_sum]
    exact Finset.sum_congr rfl fun i hi => by rw [hl i (Finset.mem_range.1 hi), mul_one]
  have hne : (∑ i ∈ Finset.range N, u i) * g M ≠ 0 := (mul_pos hpos (g_pos M)).ne'
  rw [hden, Ideal.div_coe hne, h, mul_comm, coe_mul_sum _ _ (by have := mul_pos hpos (g_pos M); positivity)]
  refine Finset.sum_congr rfl fun i _ => ?_
  rw [← mul_assoc, ← EReal.coe_mul]
  congr 2
  have := (g_pos M).ne'
  field_simp

end Online

/-- The score to the natural base. -/
def nscore (w : ℝ) : EReal := if 0 < w then ((Real.log w : ℝ) : EReal) else ⊥

theorem exp_nscore (w : ℝ) (hw : 0 ≤ w) (Y : ℝ) : Ideal.exp (nscore w - (Y : EReal)) = ((w * Real.exp (-Y) : ℝ) : EReal) := by
  unfold nscore
  split
  · rename_i h
    rw [← EReal.coe_sub, Ideal.exp_coe]
    congr 1
    rw [Real.exp_sub, Real.exp_log h, Real.exp_neg]
    rfl
  · rename_i h
    have : w = 0 := le_antisymm (not_lt.1 h) hw
    rw [EReal.bot_sub, Ideal.exp_bot, this, zero_mul, EReal.coe_zero]

/-- The weights of a softmax over `N` scores. -/
theorem softmax_weight {N : ℕ} (u : Fin N → ℝ) (hu : ∀ i, 0 ≤ u i) (hpos : ∃ i, 0 < u i) (Y : EReal)
    (hY : Y = max ⊥ ((Finset.univ : Finset (Fin N)).fold max ⊥ fun i => nscore (u i))) (k : Fin N) :
    Ideal.div (Ideal.exp (nscore (u k) - Y)) (∑ i : Fin N, Ideal.exp (nscore (u i) - Y)) = ((u k / ∑ i, u i : ℝ) : EReal) := by
  obtain ⟨M, hM⟩ := max_real Finset.univ (fun i => nscore (u i)) ⊥ bot_ne_top
    (fun i _ => by simp only [nscore]; split; exacts [EReal.coe_ne_top _, bot_ne_top])
    (by obtain ⟨i, hi⟩ := hpos; exact ⟨i, Finset.mem_univ _, by simp only [nscore, if_pos hi]; exact EReal.coe_ne_bot _⟩)
  rw [hM] at hY
  subst hY
  have hL : 0 < ∑ i, u i := by
    obtain ⟨i, hi⟩ := hpos
    exact lt_of_lt_of_le hi (Finset.single_le_sum (fun j _ => hu j) (Finset.mem_univ i))
  have hden : ∑ i : Fin N, Ideal.exp (nscore (u i) - (M : EReal)) = (((∑ i, u i) * Real.exp (-M) : ℝ) : EReal) := by
    rw [Finset.sum_mul, coe_sum]
    exact Finset.sum_congr rfl fun i _ => exp_nscore _ (hu i) M
  have hne : (∑ i, u i) * Real.exp (-M) ≠ 0 := (mul_pos hL (Real.exp_pos _)).ne'
  rw [hden, exp_nscore _ (hu k), Ideal.div_coe hne, ← EReal.coe_mul]
  congr 1
  have := (Real.exp_pos (-M)).ne'
  field_simp

end Cert.Soft

end
-- ==== Proof.Rows.lean ====
module

public import proofs.«01_k».proof.Proof.State
public import proofs.«01_k».proof.Proof.Soft
public import Idealize.ShloMosaic.Lib.ValueIdx
public import Idealize.ShloMosaic.Lib.ValueLayout
public import Idealize.ShloMosaic.Lib.ValueLayoutCasts
public import Idealize.ShloMosaic.Lib.KernelVsHost
public import Idealize.ShloMosaic.Lib.MatmulPlain
public import Idealize.ShloMosaic.Lib.WordCmp
public import Idealize.ShloMosaic.Lib.Pipeline.Value

@[expose] public section

/-! The attention kernel's values over the extended reals, an element at a time. -/

set_option maxRecDepth 16384

noncomputable section

namespace Cert.KernelIdeal.Att

open Idealize.ShloMosaic Idealize.ShloMosaic.TcCoe Idealize.ShloMosaic.ValueIdx
open Cert.KernelIdeal Cert.KernelIdeal.Gen

theorem bits_bot : Ideal.ofBits .f32 0xFF800000#32 = (⊥ : EReal) := by
  simp [Ideal.ofBits, Ideal.ieee]

/-- The largest of a row of 512 entries. -/
abbrev rowMax (x : Fin 512 → EReal) : EReal := (Finset.univ : Finset (Fin 512)).fold max ⊥ x

theorem up4 (x : S512x512.Idx → EReal) (h : S512x512.ShapeCasts S1x1x512x512) (r c : Fin 512) :
    shapeCast S1x1x512x512 x h (ix4 (0 : Fin 1) (0 : Fin 1) r c) = x (ix2 r c) :=
  shapeCast_apply x h _ _ (by
    rw [Shape.rowMajor_val_four, Shape.rowMajor_val_two]
    show r.val * 512 + c.val = ((0 * 1 + 0) * 512 + r.val) * 512 + c.val
    omega)

theorem down4 (x : S1x1x512x512.Idx → EReal) (h : S1x1x512x512.ShapeCasts S512x512) (r c : Fin 512) :
    shapeCast S512x512 x h (ix2 r c) = x (ix4 (0 : Fin 1) (0 : Fin 1) r c) :=
  shapeCast_apply x h _ _ (by
    rw [Shape.rowMajor_val_four, Shape.rowMajor_val_two]
    show ((0 * 1 + 0) * 512 + r.val) * 512 + c.val = r.val * 512 + c.val
    omega)

theorem col_512 (x : S512x1.Idx → EReal) (h : S512x1.Broadcasts S512x512) (r c : Fin 512) :
    broadcastTo S512x512 x h (ix2 r c) = x (ix2 r (0 : Fin 1)) :=
  broadcastTo_apply x h _ _ fun a => by match a with | ⟨0, _⟩ => rfl | ⟨1, _⟩ => rfl

theorem col_256 (x : S512x1.Idx → EReal) (h : S512x1.Broadcasts S512x256) (r : Fin 512) (c : Fin 256) :
    broadcastTo S512x256 x h (ix2 r c) = x (ix2 r (0 : Fin 1)) :=
  broadcastTo_apply x h _ _ fun a => by match a with | ⟨0, _⟩ => rfl | ⟨1, _⟩ => rfl

theorem row_lift (r k : Fin 512) : reduces_S512x512_S512.lift (ix1 r) k = ix2 r k := by
  funext a
  apply Fin.ext
  match a with
  | ⟨0, _⟩ => rfl
  | ⟨1, _⟩ => rfl

theorem row_max (x : FVec Ideal S512x512 .f32) (r : Fin 512) :
    multiReduction .maximumf [1] S512 x 0xFF800000#32 reduces_S512x512_S512 (.inl rfl) rfl (ix1 r)
      = rowMax fun c => x (ix2 r c) := by
  refine (Ideal.multiReduction_maximumf_single (a := (1 : Fin S512x512.rank)) x _ _ _ _ _).trans ?_
  show Finset.fold max (Ideal.ofBits .f32 0xFF800000#32) _ _ = _
  rw [bits_bot]
  exact congrArg (fun f => Finset.fold max ⊥ f (Finset.univ : Finset (Fin 512))) (funext fun k => congrArg x (row_lift r k))

theorem pay5_at (q k : Vec Ideal S1x512x256 .bf16) (r c : Fin 512) :
    k0_pay5 q k (ix4 (0 : Fin 1) (0 : Fin 1) r c) = ∑ d : Fin 256, q (ix3 (0 : Fin 1) r d) * k (ix3 (0 : Fin 1) c d) := by
  unfold k0_pay5
  refine (up4 _ _ r c).trans ?_
  refine (Ideal.matmul_transposedRhs_apply (M := 512) (K := 256) (N := 512) none _ _ _ r c).trans ?_
  rw [constant_apply]
  show Ideal.ofBits .f32 0x00000000#32 + _ = _
  rw [Ideal.ofBits_zero_f32, zero_add]
  refine Finset.sum_congr rfl fun d _ => ?_
  exact congrArg₂ (· * ·) (shapeCast_1ab_ab_apply q _ r d) (shapeCast_1ab_ab_apply k _ c d)

theorem pay11_at (m : FVec Ideal S512x1 .f32) (s : Vec Ideal S1x1x512x512 .f32) (r : Fin 512) :
    k0_pay11 m s (ix2 r (0 : Fin 1)) = max (m (ix2 r (0 : Fin 1))) (rowMax fun c => s (ix4 (0 : Fin 1) (0 : Fin 1) r c)) := by
  unfold k0_pay11
  rw [maximumf_apply]
  show max _ _ = _
  refine congrArg _ ((shapeCast_a_a1_apply _ _ r 0).trans ((row_max _ r).trans ?_))
  exact congrArg _ (funext fun c => down4 s _ r c)

theorem pay12_at (m : FVec Ideal S512x1 .f32) (s : Vec Ideal S1x1x512x512 .f32) (r : Fin 512) :
    k0_pay12 m s (ix2 r (0 : Fin 1)) = Ideal.exp2 (m (ix2 r (0 : Fin 1)) - k0_pay11 m s (ix2 r (0 : Fin 1))) := rfl

theorem pay13_at (m : FVec Ideal S512x1 .f32) (s : Vec Ideal S1x1x512x512 .f32) (r c : Fin 512) :
    k0_pay13 m s (ix2 r c)
      = Ideal.exp2 (s (ix4 (0 : Fin 1) (0 : Fin 1) r c) - k0_pay11 m s (ix2 r (0 : Fin 1))) := by
  refine congrArg Ideal.exp2 ?_
  exact congrArg₂ (· - ·) (down4 s _ r c) (col_512 _ _ r c)

theorem pay111_at (s : Vec Ideal S1x1x512x512 .f32) (r c : Fin 512) :
    k0_pay111 s (ix2 r c) = if c.val ≤ r.val then s (ix4 (0 : Fin 1) (0 : Fin 1) r c) else ⊥ := by
  unfold k0_pay111
  have hb : cmpi .sge (iota .tc S512x512 32 [0] iota_S512x512_d0_w32) (iota .tc S512x512 32 [1] iota_S512x512_d1_w32) (ix2 r c)
      = BitVec.ofBool (decide (c.val ≤ r.val)) := by
    show IntOp.cmpi .sge (iota .tc S512x512 32 [0] iota_S512x512_d0_w32 (ix2 r c)) (iota .tc S512x512 32 [1] iota_S512x512_d1_w32 (ix2 r c)) = _
    rw [iota_single_apply, iota_single_apply]
    exact WordCmp.cmpi_sge_ofNat (lt_of_lt_of_le r.isLt (by decide)) (lt_of_lt_of_le c.isLt (by decide))
  rw [select_apply, broadcast_apply, down4, hb]
  show _ = if _ then _ else _
  by_cases h : c.val ≤ r.val
  · rw [if_pos h, decide_eq_true h]
    rfl
  · rw [if_neg h, decide_eq_false h]
    exact bits_bot

theorem pay112_at (m : FVec Ideal S512x1 .f32) (s : Vec Ideal S1x1x512x512 .f32) (r : Fin 512) :
    k0_pay112 m s (ix2 r (0 : Fin 1)) = max (m (ix2 r (0 : Fin 1))) (rowMax fun c => k0_pay111 s (ix2 r c)) := by
  unfold k0_pay112
  rw [maximumf_apply]
  show max _ _ = _
  exact congrArg _ ((shapeCast_a_a1_apply _ _ r 0).trans (row_max _ r))

theorem pay113_at (m : FVec Ideal S512x1 .f32) (s : Vec Ideal S1x1x512x512 .f32) (r : Fin 512) :
    k0_pay113 m s (ix2 r (0 : Fin 1)) = Ideal.exp2 (m (ix2 r (0 : Fin 1)) - k0_pay112 m s (ix2 r (0 : Fin 1))) := rfl

theorem pay114_at (m : FVec Ideal S512x1 .f32) (s : Vec Ideal S1x1x512x512 .f32) (r c : Fin 512) :
    k0_pay114 m s (ix2 r c) = Ideal.exp2 (k0_pay111 s (ix2 r c) - k0_pay112 m s (ix2 r (0 : Fin 1))) := by
  refine congrArg Ideal.exp2 ?_
  exact congrArg₂ (· - ·) rfl (col_512 _ _ r c)

theorem pay27_at (al : FVec Ideal S512x1 .f32) (p : FVec Ideal S512x512 .bf16) (a : Vec Ideal S1x512x256 .f32)
    (v : Vec Ideal S1x512x256 .bf16) (r : Fin 512) (e : Fin 256) :
    k0_pay27 al p a v (ix3 (0 : Fin 1) r e)
      = al (ix2 r (0 : Fin 1)) * a (ix3 (0 : Fin 1) r e) + ∑ c : Fin 512, p (ix2 r c) * v (ix3 (0 : Fin 1) c e) := by
  unfold k0_pay27
  refine (shapeCast_ab_1ab_apply _ _ 0 r e).trans ?_
  rw [addf_apply]
  refine congrArg₂ (· + ·) ?_ ?_
  · rw [mulf_apply]
    exact congrArg₂ (· * ·) (col_256 _ _ r e) (shapeCast_1ab_ab_apply a _ r e)
  · refine (Ideal.matmul_plain_apply (M := 512) (K := 512) (N := 256) none _ _ _ r e).trans ?_
    rw [constant_apply]
    show Ideal.ofBits .f32 0x00000000#32 + _ = _
    rw [Ideal.ofBits_zero_f32, zero_add]
    exact Finset.sum_congr rfl fun d _ => congrArg₂ (· * ·) rfl (shapeCast_1ab_ab_apply v _ d e)

theorem pay1_at (a : Vec Ideal S1x512x256 .f32) (r : Fin 512) (e : Fin 128) :
    k0_pay1 a (ix2 r e) = Ideal.div (a (ix3 (0 : Fin 1) r (⟨e.val, by omega⟩ : Fin 256)))
      (a (ix3 (0 : Fin 1) r (⟨128 + e.val, by omega⟩ : Fin 256))) := by
  unfold k0_pay1
  show Ideal.div _ _ = _
  refine congrArg₂ Ideal.div ?_ ?_
  · refine (extractStridedSlice_apply _ _ _ _ (ix2 r (⟨e.val, by omega⟩ : Fin 256)) fun a => ?_).trans (shapeCast_1ab_ab_apply a _ r _)
    match a with
    | ⟨0, _⟩ => exact (Nat.zero_add _).symm
    | ⟨1, _⟩ => exact (Nat.zero_add _).symm
  · refine (extractStridedSlice_apply _ _ _ _ (ix2 r (⟨128 + e.val, by omega⟩ : Fin 256)) fun a => ?_).trans (shapeCast_1ab_ab_apply a _ r _)
    match a with
    | ⟨0, _⟩ => exact (Nat.zero_add _).symm
    | ⟨1, _⟩ => rfl

/-! ## The blocks the kernel reads, and the result -/

section Whole

variable (Q : Vec Ideal S4x512x256 .bf16) (K V : Vec Ideal S4x4096x256 .bf16)

theorem qslab_at {e : EltTy} (X : Vec Ideal S4x512x256 e) (h : Fin 4) (r : Fin 512) (d : Fin 256) :
    qslab X h.val (ix3 (0 : Fin 1) r d) = X (ix3 h r d) := by
  rw [qslab, View.ld_unit]
  refine congrArg X (funext fun a => Fin.ext ?_)
  match a with
  | ⟨0, _⟩ => show min h.val 3 + 0 = h.val; omega
  | ⟨1, _⟩ => show 0 + r.val = r.val; omega
  | ⟨2, _⟩ => show 0 + d.val = d.val; omega

theorem kslab_at (h : Fin 4) (j : ℕ) (hj : j < 8) (c : Fin 512) (d : Fin 256) :
    kslab K h.val (512 * j) (ix3 (0 : Fin 1) c d) = K (ix3 h (⟨512 * j + c.val, by omega⟩ : Fin 4096) d) := by
  rw [kslab, View.ld_unit]
  refine congrArg K (funext fun a => Fin.ext ?_)
  match a with
  | ⟨0, _⟩ => show min h.val 3 + 0 = h.val; omega
  | ⟨1, _⟩ => show min (512 * j) 3584 + c.val = 512 * j + c.val; omega
  | ⟨2, _⟩ => show 0 + d.val = d.val; omega

theorem Sc_at (h : Fin 4) (j : ℕ) (hj : j < 8) (r c : Fin 512) :
    Sc Q K j h.val (ix4 (0 : Fin 1) (0 : Fin 1) r c)
      = ∑ d : Fin 256, Q (ix3 h r d) * K (ix3 h (⟨512 * j + c.val, by omega⟩ : Fin 4096) d) := by
  rw [Sc, pay5_at]
  exact Finset.sum_congr rfl fun d _ => by rw [qslab_at, kslab_at K h j hj]

theorem score_exp (y : ℝ) : Soft.score (Real.exp y) = ((y / Real.log 2 : ℝ) : EReal) := by
  rw [Soft.score, if_pos (Real.exp_pos y), Real.log_exp]

/-- A key's weight: the exponential of its score, or zero past the query's own position. -/
def wt (y : ℕ → ℝ) (p i : ℕ) : ℝ := if i ≤ p then Real.exp (y i) else 0

theorem wt_nonneg (y : ℕ → ℝ) (p i : ℕ) : 0 ≤ wt y p i := by
  unfold wt
  split
  · exact (Real.exp_pos _).le
  · exact le_rfl

theorem wt_pos (y : ℕ → ℝ) (p i : ℕ) (h : i ≤ p) : 0 < wt y p i := by
  rw [wt, if_pos h]
  exact Real.exp_pos _

theorem wt_score (y : ℕ → ℝ) (p i : ℕ) : Soft.score (wt y p i) = if i ≤ p then ((y i / Real.log 2 : ℝ) : EReal) else ⊥ := by
  unfold wt
  split
  · exact score_exp _
  · rw [Soft.score, if_neg (lt_irrefl _)]

variable (y : ℕ → ℝ) (n : ℕ) (hn : n < 8) (h : Fin 4) (r : Fin 512) (v : Fin 256 → ℕ → EReal)
  (hv : ∀ (e : Fin 256) (i : ℕ) (hi : i < 4096), v e i = V (ix3 h (⟨i, hi⟩ : Fin 4096) e))
  (hs : ∀ (i : ℕ) (hi : i < 4096),
    ∑ d : Fin 256, Q (ix3 h r d) * K (ix3 h (⟨i, hi⟩ : Fin 4096) d) = ((y i / Real.log 2 : ℝ) : EReal))

include hn hv hs

theorem inv_before (j : ℕ) (hj : j ≤ n) :
    Soft.Inv (wt y (512 * n + r.val)) v (512 * j) (Mx Q K j h.val (ix2 r (0 : Fin 1)))
      (fun e => Ac Q K V j h.val (ix3 (0 : Fin 1) r e)) := by
  induction j with
  | zero =>
    refine Or.inl ⟨rfl, bits_bot, fun e => ?_⟩
    show qslab (e := .f32) k0_pay192 h.val (ix3 (0 : Fin 1) r e) = 0
    rw [qslab_at]
    unfold k0_pay192
    rw [shapeCast_self]
    exact Ideal.ofBits_zero_f32
  | succ j ih =>
    have hj8 : j < 8 := by omega
    rw [Nat.mul_succ]
    refine Soft.inv_step _ v (wt_nonneg y _) (512 * j) 512 _ _ (ih (by omega))
      (fun c => Sc Q K j h.val (ix4 (0 : Fin 1) (0 : Fin 1) r c)) (fun c => ?_) ⟨0, wt_pos y _ _ ?_⟩ _
      (pay11_at _ _ r) _ (fun e => ?_)
    · rw [Sc_at Q K h j hj8, hs, wt_score, if_pos (by omega)]
    · show 512 * j + 0 ≤ _
      omega
    · show k0_pay27 _ _ _ _ _ = _
      rw [pay27_at, pay12_at]
      refine congrArg _ (Finset.sum_congr rfl fun c _ => ?_)
      rw [pay13_at, kslab_at V h j hj8, hv e _ (by omega)]

theorem inv_after :
    Soft.Inv (wt y (512 * n + r.val)) v (512 * (n + 1)) (k0_pay112 (Mx Q K n h.val) (Sc Q K n h.val) (ix2 r (0 : Fin 1)))
      (fun e => Fin_ Q K V n h.val (ix3 (0 : Fin 1) r e)) := by
  rw [Nat.mul_succ]
  refine Soft.inv_step _ v (wt_nonneg y _) (512 * n) 512 _ _ (inv_before Q K V y n hn h r v hv hs n le_rfl)
    (fun c => k0_pay111 (Sc Q K n h.val) (ix2 r c)) (fun c => ?_) ⟨0, wt_pos y _ _ ?_⟩ _
    (pay112_at _ _ r) _ (fun e => ?_)
  · rw [pay111_at, Sc_at Q K h n hn, hs, wt_score]
    simp only [Nat.add_le_add_iff_left]
  · show 512 * n + 0 ≤ _
    omega
  · show k0_pay27 _ _ _ _ _ = _
    rw [pay27_at, pay113_at]
    refine congrArg _ (Finset.sum_congr rfl fun c _ => ?_)
    rw [pay114_at, kslab_at V h n hn, hv e _ (by omega)]

/-- The result's entry for a query and a value column: the values of the keys not after the query, each with its share of
    the weight. -/
theorem Out_at (h1 : ∀ (i : ℕ) (e : Fin 256), 128 ≤ e.val → i < 4096 → v e i = 1) (e : Fin 128) :
    Out Q K V n (ix2 r (⟨128 * h.val + e.val, by omega⟩ : Fin 512))
      = ∑ i ∈ Finset.range (512 * (n + 1)),
          ((wt y (512 * n + r.val) i / ∑ i ∈ Finset.range (512 * (n + 1)), wt y (512 * n + r.val) i : ℝ) : EReal)
            * v (⟨e.val, by omega⟩ : Fin 256) i := by
  have e1 : (128 * h.val + e.val) / 128 = h.val := by omega
  have e2 : (128 * h.val + e.val) % 128 = e.val := by omega
  show k0_pay1 (Fin_ Q K V n ((128 * h.val + e.val) / 128)) _ = _
  rw [e1]
  refine (congrArg (k0_pay1 (Fin_ Q K V n h.val)) (?_ : _ = ix2 r e)).trans ((pay1_at _ r e).trans ?_)
  · funext a
    match a with
    | ⟨0, _⟩ => rfl
    | ⟨1, _⟩ => exact Fin.ext e2
  · refine Soft.inv_quot _ v _ _ _ (inv_after Q K V y n hn h r v hv hs) ?_ _ _ (fun i hi => ?_) (wt_nonneg y _)
    · exact Finset.sum_pos' (fun i _ => wt_nonneg y _ i) ⟨0, Finset.mem_range.2 (by omega), wt_pos y _ _ (Nat.zero_le _)⟩
    · exact h1 i _ (Nat.le_add_right _ _) (by omega)

end Whole

end Cert.KernelIdeal.Att

end
-- ==== Proof.Arrays.lean ====
module

public import proofs.«01_k».proof.Proof.Run
public import proofs.«01_k».proof.Proof.Rows
public import Idealize.ShloMosaic.Lib.StableHlo.Run

@[expose] public section

/-! The three arrays the attention kernel is launched on, from the queries, keys and values, and the blocks of them that a
    grid point reads. -/

set_option maxRecDepth 16384

noncomputable section

namespace Cert.KernelIdeal.Att

open Idealize.ShloMosaic Idealize.ShloMosaic.TcCoe Idealize.ShloMosaic.ValueIdx Idealize.ShloMosaic.StableHlo
open Cert.KernelIdeal Cert.KernelIdeal.Gen

/-- The padding's scalar, zero. -/
abbrev zeroPad : FVec Ideal S_ .f32 := sitofp .f32 (constantI S_ 32 0#32)

/-- The queries by head, scaled, widened with zeros to 256 lanes. -/
def qop (q : Vec Ideal S4x4096x8x192 .f32) : Vec Ideal S8x16384x256 .bf16 :=
  truncf .bf16 (pad S8x16384x256 ![0, 0, 0] ![0, 0, 64] ![0, 0, 0]
    (Host.divf (mulf (transpose S8x16384x192 [1, 0, 2] (shapeCast S16384x8x192 q shapeCasts_S4x4096x8x192_S16384x8x192)
        transposes_S16384x8x192_S8x16384x192_1_0_2)
      (broadcastInDim S8x16384x192 ![] bcast_S_S8x16384x192 (constant S_ .f32 0x3D93CD3A#32)))
      (broadcastInDim S8x16384x192 ![] bcast_S_S8x16384x192 (Host.log (constant S_ .f32 0x40000000#32))))
    zeroPad pads_S8x16384x192_S8x16384x256_000_000_0640 h_S_) bitsLt_bf16_f32

/-- The keys by head, widened with zeros to 256 lanes. -/
def kop (k : Vec Ideal S4x4096x8x192 .f32) : Vec Ideal S8x16384x256 .bf16 :=
  truncf .bf16 (pad S8x16384x256 ![0, 0, 0] ![0, 0, 64] ![0, 0, 0]
    (transpose S8x16384x192 [1, 0, 2] (shapeCast S16384x8x192 k shapeCasts_S4x4096x8x192_S16384x8x192)
        transposes_S16384x8x192_S8x16384x192_1_0_2)
    zeroPad pads_S8x16384x192_S8x16384x256_000_000_0640 h_S_) bitsLt_bf16_f32

/-- Two arrays of 128 lanes side by side. -/
def beside (x y : FVec Ideal S8x16384x128 .f32) : FVec Ideal S8x16384x256 .f32 :=
  concatenate S8x16384x256 2 [⟨S8x16384x128, x⟩, ⟨S8x16384x128, y⟩] concatenates_S8x16384x128_S8x16384x128_S8x16384x256_d2

theorem beside_eq : (fun x y : FVec Ideal S8x16384x128 .f32 =>
    concatenate S8x16384x256 2 [⟨S8x16384x128, x⟩, ⟨S8x16384x128, y⟩] concatenates_S8x16384x128_S8x16384x128_S8x16384x256_d2)
      = beside := rfl

/-- The values by head, with 128 lanes of ones beside them. -/
def vop (v : Vec Ideal S4x4096x8x128 .f32) : Vec Ideal S8x16384x256 .bf16 :=
  truncf .bf16 (beside
    (transpose S8x16384x128 [1, 0, 2] (shapeCast S16384x8x128 v shapeCasts_S4x4096x8x128_S16384x8x128)
        transposes_S16384x8x128_S8x16384x128_1_0_2)
    (broadcastInDim S8x16384x128 ![] bcast_S_S8x16384x128 (constant S_ .f32 0x3F800000#32))) bitsLt_bf16_f32

section Launch
variable (m : (ℓ : Loc nD τ sig) → Buf (Elt Ideal) ℓ) (c : Dev nD)

theorem V_q : V m c main_v8 = qop (m ((c.tc : Thread nD τ).loc main_arg0)) := by
  simp only [V, hostOps0, hostOps0_1, hostOps0_2, hostOps0_3, hostOps0_4, List.flatten_cons, List.flatten_nil, List.cons_append,
    List.nil_append, TRef.unary, TRef.binary, TRef.toBuf, TRef.ofBuf, cast_eq]
  after_results_simp <;> rfl

theorem V_k : V m c main_v12 = kop (m ((c.tc : Thread nD τ).loc main_arg1)) := by
  simp only [V, hostOps0, hostOps0_1, hostOps0_2, hostOps0_3, hostOps0_4, List.flatten_cons, List.flatten_nil, List.cons_append,
    List.nil_append, TRef.unary, TRef.binary, TRef.toBuf, TRef.ofBuf, cast_eq]
  after_results_simp <;> rfl

theorem V_v : V m c main_v17 = vop (m ((c.tc : Thread nD τ).loc main_arg2)) := by
  simp only [V, hostOps0, hostOps0_1, hostOps0_2, hostOps0_3, hostOps0_4, List.flatten_cons, List.flatten_nil, List.cons_append,
    List.nil_append, TRef.unary, TRef.binary, TRef.toBuf, TRef.ofBuf, cast_eq, beside_eq]
  after_results_simp <;> rfl

end Launch

/-! ## The arrays at an index -/

/-- Position `s` of sequence `b`, among all the rows. -/
abbrev row (b : Fin 4) (s : Fin 4096) : Fin 16384 := ⟨4096 * b.val + s.val, by omega⟩

theorem by_head {D : ℕ} (x : (⟨4, ![4, 4096, 8, D]⟩ : Shape).Idx → EReal)
    (h : (⟨4, ![4, 4096, 8, D]⟩ : Shape).ShapeCasts ⟨3, ![16384, 8, D]⟩)
    (h' : (⟨3, ![16384, 8, D]⟩ : Shape).Transposes [1, 0, 2] ⟨3, ![8, 16384, D]⟩)
    (b : Fin 4) (s : Fin 4096) (a : Fin 8) (d : Fin D) :
    transpose ⟨3, ![8, 16384, D]⟩ [1, 0, 2] (shapeCast ⟨3, ![16384, 8, D]⟩ x h) h' (ix3 a (row b s) d) = x (ix4 b s a d) := by
  refine (transpose_apply _ _ _ _ (ix3 (row b s) a d) fun k => ?_).trans (shapeCast_apply _ _ _ _ ?_)
  · match k with
    | ⟨0, _⟩ => rfl
    | ⟨1, _⟩ => rfl
    | ⟨2, _⟩ => rfl
  · rw [Shape.rowMajor_val_four, Shape.rowMajor_val_three]
    show ((b.val * 4096 + s.val) * 8 + a.val) * D + d.val = ((4096 * b.val + s.val) * 8 + a.val) * D + d.val
    rw [Nat.mul_comm b.val 4096]

/-- The scale of the scores, `192 ^ (-1/2)` rounded to f32. -/
def cc : ℝ := (Ideal.ofBits .f32 0x3D93CD3A#32).toReal

theorem cc_eq : Ideal.ofBits .f32 0x3D93CD3A#32 = ((cc : ℝ) : EReal) := by
  unfold cc
  refine (EReal.coe_toReal ?_ ?_).symm <;> simp [Ideal.ofBits, Ideal.ieee, -EReal.coe_mul]

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]
    norm_num
  rw [this, Ideal.log_coe, if_neg (by norm_num)]

theorem pad_lo (x : FVec Ideal S8x16384x192 .f32) (a : Fin 8) (R : Fin 16384) (d : Fin 192) :
    pad S8x16384x256 ![0, 0, 0] ![0, 0, 64] ![0, 0, 0] x zeroPad pads_S8x16384x192_S8x16384x256_000_000_0640 h_S_
      (ix3 a R (⟨d.val, by omega⟩ : Fin 256)) = x (ix3 a R d) :=
  pad_apply_of_inside _ _ _ _ _ _ _ _ _ fun k => by
    match k with
    | ⟨0, _⟩ => show a.val = 0 + a.val * (0 + 1); omega
    | ⟨1, _⟩ => show R.val = 0 + R.val * (0 + 1); omega
    | ⟨2, _⟩ => show d.val = 0 + d.val * (0 + 1); omega

theorem pad_hi (x : FVec Ideal S8x16384x192 .f32) (a : Fin 8) (R : Fin 16384) (d : Fin 256) (hd : 192 ≤ d.val) :
    pad S8x16384x256 ![0, 0, 0] ![0, 0, 64] ![0, 0, 0] x zeroPad pads_S8x16384x192_S8x16384x256_000_000_0640 h_S_
      (ix3 a R d) = 0 := by
  refine (pad_apply_of_not_inside _ _ _ _ _ _ _ _ (2 : Fin 3) ?_).trans ?_
  · show ¬(0 ≤ d.val ∧ (d.val - 0) % (0 + 1) = 0 ∧ (d.val - 0) / (0 + 1) < 192)
    omega
  · show ((((0#32 : BitVec 32).toInt : ℤ) : ℝ) : EReal) = 0
    simp

variable (q k : Vec Ideal S4x4096x8x192 .f32) (v : Vec Ideal S4x4096x8x128 .f32)

theorem qop_lo (b : Fin 4) (s : Fin 4096) (a : Fin 8) (d : Fin 192) :
    qop q (ix3 a (row b s) (⟨d.val, by omega⟩ : Fin 256))
      = Ideal.div (q (ix4 b s a d) * ((cc : ℝ) : EReal)) ((Real.log 2 : ℝ) : EReal) := by
  refine (pad_lo _ a (row b s) d).trans ?_
  show Ideal.div (_ * _) _ = _
  refine congrArg₂ Ideal.div (congrArg₂ (· * ·) (by_head q _ _ b s a d) cc_eq) log_two

theorem qop_hi (R : Fin 16384) (a : Fin 8) (d : Fin 256) (hd : 192 ≤ d.val) : qop q (ix3 a R d) = 0 := pad_hi _ a R d hd

theorem kop_lo (b : Fin 4) (s : Fin 4096) (a : Fin 8) (d : Fin 192) :
    kop k (ix3 a (row b s) (⟨d.val, by omega⟩ : Fin 256)) = k (ix4 b s a d) :=
  (pad_lo _ a (row b s) d).trans (by_head k _ _ b s a d)

theorem beside_lo (x y : FVec Ideal S8x16384x128 .f32) (a : Fin 8) (R : Fin 16384) (e : Fin 128) :
    beside x y (ix3 a R (⟨e.val, by omega⟩ : Fin 256)) = x (ix3 a R e) :=
  concatenate_pair_apply_left (t := S8x16384x256) (s₁ := S8x16384x128) (s₂ := S8x16384x128) (2 : Fin 3) _ _ _ _ rfl (ix3 a R e) fun k => by
    match k with
    | ⟨0, _⟩ => rfl
    | ⟨1, _⟩ => rfl
    | ⟨2, _⟩ => rfl

theorem beside_hi (x y : FVec Ideal S8x16384x128 .f32) (a : Fin 8) (R : Fin 16384) (e : Fin 256) (he : 128 ≤ e.val) :
    beside x y (ix3 a R e) = y (ix3 a R (⟨e.val - 128, by omega⟩ : Fin 128)) :=
  concatenate_pair_apply_right (t := S8x16384x256) (s₁ := S8x16384x128) (s₂ := S8x16384x128) (2 : Fin 3) _ _ _ _ rfl rfl (ix3 a R (⟨e.val - 128, by omega⟩ : Fin 128))
    (fun k hk => by
      match k with
      | ⟨0, _⟩ => rfl
      | ⟨1, _⟩ => rfl
      | ⟨2, _⟩ => exact absurd rfl hk)
    (by show e.val - 128 + 128 = e.val; omega)

theorem vop_lo (b : Fin 4) (s : Fin 4096) (a : Fin 8) (e : Fin 128) :
    vop v (ix3 a (row b s) (⟨e.val, by omega⟩ : Fin 256)) = v (ix4 b s a e) :=
  (beside_lo _ _ a (row b s) e).trans (by_head v _ _ b s a e)

theorem one_f32 : Ideal.ofBits .f32 0x3F800000#32 = 1 := by
  simp [Ideal.ofBits, Ideal.ieee, -EReal.coe_mul]
  norm_num

theorem vop_hi (R : Fin 16384) (a : Fin 8) (e : Fin 256) (he : 128 ≤ e.val) : vop v (ix3 a R e) = 1 :=
  (beside_hi _ _ a R e he).trans one_f32

/-- A query's score against a key. -/
def sco (q' k' : S4x4096x8x192.Idx → ℝ) (b : Fin 4) (a : Fin 8) (s i : Fin 4096) : ℝ :=
  (∑ d : Fin 192, q' (ix4 b s a d) * k' (ix4 b i a d)) * cc

theorem score_at (q' k' : S4x4096x8x192.Idx → ℝ) (hq : ∀ x, q x = ((q' x : ℝ) : EReal)) (hk : ∀ x, k x = ((k' x : ℝ) : EReal))
    (b : Fin 4) (a : Fin 8) (s i : Fin 4096) :
    ∑ d : Fin 256, qop q (ix3 a (row b s) d) * kop k (ix3 a (row b i) d)
      = ((sco q' k' b a s i / Real.log 2 : ℝ) : EReal) := by
  refine (Fin.sum_univ_add (a := 192) (b := 64) fun d : Fin 256 => qop q (ix3 a (row b s) d) * kop k (ix3 a (row b i) d)).trans ?_
  rw [Finset.sum_eq_zero (s := (Finset.univ : Finset (Fin 64))), add_zero]
  · have : ∀ d : Fin 192, qop q (ix3 a (row b s) (Fin.castAdd 64 d)) * kop k (ix3 a (row b i) (Fin.castAdd 64 d))
        = ((q' (ix4 b s a d) * k' (ix4 b i a d) * (cc / Real.log 2) : ℝ) : EReal) := fun d => by
      refine (congrArg₂ (· * ·) (qop_lo q b s a d) (kop_lo k b i a d)).trans ?_
      show Ideal.div _ _ * _ = _
      rw [Ideal.div_coe Soft.log_two_ne, hq, hk, ← EReal.coe_mul, ← EReal.coe_mul, ← EReal.coe_mul]
      congr 1
      ring
    rw [Finset.sum_congr rfl fun d _ => this d, ← Soft.coe_sum, ← Finset.sum_mul, sco]
    congr 1
    ring
  · intro d _
    rw [qop_hi q _ _ _ (by show 192 ≤ 192 + d.val; omega), zero_mul]

end Cert.KernelIdeal.Att

end
-- ==== Proof.Whole.lean ====
module

public import proofs.«01_k».proof.Proof.Arrays

@[expose] public section

/-! The array the attention kernel leaves: each query's row holds the values of the keys not after it, weighted by the
    exponentials of their scores. -/

set_option maxRecDepth 16384

noncomputable section

namespace Cert.KernelIdeal.Att

open Idealize.ShloMosaic Idealize.ShloMosaic.TcCoe Idealize.ShloMosaic.ValueIdx
open Cert.KernelIdeal Cert.KernelIdeal.Gen

/-- A function of the 4096 positions, continued past them. -/
def ext {α : Type} (z : α) (f : Fin 4096 → α) (i : ℕ) : α := if h : i < 4096 then f ⟨i, h⟩ else z

theorem ext_of {α : Type} (z : α) (f : Fin 4096 → α) (i : ℕ) (h : i < 4096) : ext z f i = f ⟨i, h⟩ := dif_pos h

/-- A query's weights of the keys. -/
def wts (q' k' : S4x4096x8x192.Idx → ℝ) (b : Fin 4) (a : Fin 8) (s : Fin 4096) (i : Fin 4096) : ℝ :=
  wt (ext 0 (sco q' k' b a s)) s.val i.val

/-- Causal attention at a sequence, a head, a position and a value column. -/
def att (q' k' : S4x4096x8x192.Idx → ℝ) (v : Vec Ideal S4x4096x8x128 .f32) (b : Fin 4) (a : Fin 8) (s : Fin 4096) (e : Fin 128) :
    EReal :=
  ∑ i : Fin 4096, ((wts q' k' b a s i / ∑ i, wts q' k' b a s i : ℝ) : EReal) * v (ix4 b i a e)

/-- The result array: sequences and positions down, heads and value columns across. -/
def whole (q' k' : S4x4096x8x192.Idx → ℝ) (v : Vec Ideal S4x4096x8x128 .f32) : Vec Ideal S16384x1024 .bf16 := fun x =>
  att q' k' v (⟨(x 0).val / 4096, by have : (x 0).val < 16384 := (x 0).isLt; omega⟩ : Fin 4)
    (⟨(x 1).val / 128, by have : (x 1).val < 1024 := (x 1).isLt; omega⟩ : Fin 8)
    (⟨(x 0).val % 4096, Nat.mod_lt _ (by decide)⟩ : Fin 4096) (⟨(x 1).val % 128, Nat.mod_lt _ (by decide)⟩ : Fin 128)

theorem whole_at (q' k' : S4x4096x8x192.Idx → ℝ) (v : Vec Ideal S4x4096x8x128 .f32) (b : Fin 4) (a : Fin 8) (s : Fin 4096)
    (e : Fin 128) (C : Fin 1024) (hC : C.val = 128 * a.val + e.val) :
    whole q' k' v (ix2 (row b s) C) = att q' k' v b a s e := by
  unfold whole
  congr 1
  · exact Fin.ext (by show (4096 * b.val + s.val) / 4096 = b.val; omega)
  · exact Fin.ext (by show C.val / 128 = a.val; omega)
  · exact Fin.ext (by show (4096 * b.val + s.val) % 4096 = s.val; omega)
  · exact Fin.ext (by show C.val % 128 = e.val; omega)

/-- Terms of no weight past a bound may be left out. -/
theorem cut_sum (N : ℕ) (hN : N ≤ 4096) (w : ℕ → ℝ) (hw : ∀ i, N ≤ i → w i = 0) (f : ℕ → EReal) :
    ∑ i ∈ Finset.range N, ((w i / ∑ i ∈ Finset.range N, w i : ℝ) : EReal) * f i
      = ∑ i : Fin 4096, ((w i.val / ∑ i : Fin 4096, w i.val : ℝ) : EReal) * f i.val := by
  have hsub : Finset.range N ⊆ Finset.range 4096 := Finset.range_subset_range.2 hN
  have e1 : ∑ i ∈ Finset.range N, w i = ∑ i : Fin 4096, w i.val := by
    rw [← Finset.sum_range (n := 4096) w]
    refine Finset.sum_subset hsub fun i _ hi => hw i ?_
    simpa using hi
  rw [e1, ← Finset.sum_range (n := 4096) fun i => ((w i / ∑ i : Fin 4096, w i.val : ℝ) : EReal) * f i]
  refine Finset.sum_subset hsub fun i _ hi => ?_
  rw [hw i (by simpa using hi), zero_div, EReal.coe_zero, zero_mul]

/-! ## The blocks of a grid point -/

theorem t_lt (t : Fin cfg0.N) : t.val < 64 := t.isLt

/-- A point's sequence, its half of the heads and its query block. -/
def pb (t : Fin cfg0.N) : Fin 4 := ⟨t.val / 16, by have := t_lt t; omega⟩
def ph (t : Fin cfg0.N) : Fin 2 := ⟨t.val / 8 % 2, by omega⟩
def pi (t : Fin cfg0.N) : Fin 8 := ⟨t.val % 8, by omega⟩

/-- Head `a` of a half of the heads. -/
def hd (h : Fin 2) (a : Fin 4) : Fin 8 := ⟨4 * h.val + a.val, by omega⟩

/-- Row `r` of a query block. -/
def pos (i : Fin 8) (r : Fin 512) : Fin 4096 := ⟨512 * i.val + r.val, by omega⟩

theorem coord_i : ∀ t : Fin cfg0.N, (grid0.coords t 2).val = t.val % 8 := (by decide +kernel : ∀ t : Fin grid0.N, _)

theorem idx0 : ∀ t : Fin cfg0.N, win0_0.index t (0 : Fin 3) = t.val / 8 % 2 ∧ win0_0.index t (1 : Fin 3) = t.val / 16 * 8 + t.val % 8
    ∧ win0_0.index t (2 : Fin 3) = 0 := (by decide +kernel : ∀ t : Fin grid0.N, _)
theorem idx1 : ∀ t : Fin cfg0.N, win0_1.index t (0 : Fin 3) = t.val / 8 % 2 ∧ win0_1.index t (1 : Fin 3) = t.val / 16
    ∧ win0_1.index t (2 : Fin 3) = 0 := (by decide +kernel : ∀ t : Fin grid0.N, _)
theorem idx2 : ∀ t : Fin cfg0.N, win0_2.index t (0 : Fin 3) = t.val / 8 % 2 ∧ win0_2.index t (1 : Fin 3) = t.val / 16
    ∧ win0_2.index t (2 : Fin 3) = 0 := (by decide +kernel : ∀ t : Fin grid0.N, _)
theorem idx3 : ∀ t : Fin cfg0.N, win0_3.index t (0 : Fin 2) = t.val / 16 * 8 + t.val % 8 ∧ win0_3.index t (1 : Fin 2) = t.val / 8 % 2 :=
  (by decide +kernel : ∀ t : Fin grid0.N, _)

section Blocks
variable (m : (ℓ : Loc nD τ sig) → Buf (Elt Ideal) ℓ) (c : Dev nD) (t : Fin cfg0.N)

theorem iblk_q (a : Fin 4) (r : Fin 512) (d : Fin 256) :
    iblk m c 0 t (ix3 a r d) = V m c main_v8 (ix3 (hd (ph t) a) (row (pb t) (pos (pi t) r)) d) := by
  obtain ⟨e0, e1, e2⟩ := idx0 t
  show V m c main_v8 (((cfg0.win 0).blk t).view.emb (ix3 a r d)) = _
  refine congrArg (V m c main_v8) (funext fun k => Fin.ext ?_)
  match k with
  | ⟨0, _⟩ => show win0_0.index t (0 : Fin 3) * 4 + 1 * a.val = 4 * (t.val / 8 % 2) + a.val; omega
  | ⟨1, _⟩ => show win0_0.index t (1 : Fin 3) * 512 + 1 * r.val = 4096 * (t.val / 16) + (512 * (t.val % 8) + r.val); omega
  | ⟨2, _⟩ => show win0_0.index t (2 : Fin 3) * 256 + 1 * d.val = d.val; omega

theorem iblk_k (a : Fin 4) (s : Fin 4096) (d : Fin 256) :
    iblk m c 1 t (ix3 a s d) = V m c main_v12 (ix3 (hd (ph t) a) (row (pb t) s) d) := by
  obtain ⟨e0, e1, e2⟩ := idx1 t
  show V m c main_v12 (((cfg0.win 1).blk t).view.emb (ix3 a s d)) = _
  refine congrArg (V m c main_v12) (funext fun k => Fin.ext ?_)
  match k with
  | ⟨0, _⟩ => show win0_1.index t (0 : Fin 3) * 4 + 1 * a.val = 4 * (t.val / 8 % 2) + a.val; omega
  | ⟨1, _⟩ => show win0_1.index t (1 : Fin 3) * 4096 + 1 * s.val = 4096 * (t.val / 16) + s.val; omega
  | ⟨2, _⟩ => show win0_1.index t (2 : Fin 3) * 256 + 1 * d.val = d.val; omega

theorem iblk_v (a : Fin 4) (s : Fin 4096) (d : Fin 256) :
    iblk m c 2 t (ix3 a s d) = V m c main_v17 (ix3 (hd (ph t) a) (row (pb t) s) d) := by
  obtain ⟨e0, e1, e2⟩ := idx2 t
  show V m c main_v17 (((cfg0.win 2).blk t).view.emb (ix3 a s d)) = _
  refine congrArg (V m c main_v17) (funext fun k => Fin.ext ?_)
  match k with
  | ⟨0, _⟩ => show win0_2.index t (0 : Fin 3) * 4 + 1 * a.val = 4 * (t.val / 8 % 2) + a.val; omega
  | ⟨1, _⟩ => show win0_2.index t (1 : Fin 3) * 4096 + 1 * s.val = 4096 * (t.val / 16) + s.val; omega
  | ⟨2, _⟩ => show win0_2.index t (2 : Fin 3) * 256 + 1 * d.val = d.val; omega

/-- A result block's index is its point's rows and its heads' columns of the array. -/
theorem emb_out (r : Fin 512) (a : Fin 4) (e : Fin 128) :
    ((cfg0.win 3).blk t).view.emb (ix2 r (⟨128 * a.val + e.val, by omega⟩ : Fin 512))
      = (ix2 (row (pb t) (pos (pi t) r)) (⟨128 * (hd (ph t) a).val + e.val, by have := (hd (ph t) a).isLt; omega⟩ : Fin 1024) :
          S16384x1024.Idx) := by
  obtain ⟨e0, e1⟩ := idx3 t
  refine funext fun k => Fin.ext ?_
  match k with
  | ⟨0, _⟩ => show win0_3.index t (0 : Fin 2) * 512 + 1 * r.val = 4096 * (t.val / 16) + (512 * (t.val % 8) + r.val); omega
  | ⟨1, _⟩ =>
    show win0_3.index t (1 : Fin 2) * 512 + 1 * (128 * a.val + e.val) = 128 * (4 * (t.val / 8 % 2) + a.val) + e.val
    omega

variable (q' k' : S4x4096x8x192.Idx → ℝ) (hq : ∀ x, m ((c.tc : Thread nD τ).loc main_arg0) x = ((q' x : ℝ) : EReal))
  (hk : ∀ x, m ((c.tc : Thread nD τ).loc main_arg1) x = ((k' x : ℝ) : EReal))

include hq hk

theorem outs_at (r : Fin 512) (a : Fin 4) (e : Fin 128) :
    outsAt m c t (ix2 r (⟨128 * a.val + e.val, by omega⟩ : Fin 512))
      = att q' k' (m ((c.tc : Thread nD τ).loc main_arg2)) (pb t) (hd (ph t) a) (pos (pi t) r) e := by
  unfold outsAt
  rw [coord_i]
  refine (Out_at _ _ _ (ext 0 (sco q' k' (pb t) (hd (ph t) a) (pos (pi t) r))) (t.val % 8) (by omega) a r
    (fun e => ext 1 fun s => iblk m c 2 t (ix3 a s e)) (fun e i hi => ext_of _ _ i hi) (fun i hi => ?_) (fun i e he hi => ?_) e).trans ?_
  · rw [ext_of _ _ _ hi, ← score_at _ _ q' k' hq hk]
    refine Finset.sum_congr rfl fun d _ => ?_
    rw [iblk_q, iblk_k, V_q, V_k]
  · rw [ext_of _ _ _ hi, iblk_v, V_v]
    exact vop_hi _ _ _ e he
  · rw [cut_sum _ (by omega)]
    · refine Finset.sum_congr rfl fun i _ => ?_
      refine congrArg₂ (· * ·) rfl ?_
      rw [ext_of _ _ _ i.isLt, iblk_v, V_v]
      exact vop_lo _ _ i _ e
    · intro i hi
      exact if_neg (by have := r.isLt; omega)

theorem flushed_eq :
    (dats m 0 c).flushed 3 t = ((cfg0.win 3).blk t).view.read (Elt Ideal) (whole q' k' (m ((c.tc : Thread nD τ).loc main_arg2))) := by
  have e : (dats m 0 c).flushed 3 t = outsAt m c t := by
    funext y
    exact congrFun (after0_3 m c t) y
  rw [e]
  funext y
  show _ = whole q' k' _ (((cfg0.win 3).blk t).view.emb y)
  obtain ⟨r, a, e, rfl⟩ : ∃ (r : Fin 512) (a : Fin 4) (e : Fin 128), y = ix2 r (⟨128 * a.val + e.val, by omega⟩ : Fin 512) := by
    have h1 : (y 1).val < 512 := (y 1).isLt
    refine ⟨y 0, ⟨(y 1).val / 128, by omega⟩, ⟨(y 1).val % 128, by omega⟩, funext fun k => Fin.ext ?_⟩
    match k with
    | ⟨0, _⟩ => rfl
    | ⟨1, _⟩ => show (y 1).val = 128 * ((y 1).val / 128) + (y 1).val % 128; omega
  rw [outs_at m c t q' k' hq hk, emb_out]
  exact (whole_at q' k' _ _ _ _ _ _ rfl).symm

end Blocks

theorem covered (x : S16384x1024.Idx) : ∃ t : Fin cfg0.N, (cfg0.win 3).flush t = true ∧ x ∈ ((cfg0.win 3).blk t).view.set := by
  have h0 : (x 0).val < 16384 := (x 0).isLt
  have h1 : (x 1).val < 1024 := (x 1).isLt
  let t : Fin cfg0.N := ⟨(x 0).val / 4096 * 16 + (x 1).val / 512 * 8 + (x 0).val / 512 % 8, by
    show _ < 64
    omega⟩
  have hc := ((cfg0.win 3).blk t).view.emb_mem_set (ix2 (⟨(x 0).val % 512, by omega⟩ : Fin 512)
    (⟨128 * (⟨(x 1).val / 128 % 4, by omega⟩ : Fin 4).val + (⟨(x 1).val % 128, by omega⟩ : Fin 128).val, by simp only; omega⟩ : Fin 512))
  rw [emb_out] at hc
  refine ⟨t, flush0_3 t, ?_⟩
  refine (congrArg (· ∈ ((cfg0.win 3).blk t).view.set) (?_ : x = _)).mpr hc
  funext k
  apply Fin.ext
  match k with
  | ⟨0, _⟩ =>
    show (x 0).val = 4096 * (((x 0).val / 4096 * 16 + (x 1).val / 512 * 8 + (x 0).val / 512 % 8) / 16)
      + (512 * (((x 0).val / 4096 * 16 + (x 1).val / 512 * 8 + (x 0).val / 512 % 8) % 8) + (x 0).val % 512)
    omega
  | ⟨1, _⟩ =>
    show (x 1).val = 128 * (4 * (((x 0).val / 4096 * 16 + (x 1).val / 512 * 8 + (x 0).val / 512 % 8) / 8 % 2) + (x 1).val / 128 % 4)
      + (x 1).val % 128
    omega

theorem final_whole (m : (ℓ : Loc nD τ sig) → Buf (Elt Ideal) ℓ) (c : Dev nD) (q' k' : S4x4096x8x192.Idx → ℝ)
    (hq : ∀ x, m ((c.tc : Thread nD τ).loc main_arg0) x = ((q' x : ℝ) : EReal))
    (hk : ∀ x, m ((c.tc : Thread nD τ).loc main_arg1) x = ((k' x : ℝ) : EReal)) :
    (dats m 0 c).arrAt 3 cfg0.N = whole q' k' (m ((c.tc : Thread nD τ).loc main_arg2)) :=
  (dats m 0 c).arrAt_eq_of_cover 3 _ (fun t _ => flushed_eq m c t q' k' hq hk) covered

end Cert.KernelIdeal.Att

end
-- ==== Proof.Ref.lean ====
module

public import proofs.«01_k».proof.Proof.Gen.ReferenceIdeal.Run
public import proofs.«01_k».proof.Proof.Whole
public import Idealize.ShloMosaic.Lib.IdealHost

@[expose] public section

/-! The reference's array, an element at a time: a softmax of each query's masked scores, then the weighted values. -/

set_option maxRecDepth 16384

noncomputable section

namespace Cert.ReferenceIdeal.Att

open Idealize.ShloMosaic Idealize.ShloMosaic.TcCoe Idealize.ShloMosaic.ValueIdx
open Cert.ReferenceIdeal Cert.ReferenceIdeal.Gen
open Cert.KernelIdeal.Att (sco wts wt ext ext_of att whole whole_at row cc cc_eq bits_bot wt_nonneg wt_pos)

/-- Whether a key's position is not after the query's. -/
def seen : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

section Stages
variable (q k : FVec Ideal S4x4096x8x192 .f32)

/-- The scores, minus infinity where the key is after the query. -/
def masked : FVec Ideal S4x8x4096x4096 .f32 :=
  select (broadcastInDim S4x8x4096x4096 ![2, 3] bcast_S4096x4096_S4x8x4096x4096_2_3 seen)
    (mulf (Host.dotGeneral dot_S4x4096x8x192_S4x4096x8x192_S4x8x4096x4096_3_3_1_1_02_02 none q k)
      (broadcastInDim S4x8x4096x4096 ![] bcast_S_S4x8x4096x4096 (constant S_ .f32 0x3D93CD3A#32)))
    (broadcastInDim S4x8x4096x4096 ![] bcast_S_S4x8x4096x4096 (id (constant S_ .f32 0xFF800000#32)))

/-- Each query's largest score. -/
def top : FVec Ideal S4x8x4096 .f32 :=
  maximumf (broadcastInDim S4x8x4096 ![] bcast_S_S4x8x4096 (constant S_ .f32 0xFF800000#32))
    (Host.reduce FloatOps.maximumf (masked q k) (constant S_ .f32 0xFF800000#32) reducesTo_S4x8x4096x4096_S4x8x4096_d3 h_S_)

/-- A number for each query, at every key. -/
def along (x : FVec Ideal S4x8x4096 .f32) : FVec Ideal S4x8x4096x4096 .f32 :=
  broadcastInDim S4x8x4096x4096 ![0, 1, 2, 3] bcast_S4x8x4096x1_S4x8x4096x4096_0_1_2_3
    (broadcastInDim S4x8x4096x1 ![0, 1, 2] bcast_S4x8x4096_S4x8x4096x1_0_1_2 x)

def expd : FVec Ideal S4x8x4096x4096 .f32 := Host.exp (subf (masked q k) (along (top q k)))

def total : FVec Ideal S4x8x4096 .f32 :=
  Host.reduceAdd (expd q k) (constant S_ .f32 0x00000000#32) reducesTo_S4x8x4096x4096_S4x8x4096_d3 h_S_

/-- The softmax. -/
def prob : FVec Ideal S4x8x4096x4096 .f32 := Host.divf (expd q k) (along (total q k))

end Stages

/-- The heads' columns side by side again, a row for each position. -/
def laid (x : FVec Ideal S4x8x128x4096 .f32) : FVec Ideal S16384x1024 .bf16 :=
  truncf .bf16 (shapeCast S16384x1024 (transpose S4x4096x8x128 [0, 3, 1, 2] x transposes_S4x8x128x4096_S4x4096x8x128_0_3_1_2)
    shapeCasts_S4x4096x8x128_S16384x1024) bitsLt_bf16_f32

theorem res_eq (m : (ℓ : Loc nD τ sig) → Buf (Elt Ideal) ℓ) (c : Dev nD) :
    Value.res_main_v24 m c = laid
      (Host.dotGeneral (φ₁ := .f32) dot_S4x4096x8x128_S4x8x4096x4096_S4x8x128x4096_1_3_3_2_02_01 none (m ((c.tc : Thread nD τ).loc main_arg2))
        (prob (m ((c.tc : Thread nD τ).loc main_arg0)) (m ((c.tc : Thread nD τ).loc main_arg1)))) := by
  unfold Value.res_main_v24
  rfl

theorem laid_at (x : FVec Ideal S4x8x128x4096 .f32) (b : Fin 4) (a : Fin 8) (s : Fin 4096) (e : Fin 128) :
    laid x (ix2 (row b s) (⟨128 * a.val + e.val, by omega⟩ : Fin 1024)) = x (ix4 b a e s) := by
  refine (shapeCast_apply (s := S4x4096x8x128) (t := S16384x1024) _ _ _ (ix4 b s a e) ?_).trans
    (transpose_apply (s := S4x8x128x4096) (t := S4x4096x8x128) _ _ _ _ (ix4 b a e s) fun k => ?_)
  · rw [Shape.rowMajor_val_four, Shape.rowMajor_val_two]
    show ((b.val * 4096 + s.val) * 8 + a.val) * 128 + e.val = (4096 * b.val + s.val) * 1024 + (128 * a.val + e.val)
    omega
  · match k with
    | ⟨0, _⟩ => rfl
    | ⟨1, _⟩ => rfl
    | ⟨2, _⟩ => rfl
    | ⟨3, _⟩ => rfl

theorem along_at (x : FVec Ideal S4x8x4096 .f32) (b : Fin 4) (a : Fin 8) (s i : Fin 4096) :
    along x (ix4 b a s i) = x (ix3 b a s) := by
  refine (broadcastInDim_apply _ _ _ _ (ix4 b a s (0 : Fin 1)) fun k => ?_).trans
    (broadcastInDim_apply _ _ _ _ (ix3 b a s) fun k => ?_)
  · match k with
    | ⟨0, _⟩ => rfl
    | ⟨1, _⟩ => rfl
    | ⟨2, _⟩ => rfl
    | ⟨3, _⟩ => rfl
  · match k with
    | ⟨0, _⟩ => rfl
    | ⟨1, _⟩ => rfl
    | ⟨2, _⟩ => rfl

theorem seen_at (s i : Fin 4096) : seen (ix2 s i) = BitVec.ofBool (decide (i.val ≤ s.val)) := by
  have e1 : broadcastInDim S4096x4096 ![0, 1] bcast_S1x4096_S4096x4096_0_1 (broadcastInDim S1x4096 ![1] bcast_S4096_S1x4096_1 (iotaInDim S4096 32 0))
      (ix2 s i) = BitVec.ofNat 32 i.val := by
    refine (broadcastInDim_apply _ _ _ _ (ix2 (0 : Fin 1) i) fun k => ?_).trans
      ((broadcastInDim_apply _ _ _ _ (ix1 i) fun k => ?_).trans rfl)
    · match k with
      | ⟨0, _⟩ => rfl
      | ⟨1, _⟩ => rfl
    · match k with
      | ⟨0, _⟩ => rfl
  have e2 : broadcastInDim S4096x4096 ![0, 1] bcast_S4096x1_S4096x4096_0_1 (broadcastInDim S4096x1 ![0] bcast_S4096_S4096x1_0 (iotaInDim S4096 32 0))
      (ix2 s i) = BitVec.ofNat 32 s.val := by
    refine (broadcastInDim_apply _ _ _ _ (ix2 s (0 : Fin 1)) fun k => ?_).trans
      ((broadcastInDim_apply _ _ _ _ (ix1 s) fun k => ?_).trans rfl)
    · match k with
      | ⟨0, _⟩ => rfl
      | ⟨1, _⟩ => rfl
    · match k with
      | ⟨0, _⟩ => rfl
  show IntOp.cmpi .sle _ _ = _
  refine (congrArg₂ (IntOp.cmpi .sle) e1 e2).trans ?_
  exact WordCmp.cmpi_sle_ofNat (lt_of_lt_of_le i.isLt (by decide)) (lt_of_lt_of_le s.isLt (by decide))

theorem qk_rank : dot_S4x4096x8x192_S4x4096x8x192_S4x8x4096x4096_3_3_1_1_02_02.contr.rank = 1 := rfl
theorem qk_size : dot_S4x4096x8x192_S4x4096x8x192_S4x8x4096x4096_3_3_1_1_02_02.contr.size ⟨0, by rw [qk_rank]; decide⟩ = 192 := rfl

theorem qk_at (q k : FVec Ideal S4x4096x8x192 .f32) (b : Fin 4) (a : Fin 8) (s i : Fin 4096) :
    Host.dotGeneral dot_S4x4096x8x192_S4x4096x8x192_S4x8x4096x4096_3_3_1_1_02_02 none q k (ix4 b a s i)
      = ∑ d : Fin 192, q (ix4 b s a d) * k (ix4 b i a d) := by
  simp only [Host.dotGeneral]
  rw [Ideal.dotGeneral_apply, ← Equiv.sum_comp (contrEquiv1 _ 192 qk_rank qk_size).symm]
  refine Finset.sum_congr rfl fun d _ => ?_
  have hd := contrEquiv1_symm_val _ 192 qk_rank qk_size d
  refine congrArg₂ (· * ·) (congrArg q ?_) (congrArg k ?_)
  · funext x
    apply Fin.ext
    match x with
    | ⟨0, _⟩ => rfl
    | ⟨1, _⟩ => rfl
    | ⟨2, _⟩ => rfl
    | ⟨3, _⟩ => exact hd
  · funext x
    apply Fin.ext
    match x with
    | ⟨0, _⟩ => rfl
    | ⟨1, _⟩ => rfl
    | ⟨2, _⟩ => rfl
    | ⟨3, _⟩ => exact hd

theorem pv_rank : dot_S4x4096x8x128_S4x8x4096x4096_S4x8x128x4096_1_3_3_2_02_01.contr.rank = 1 := rfl
theorem pv_size : dot_S4x4096x8x128_S4x8x4096x4096_S4x8x128x4096_1_3_3_2_02_01.contr.size ⟨0, by rw [pv_rank]; decide⟩ = 4096 := rfl

theorem pv_at (v : FVec Ideal S4x4096x8x128 .f32) (p : FVec Ideal S4x8x4096x4096 .f32) (b : Fin 4) (a : Fin 8) (e : Fin 128) (s : Fin 4096) :
    Host.dotGeneral dot_S4x4096x8x128_S4x8x4096x4096_S4x8x128x4096_1_3_3_2_02_01 none v p (ix4 b a e s)
      = ∑ i : Fin 4096, v (ix4 b i a e) * p (ix4 b a s i) := by
  simp only [Host.dotGeneral]
  rw [Ideal.dotGeneral_apply, ← Equiv.sum_comp (contrEquiv1 _ 4096 pv_rank pv_size).symm]
  refine Finset.sum_congr rfl fun d _ => ?_
  have hd := contrEquiv1_symm_val _ 4096 pv_rank pv_size d
  refine congrArg₂ (· * ·) (congrArg v ?_) (congrArg p ?_)
  · funext x
    apply Fin.ext
    match x with
    | ⟨0, _⟩ => rfl
    | ⟨1, _⟩ => exact hd
    | ⟨2, _⟩ => rfl
    | ⟨3, _⟩ => rfl
  · funext x
    apply Fin.ext
    match x with
    | ⟨0, _⟩ => rfl
    | ⟨1, _⟩ => rfl
    | ⟨2, _⟩ => rfl
    | ⟨3, _⟩ => exact hd

theorem reduces_keys : S4x8x4096x4096.Reduces [3] S4x8x4096 := by decide

theorem keys_lift (b : Fin 4) (a : Fin 8) (s i : Fin 4096) : reduces_keys.lift (ix3 b a s) i = ix4 b a s i := by
  funext x
  apply Fin.ext
  match x with
  | ⟨0, _⟩ => rfl
  | ⟨1, _⟩ => rfl
  | ⟨2, _⟩ => rfl
  | ⟨3, _⟩ => rfl

section Values
variable (q k : FVec Ideal S4x4096x8x192 .f32) (q' k' : S4x4096x8x192.Idx → ℝ)
  (hq : ∀ x, q x = ((q' x : ℝ) : EReal)) (hk : ∀ x, k x = ((k' x : ℝ) : EReal))

include hq hk

theorem masked_at (b : Fin 4) (a : Fin 8) (s i : Fin 4096) : masked q k (ix4 b a s i) = Soft.nscore (wts q' k' b a s i) := by
  unfold masked
  rw [select_apply]
  have e : broadcastInDim S4x8x4096x4096 ![2, 3] bcast_S4096x4096_S4x8x4096x4096_2_3 seen (ix4 b a s i)
      = BitVec.ofBool (decide (i.val ≤ s.val)) :=
    (broadcastInDim_apply _ _ _ _ (ix2 s i) fun k => by
      match k with
      | ⟨0, _⟩ => rfl
      | ⟨1, _⟩ => rfl).trans (seen_at s i)
  rw [e, wts, wt]
  by_cases h : i.val ≤ s.val
  · rw [decide_eq_true h, if_pos h, ext_of _ _ _ i.isLt, Soft.nscore, if_pos (Real.exp_pos _), Real.log_exp]
    refine (?_ : _ = (∑ d : Fin 192, q (ix4 b s a d) * k (ix4 b i a d)) * ((cc : ℝ) : EReal)).trans ?_
    · exact congrArg₂ (· * ·) (qk_at q k b a s i) cc_eq
    · rw [sco, EReal.coe_mul, Soft.coe_sum]
      refine congrArg (· * _) (Finset.sum_congr rfl fun d _ => ?_)
      rw [hq, hk, EReal.coe_mul]
  · rw [decide_eq_false h, if_neg h, Soft.nscore, if_neg (lt_irrefl _)]
    exact bits_bot

theorem top_at (b : Fin 4) (a : Fin 8) (s : Fin 4096) :
    top q k (ix3 b a s) = max ⊥ ((Finset.univ : Finset (Fin 4096)).fold max ⊥ fun i => Soft.nscore (wts q' k' b a s i)) := by
  unfold top
  rw [maximumf_apply]
  refine congrArg₂ max bits_bot ?_
  refine (congrFun (hostReduce_maximumf_eq_multiReduction (F := Ideal) (φ := .f32) (masked q k) 0xFF800000#32 _ _ reduces_keys (.inl rfl) rfl) _).trans ?_
  refine (Ideal.multiReduction_maximumf_single (a := (3 : Fin S4x8x4096x4096.rank)) _ _ _ _ _ _).trans ?_
  show Finset.fold max (Ideal.ofBits .f32 0xFF800000#32) _ _ = _
  rw [bits_bot]
  exact congrArg (fun f => Finset.fold max ⊥ f (Finset.univ : Finset (Fin 4096)))
    (funext fun i => (congrArg (masked q k) (keys_lift b a s i)).trans (masked_at q k q' k' hq hk b a s i))

theorem expd_at (b : Fin 4) (a : Fin 8) (s i : Fin 4096) :
    expd q k (ix4 b a s i) = Ideal.exp (Soft.nscore (wts q' k' b a s i) - top q k (ix3 b a s)) :=
  congrArg Ideal.exp (congrArg₂ (· - ·) (masked_at q k q' k' hq hk b a s i) (along_at _ b a s i))

theorem total_at (b : Fin 4) (a : Fin 8) (s : Fin 4096) :
    total q k (ix3 b a s) = ∑ i : Fin 4096, Ideal.exp (Soft.nscore (wts q' k' b a s i) - top q k (ix3 b a s)) := by
  unfold total
  rw [hostReduceAdd_apply, Ideal.hostReduceAdd_single _ reduces_keys]
  show Ideal.ofBits .f32 0x00000000#32 + _ = _
  rw [Ideal.ofBits_zero_f32, zero_add]
  exact Finset.sum_congr rfl fun i _ => (congrArg (expd q k) (keys_lift b a s i)).trans (expd_at q k q' k' hq hk b a s i)

theorem prob_at (b : Fin 4) (a : Fin 8) (s i : Fin 4096) :
    prob q k (ix4 b a s i) = ((wts q' k' b a s i / ∑ i, wts q' k' b a s i : ℝ) : EReal) := by
  refine (congrArg₂ Ideal.div (expd_at q k q' k' hq hk b a s i)
    ((along_at _ b a s i).trans (total_at q k q' k' hq hk b a s))).trans ?_
  exact Soft.softmax_weight (wts q' k' b a s) (fun i => wt_nonneg _ _ _) ⟨s, wt_pos _ _ _ le_rfl⟩ _ (top_at q k q' k' hq hk b a s) i

end Values

theorem res_whole (m : (ℓ : Loc nD τ sig) → Buf (Elt Ideal) ℓ) (c : Dev nD) (q' k' : S4x4096x8x192.Idx → ℝ)
    (hq : ∀ x, m ((c.tc : Thread nD τ).loc main_arg0) x = ((q' x : ℝ) : EReal))
    (hk : ∀ x, m ((c.tc : Thread nD τ).loc main_arg1) x = ((k' x : ℝ) : EReal)) :
    Value.res_main_v24 m c = whole q' k' (m ((c.tc : Thread nD τ).loc main_arg2)) := by
  rw [res_eq]
  funext x
  obtain ⟨b, a, s, e, rfl⟩ : ∃ (b : Fin 4) (a : Fin 8) (s : Fin 4096) (e : Fin 128),
      x = ix2 (row b s) (⟨128 * a.val + e.val, by omega⟩ : Fin 1024) := by
    have h0 : (x 0).val < 16384 := (x 0).isLt
    have h1 : (x 1).val < 1024 := (x 1).isLt
    refine ⟨⟨(x 0).val / 4096, by omega⟩, ⟨(x 1).val / 128, by omega⟩, ⟨(x 0).val % 4096, by omega⟩, ⟨(x 1).val % 128, by omega⟩,
      funext fun k => Fin.ext ?_⟩
    match k with
    | ⟨0, _⟩ => show (x 0).val = 4096 * ((x 0).val / 4096) + (x 0).val % 4096; omega
    | ⟨1, _⟩ => show (x 1).val = 128 * ((x 1).val / 128) + (x 1).val % 128; omega
  refine Eq.trans ?_ (whole_at q' k' _ b a s e _ rfl).symm
  rw [laid_at, pv_at]
  unfold att
  refine Finset.sum_congr rfl fun i _ => ?_
  rw [prob_at _ _ q' k' hq hk, mul_comm]

end Cert.ReferenceIdeal.Att

end
-- ==== Proof.Close.lean ====
module

public import proofs.«01_k».proof.Defs
public import proofs.«01_k».proof.Proof.Frames
public import proofs.«01_k».proof.Proof.Ref
public import Idealize.ShloMosaic.Lib.ReduceAll

@[expose] public section

/-! The attention's value: over the extended reals and finite queries and keys, the kernel and the reference leave one array. -/

set_option maxRecDepth 16384

noncomputable section

namespace Cert.Att

open Idealize.ShloMosaic Idealize.ShloMosaic.TcCoe Idealize.SL.Sem Idealize.ShloMosaic.ValueIdx

instance preFacts : Cert.Pre_finite.Facts where
  bcast_S_S4x4096x8x192 := by decide
  reducesTo_S4x4096x8x192_S_d0_1_2_3 := by decide
  h_S_ := by decide

instance : Subsingleton Cert.Pre_finite.S_.Idx := ⟨fun a b => funext fun k => k.elim0⟩

theorem and_one {x y : BitVec 1} (h : x &&& y = 1#1) : x = 1#1 ∧ y = 1#1 := by
  revert x y
  decide

theorem top_bits : Ideal.ofBits .f32 0x7F800000#32 = (⊤ : EReal) := by
  simp [Ideal.ofBits, Ideal.ieee]

/-- A number whose absolute value is below infinity is real. -/
theorem real_of_abs (x : EReal) (h : max x (-x) < ⊤) : x = ((x.toReal : ℝ) : EReal) := by
  refine (EReal.coe_toReal ?_ ?_).symm
  · rintro rfl
    simp at h
  · rintro rfl
    simp at h

theorem all_real (x : FVec Ideal Cert.Pre_finite.S4x4096x8x192 .f32)
    (h : Host.reduce IntOp.andi
      (cmpf .olt (Host.absf x) (broadcastInDim Cert.Pre_finite.S4x4096x8x192 ![] Cert.Pre_finite.Facts.bcast_S_S4x4096x8x192
        (constant Cert.Pre_finite.S_ .f32 0x7F800000#32)))
      (constantI Cert.Pre_finite.S_ 1 1#1) Cert.Pre_finite.Facts.reducesTo_S4x4096x8x192_S_d0_1_2_3 Cert.Pre_finite.Facts.h_S_ ix0 = 1#1)
    (i : Cert.Pre_finite.S4x4096x8x192.Idx) : x i = (((x i).toReal : ℝ) : EReal) := by
  have e := Host.reduce_andi_all _ _ _ _ _ h i
  have e' : BitVec.ofBool (decide (max (x i) (-(x i)) < Ideal.ofBits .f32 0x7F800000#32)) = 1#1 := e
  refine real_of_abs _ ?_
  by_contra hn
  rw [top_bits, decide_eq_false hn] at e'
  exact absurd e' (by decide)

theorem finite_real (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ x, m ((c.tc : Thread Cert.KernelIdeal.nD Cert.KernelIdeal.τ).loc Cert.KernelIdeal.main_arg0) x
        = (((m ((c.tc : Thread Cert.KernelIdeal.nD Cert.KernelIdeal.τ).loc Cert.KernelIdeal.main_arg0) x : EReal).toReal : ℝ) : EReal))
    ∧ (∀ x, m ((c.tc : Thread Cert.KernelIdeal.nD Cert.KernelIdeal.τ).loc Cert.KernelIdeal.main_arg1) x
        = (((m ((c.tc : Thread Cert.KernelIdeal.nD Cert.KernelIdeal.τ).loc Cert.KernelIdeal.main_arg1) x : EReal).toReal : ℝ) : EReal)) := by
  have e := congrFun (h c) ix0
  obtain ⟨e1, e2⟩ := and_one e
  exact ⟨all_real _ e1, all_real _ e2⟩

theorem value_attention : Cert.algebraic_KernelIdeal_ReferenceIdeal_pre_finite := fun m g m' g' hpre harg => by
  have hm : ∀ c : Dev Cert.KernelIdeal.nD, ∃ q' k' : Cert.KernelIdeal.S4x4096x8x192.Idx → ℝ,
      (∀ x, m ((c.tc : Thread Cert.KernelIdeal.nD Cert.KernelIdeal.τ).loc Cert.KernelIdeal.main_arg0) x = ((q' x : ℝ) : EReal))
      ∧ ∀ x, m ((c.tc : Thread Cert.KernelIdeal.nD Cert.KernelIdeal.τ).loc Cert.KernelIdeal.main_arg1) x = ((k' x : ℝ) : EReal) :=
    fun c => ⟨_, _, finite_real m hpre c⟩
  refine ⟨final m, ?_, ?_⟩
  · refine (θ_run Cert.KernelIdeal.defs _ _).mono (fun r h c => ⟨(h.1 c).1 3, ?_⟩) (Cert.KernelIdeal.Att.run_main (F := Ideal) m g)
    exact ⟨((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c)⟩
  · refine (θ_run Cert.ReferenceIdeal.defs _ _).mono (fun r h c => ⟨(h c).1.trans ?_, (h c).2⟩) (Cert.ReferenceIdeal.Value.run m' g')
    obtain ⟨q', k', hq, hk⟩ := hm c
    obtain ⟨a0, a1, a2⟩ := harg c
    refine (Cert.ReferenceIdeal.Att.res_whole m' c q' k' (fun x => (congrFun a0 x).trans (hq x)) fun x => (congrFun a1 x).trans (hk x)).trans ?_
    rw [a2]
    exact (Cert.KernelIdeal.Att.final_whole m c q' k' hq hk).symm

end Cert.Att

end
-- ==== Proof.FfnMath.lean ====
module

public import Idealize.ShloMosaic.PureOps.Ideal
public import Idealize.ShloMosaic.PureOps.Ideal.Laws

@[expose] public section

/-! The feed-forward block over the extended reals: a row's normalisation, one hidden unit's part of a result, and the
    gate written with a hyperbolic tangent against the gate written with a logistic function. -/

noncomputable section

namespace Cert.Ffn

open Idealize.ShloMosaic

abbrev half : EReal := Ideal.ofBits .f32 0x3F000000#32
abbrev one : EReal := Ideal.ofBits .f32 0x3F800000#32
abbrev width : EReal := Ideal.ofBits .f32 0x45000000#32
abbrev inv : EReal := Ideal.ofBits .f32 0x3A000000#32
abbrev eps : EReal := Ideal.ofBits .f32 0x358637BD#32

theorem half_eq : half = (((1 / 2 : ℝ)) : EReal) := by
  simp [half, Ideal.ofBits, Ideal.ieee, -EReal.coe_mul]
  norm_num

theorem one_eq : one = ((1 : ℝ) : EReal) := by
  simp [one, Ideal.ofBits, Ideal.ieee, -EReal.coe_mul]
  norm_num

theorem width_eq : width = ((2048 : ℝ) : EReal) := by
  simp [width, Ideal.ofBits, Ideal.ieee, -EReal.coe_mul]
  norm_num

theorem inv_eq : inv = ((1 / 2048 : ℝ) : EReal) := by
  simp [inv, Ideal.ofBits, Ideal.ieee, -EReal.coe_mul]
  norm_num

theorem eps_eq : ∃ e : ℝ, 0 < e ∧ eps = ((e : ℝ) : EReal) := by
  refine ⟨8796093 * 2 ^ (-43 : ℤ), by positivity, ?_⟩
  simp [eps, Ideal.ofBits, Ideal.ieee, -EReal.coe_mul]

/-- A row over the root of its mean square, each entry weighted. -/
def nrm (X W : Fin 2048 → EReal) (d : Fin 2048) : EReal := X d * Ideal.rsqrt ((∑ e, X e * X e) * inv + eps) * W d

theorem mean_eq (S : EReal) : Ideal.div S width = S * inv := by
  have h : width ≠ 0 := by
    rw [width_eq]
    norm_cast
  rw [Ideal.div, if_neg h, width_eq, inv_eq, ← EReal.coe_inv]
  norm_num

/-- One hidden unit: half the gated product, the gate by a hyperbolic tangent. -/
def act (g u : EReal) : EReal := (half * g * Ideal.tanh (half * g) + half * g) * (half * u)

/-- One hidden unit: the gated product, the gate by a logistic function. -/
def gated (g u : EReal) : EReal := g * Ideal.div one (one + Ideal.exp (-g)) * u

theorem silu_real (x : ℝ) : 1 / 2 * x * Real.tanh (1 / 2 * x) + 1 / 2 * x = x * (1 / (1 + Real.exp (-x))) := by
  have e : Real.exp (-x) = Real.exp (-(1 / 2 * x)) * Real.exp (-(1 / 2 * x)) := by
    rw [← Real.exp_add]
    ring_nf
  have p := Real.exp_pos (1 / 2 * x)
  have n := Real.exp_pos (-(1 / 2 * x))
  have c : Real.exp (1 / 2 * x) * Real.exp (-(1 / 2 * x)) = 1 := by
    rw [← Real.exp_add, add_neg_cancel, Real.exp_zero]
  rw [Real.tanh_eq_sinh_div_cosh, Real.sinh_eq, Real.cosh_eq, e]
  generalize Real.exp (1 / 2 * x) = a at *
  generalize Real.exp (-(1 / 2 * x)) = b at *
  have h1 : a + b ≠ 0 := by positivity
  have h2 : 1 + b * b ≠ 0 := by positivity
  field_simp
  linear_combination (2 * b * x) * c

theorem act_eq (g : ℝ) (u : EReal) : act (g : EReal) u = half * gated (g : EReal) u := by
  have h : (one + Ideal.exp (-(g : EReal))) = ((1 + Real.exp (-g) : ℝ) : EReal) := by
    rw [one_eq, ← EReal.coe_neg, EReal.coe_add]
    rfl
  have hp : (1 + Real.exp (-g)) ≠ 0 := by positivity
  have hd : Ideal.div one (one + Ideal.exp (-(g : EReal))) = ((1 / (1 + Real.exp (-g)) : ℝ) : EReal) := by
    rw [h, Ideal.div, if_neg (by exact_mod_cast hp), one_eq, ← EReal.coe_inv, ← EReal.coe_mul, one_div, one_mul]
  have hs : half * (g : EReal) * Ideal.tanh (half * (g : EReal)) + half * (g : EReal)
      = (g : EReal) * Ideal.div one (one + Ideal.exp (-(g : EReal))) := by
    rw [hd, half_eq, ← EReal.coe_mul]
    show (((1 / 2 * g : ℝ) : EReal)) * ((Real.tanh (1 / 2 * g) : ℝ) : EReal) + _ = _
    rw [← EReal.coe_mul, ← EReal.coe_add, ← EReal.coe_mul, silu_real]
  rw [act, gated, hs, mul_left_comm]

theorem half_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih, half_eq]
    exact EReal.left_distrib_of_nonneg_of_ne_top (by norm_cast; norm_num) (EReal.coe_ne_top _) _ _

theorem sum_real {ι : Type} (s : Finset ι) (f : ι → EReal) (h : ∀ i, ∃ r : ℝ, f i = ((r : ℝ) : EReal)) :
    ∃ r : ℝ, ∑ i ∈ s, f i = ((r : ℝ) : EReal) := by
  choose r hr using h
  exact ⟨∑ i ∈ s, r i, by rw [Finset.sum_congr rfl fun i _ => hr i]; exact (map_sum (⟨⟨fun x : ℝ => (x : EReal), rfl⟩, EReal.coe_add⟩ : ℝ →+ EReal) r s).symm⟩

theorem sq_nonneg' (x : EReal) : 0 ≤ x * x := by
  rcases le_total 0 x with h | h
  · exact mul_nonneg h h
  · have : x * x = (-x) * (-x) := (neg_mul_neg x x).symm
    rw [this]
    exact mul_nonneg (EReal.neg_nonneg.mpr h) (EReal.neg_nonneg.mpr h)

/-- A row's normalisation is real whatever the row, the weights real: an infinite entry makes the root's inverse zero. -/
theorem nrm_real (X W : Fin 2048 → EReal) (d : Fin 2048) (hW : ∃ w : ℝ, W d = ((w : ℝ) : EReal)) :
    ∃ r : ℝ, nrm X W d = ((r : ℝ) : EReal) := by
  obtain ⟨w, hw⟩ := hW
  obtain ⟨e, he, hee⟩ := eps_eq
  have h0 : 0 ≤ ∑ e, X e * X e := Finset.sum_nonneg fun i _ => sq_nonneg' _
  unfold nrm
  rw [hw, hee, inv_eq]
  by_cases hS : ∑ e, X e * X e = ⊤
  · rw [hS, EReal.top_mul_coe_of_pos (by norm_num), EReal.top_add_coe]
    refine ⟨0, ?_⟩
    show X d * 0 * _ = _
    simp
  · have hx : X d * X d ≠ ⊤ := fun h =>
      hS (top_le_iff.mp (h ▸ Finset.single_le_sum (f := fun e => X e * X e) (fun i _ => sq_nonneg' _) (Finset.mem_univ d)))
    have hr : X d = (((X d).toReal : ℝ) : EReal) := by
      refine (EReal.coe_toReal ?_ ?_).symm
      · intro h
        exact hx (by rw [h]; rfl)
      · intro h
        exact hx (by rw [h]; rfl)
    have hs : ∑ e, X e * X e = (((∑ e, X e * X e).toReal : ℝ) : EReal) :=
      (EReal.coe_toReal hS (fun h => by rw [h] at h0; exact absurd h0 (by simp))).symm
    have hn : 0 ≤ (∑ e, X e * X e).toReal := EReal.toReal_nonneg h0
    rw [hs, hr, ← EReal.coe_mul, ← EReal.coe_add]
    generalize (∑ e, X e * X e).toReal = s at hn
    have hp : 0 < s * (1 / 2048) + e := by positivity
    refine ⟨(X d).toReal * (Real.sqrt (s * (1 / 2048) + e))⁻¹ * w, ?_⟩
    have : Ideal.rsqrt ((s * (1 / 2048) + e : ℝ) : EReal) = (((Real.sqrt (s * (1 / 2048) + e))⁻¹ : ℝ) : EReal) := by
      show (if _ then _ else _) = _
      split_ifs <;> first | rfl | (exfalso; linarith)
    rw [this, ← EReal.coe_mul, ← EReal.coe_mul]

/-- The hidden units' part of chunk `n`, 512 units of 5632. -/
def chunk (T : Fin 5632 → EReal) (n : ℕ) : EReal := if h : n < 11 then ∑ f : Fin 512, T ⟨512 * n + f.val, by omega⟩ else 0

theorem sum_chunk (T : Fin 5632 → EReal) : ∑ n ∈ Finset.range 11, chunk T n = ∑ f, T f := by
  rw [Finset.sum_range, ← Equiv.sum_comp (finProdFinEquiv (m := 11) (n := 512)), Fintype.sum_prod_type]
  refine Finset.sum_congr rfl fun n _ => ?_
  rw [chunk, dif_pos n.isLt]
  refine Finset.sum_congr rfl fun f _ => congrArg T (Fin.ext ?_)
  show 512 * n.val + f.val = f.val + 512 * n.val
  omega

end Cert.Ffn

end
-- ==== Proof.FfnBody.lean ====
module

public import proofs.«01_k».proof.Proof.Gen.FeedForwardIdeal.Value
public import proofs.«01_k».proof.Proof.FfnMath
public import Idealize.ShloMosaic.Lib.MatmulPlain
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.Tactic

@[expose] public section

/-! One point of the feed-forward kernel, read at the extended reals: what it stores, entry by entry. -/

set_option maxRecDepth 16384

noncomputable section

namespace Cert.FeedForwardIdeal.Ffn

open Idealize.ShloMosaic Idealize.ShloMosaic.TcCoe Idealize.ShloMosaic.ValueIdx
open Cert.FeedForwardIdeal Cert.FeedForwardIdeal.Gen Cert.Ffn

theorem zz : (![0, 0] : Fin 2 → Nat) = fun _ => 0 := funext fun a => by fin_cases a <;> rfl

section Opened

variable {F : FTy → Type} [FloatOps F]
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S1024x2048 .f32) (h7 : a7.IsWhole)
  (a8 : Memref sig .tc .vmem S1024x2048 .bf16) (h8 : a8.IsWhole)
  (x : Vec F S1024x2048 .f32) (n : Vec F S1x2048 .f32) (g u : Vec F S2048x512 .bf16) (d : Vec F S512x2048 .bf16)

/-- The first point of a row block leaves the input plus the first chunk's part. -/
theorem out_A (p : cond0_0 i) (q : ¬cond0_1 i) :
    out0_A_5 c i a2 h2 a3 h3 a4 h4 a5 h5 a6 h6 a7 h7 a8 h8 p q x n g u d = k0_pay5 x n g u d := by
  unfold out0_A_5
  rw [View.read_writes_eq_canon _ _ _ (cover0_A_5 c i a2 h2 a3 h3 a4 h4 a5 h5 a6 h6 a7 h7 a8 h8 p q x n g u d)]
  unfold kernelRun0_A
  dsimp only
  sl_unfold_words
  rw [View.canon_unit_zero zz]
  simp only [View.readAt_eq_ld, h2.read_unread, h3.read_unread, h4.read_unread, h5.read_unread, h6.read_unread,
    View.ld_unit_zero (S := S1024x2048) zz, View.ld_unit_zero (S := S1x2048) zz, View.ld_unit_zero (S := S2048x512) zz,
    View.ld_unit_zero (S := S512x2048) zz]

/-- The first point of a row block leaves the rows' normalisation beside it. -/
theorem kept_A (p : cond0_0 i) (q : ¬cond0_1 i) :
    sout0_A_0 c i a2 h2 a3 h3 a4 h4 a5 h5 a6 h6 a7 h7 a8 h8 p q x n g u d = k0_pay3 x n := by
  unfold sout0_A_0
  rw [View.read_writes_eq_canon _ _ _ (scover0_A_0 c i a2 h2 a3 h3 a4 h4 a5 h5 a6 h6 a7 h7 a8 h8 p q x n g u d)]
  unfold kernelRun0_A
  dsimp only
  sl_unfold_words
  rw [View.canon_unit_zero zz]
  unfold k0_pay4
  simp only [View.readAt_eq_ld, h2.read_unread, h3.read_unread,
    View.ld_unit_zero (S := S1024x2048) zz, View.ld_unit_zero (S := S1x2048) zz, shapeCast_self]

/-- A later point adds its chunk's part, from the normalisation kept. -/
theorem out_B (p : ¬cond0_0 i) (q : cond0_1 i) (o : Vec F S1024x2048 .f32) (s : Vec F S1024x2048 .bf16) :
    out0_B_5 c i a2 h2 a3 h3 a4 h4 a5 h5 a6 h6 a7 h7 a8 h8 p q x n g u d o s = k0_pay1 o s g u d := by
  unfold out0_B_5
  rw [View.read_writes_eq_canon _ _ _ (cover0_B_5 c i a2 h2 a3 h3 a4 h4 a5 h5 a6 h6 a7 h7 a8 h8 p q x n g u d o s)]
  unfold kernelRun0_B
  dsimp only
  sl_unfold_words
  rw [View.canon_unit_zero zz]
  simp only [View.readAt_eq_ld, h4.read_unread, h5.read_unread, h6.read_unread, h7.read_unread, h8.read_unread,
    View.ld_unit_zero (S := S1024x2048) zz, View.ld_unit_zero (S := S2048x512) zz, View.ld_unit_zero (S := S512x2048) zz]

end Opened

/-! ## Entry by entry -/

theorem row_lift (r : Fin 1024) (k : Fin 2048) :
    reduces_S1024x2048_S1024.lift (a := (1 : Fin S1024x2048.rank)) (ix1 r) k = ix2 r k := by
  funext a
  apply Fin.ext
  match a with
  | ⟨0, _⟩ => rfl
  | ⟨1, _⟩ => rfl

theorem nrm_at (x : Vec Ideal S1024x2048 .f32) (n : Vec Ideal S1x2048 .f32) (r : Fin 1024) (d : Fin 2048) :
    k0_pay3 x n (ix2 r d) = nrm (fun d => x (ix2 r d)) (fun d => n (ix2 (0 : Fin 1) d)) d := by
  unfold k0_pay3 k0_pay2
  dsimp only
  rw [shapeCast_self, shapeCast_self]
  show x (ix2 r d) * broadcastTo S1024x2048 _ broadcasts_S1024x1_S1024x2048 (ix2 r d)
    * broadcastTo S1024x2048 n broadcasts_S1x2048_S1024x2048 (ix2 r d) = _
  rw [broadcastTo_apply n broadcasts_S1x2048_S1024x2048 (ix2 r d) (ix2 (0 : Fin 1) d) fun a => by
      match a with
      | ⟨0, _⟩ => rfl
      | ⟨1, _⟩ => rfl,
    broadcastTo_apply _ broadcasts_S1024x1_S1024x2048 (ix2 r d) (ix2 r (0 : Fin 1)) fun a => by
      match a with
      | ⟨0, _⟩ => rfl
      | ⟨1, _⟩ => rfl]
  show x (ix2 r d) * Ideal.rsqrt (shapeCast S1024x1 _ shapeCasts_S1024_S1024x1 (ix2 r (0 : Fin 1)) * inv + eps) * _ = _
  rw [shapeCast_apply _ shapeCasts_S1024_S1024x1 (ix2 r (0 : Fin 1)) (ix1 r) (by
    rw [Shape.rowMajor_val_one, Shape.rowMajor_val_two]; show r.val = r.val * 1 + 0; omega)]
  unfold nrm
  congr 5
  refine (Ideal.multiReduction_add_single (a := (1 : Fin S1024x2048.rank)) _ _ _ _ _ _).trans ?_
  exact Finset.sum_congr rfl fun k _ => congrArg (fun y => x y * x y) (row_lift r k)

/-- A hidden unit's part of one result: its gated activation by its weight. -/
def unit (s : Fin 2048 → EReal) (g u : Fin 2048 → EReal) (w : EReal) : EReal :=
  act (∑ d, s d * g d) (∑ d, s d * u d) * w

theorem acc_at (o : Vec Ideal S1024x2048 .f32) (s : FVec Ideal S1024x2048 .bf16) (g u : Vec Ideal S2048x512 .bf16)
    (d : Vec Ideal S512x2048 .bf16) (r : Fin 1024) (e : Fin 2048) :
    k0_pay1 o s g u d (ix2 r e) = o (ix2 r e) + ∑ f : Fin 512,
      unit (fun k => s (ix2 r k)) (fun k => g (ix2 k f)) (fun k => u (ix2 k f)) (d (ix2 f e)) := by
  unfold k0_pay1
  rw [shapeCast_self, shapeCast_self, shapeCast_self, shapeCast_self]
  show o (ix2 r e) + FloatOps.matmul (F := Ideal) _ none _ d _ (ix2 r e) = _
  congr 1
  refine (Ideal.matmul_plain_apply (M := 1024) (K := 512) (N := 2048) none _ _ _ r e).trans ?_
  rw [constant_apply]
  show Ideal.ofBits .f32 0x00000000#32 + _ = _
  rw [Ideal.ofBits_zero_f32, zero_add]
  refine Finset.sum_congr rfl fun f _ => ?_
  unfold unit
  congr 1
  have hm (w : FVec Ideal S2048x512 .bf16) :
      FloatOps.matmul (F := Ideal) dot_S1024x2048_S2048x512_S1024x512_1_0_0_1_n_n none s w
        (constant S1024x512 .f32 0x00000000#32) (ix2 r f) = ∑ k, s (ix2 r k) * w (ix2 k f) := by
    refine (Ideal.matmul_plain_apply (M := 1024) (K := 2048) (N := 512) none _ _ _ r f).trans ?_
    rw [constant_apply]
    show Ideal.ofBits .f32 0x00000000#32 + _ = _
    rw [Ideal.ofBits_zero_f32, zero_add]
  rw [← hm g, ← hm u]
  rfl

theorem first_eq (x : Vec Ideal S1024x2048 .f32) (n : Vec Ideal S1x2048 .f32) (g u : Vec Ideal S2048x512 .bf16)
    (d : Vec Ideal S512x2048 .bf16) : k0_pay5 x n g u d = k0_pay1 x (k0_pay3 x n) g u d := rfl

end Cert.FeedForwardIdeal.Ffn

end
-- ==== Proof.FfnWhole.lean ====
module

public import proofs.«01_k».proof.Proof.FfnBody
public import Idealize.ShloMosaic.Lib.StableHlo.Run

@[expose] public section

/-! The array the feed-forward kernel leaves: each row of the input plus its hidden units' parts, by induction on the
    chunks of hidden units. -/

set_option maxRecDepth 16384

noncomputable section

namespace Cert.FeedForwardIdeal.Ffn

open Idealize.ShloMosaic Idealize.ShloMosaic.TcCoe Idealize.ShloMosaic.ValueIdx
open Cert.FeedForwardIdeal Cert.FeedForwardIdeal.Gen Cert.Ffn

/-! ## What the region finds in its arrays -/

section Launch
variable {F : FTy → Type} [FloatOps F] (m : (ℓ : Loc nD τ sig) → Buf (Elt F) ℓ) (c : Dev nD)

theorem V_x : V m c main_v0 = shapeCast S16384x2048 (m ((c.tc : Thread nD τ).loc main_arg0)) shapeCasts_S4x4096x2048_S16384x2048 := by
  simp only [V, hostOps0, List.flatten_cons, List.flatten_nil, List.cons_append, List.nil_append]
  after_results_simp <;> rfl

theorem V_n : V m c main_v1 = shapeCast S1x2048 (m ((c.tc : Thread nD τ).loc main_arg1)) shapeCasts_S2048_S1x2048 := by
  simp only [V, hostOps0, List.flatten_cons, List.flatten_nil, List.cons_append, List.nil_append]
  after_results_simp <;> rfl

theorem V_g : (V m c main_v2 : FVec F S2048x5632 .bf16)
    = truncf .bf16 (m ((c.tc : Thread nD τ).loc main_arg2) : FVec F S2048x5632 .f32) bitsLt_bf16_f32 := by
  simp only [V, hostOps0, List.flatten_cons, List.flatten_nil, List.cons_append, List.nil_append]
  after_results_simp <;> rfl

theorem V_u : (V m c main_v3 : FVec F S2048x5632 .bf16)
    = truncf .bf16 (m ((c.tc : Thread nD τ).loc main_arg3) : FVec F S2048x5632 .f32) bitsLt_bf16_f32 := by
  simp only [V, hostOps0, List.flatten_cons, List.flatten_nil, List.cons_append, List.nil_append]
  after_results_simp <;> rfl

theorem V_d : (V m c main_v4 : FVec F S5632x2048 .bf16)
    = truncf .bf16 (m ((c.tc : Thread nD τ).loc main_arg4) : FVec F S5632x2048 .f32) bitsLt_bf16_f32 := by
  simp only [V, hostOps0, List.flatten_cons, List.flatten_nil, List.cons_append, List.nil_append]
  after_results_simp <;> rfl

end Launch

/-! ## The blocks of a grid point -/

theorem t_lt (t : Fin cfg0.N) : t.val < 176 := lt_of_lt_of_eq t.isLt N_0

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)

/-- Row `r` of a point's row block. -/
def row (t : Fin cfg0.N) (r : Fin 1024) : Fin 16384 := ⟨1024 * (t.val / 11) + r.val, by have := t_lt t; omega⟩
/-- Unit `f` of a point's chunk of hidden units. -/
def hid (t : Fin cfg0.N) (f : Fin 512) : Fin 5632 := ⟨512 * (t.val % 11) + f.val, by omega⟩

section Blocks
variable (m : (ℓ : Loc nD τ sig) → Buf (Elt Ideal) ℓ) (c : Dev nD)

/-- The input's rows, the norm's weights and the three weight matrices, as the region finds them. -/
def X (r : Fin 16384) (d : Fin 2048) : EReal := (V m c main_v0 : Vec Ideal S16384x2048 .f32) (ix2 r d)
def W (d : Fin 2048) : EReal := (V m c main_v1 : Vec Ideal S1x2048 .f32) (ix2 (0 : Fin 1) d)
def G (d : Fin 2048) (f : Fin 5632) : EReal := (V m c main_v2 : Vec Ideal S2048x5632 .bf16) (ix2 d f)
def U (d : Fin 2048) (f : Fin 5632) : EReal := (V m c main_v3 : Vec Ideal S2048x5632 .bf16) (ix2 d f)
def D (f : Fin 5632) (e : Fin 2048) : EReal := (V m c main_v4 : Vec Ideal S5632x2048 .bf16) (ix2 f e)

variable (t : Fin cfg0.N)

theorem iblk_x (r : Fin 1024) (d : Fin 2048) : iblk m c 0 t (ix2 r d) = X m c (row t r) d := by
  obtain ⟨e0, e1⟩ := idx0 t
  show V m c main_v0 (((cfg0.win 0).blk t).view.emb (ix2 r d)) = V m c main_v0 _
  refine congrArg (V m c main_v0) (funext fun k => Fin.ext ?_)
  match k with
  | ⟨0, _⟩ => show win0_0.index t (0 : Fin 2) * 1024 + 1 * r.val = 1024 * (t.val / 11) + r.val; omega
  | ⟨1, _⟩ => show win0_0.index t (1 : Fin 2) * 2048 + 1 * d.val = d.val; omega

theorem iblk_n (d : Fin 2048) : iblk m c 1 t (ix2 (0 : Fin 1) d) = W m c d := by
  obtain ⟨e0, e1⟩ := idx1 t
  show V m c main_v1 (((cfg0.win 1).blk t).view.emb (ix2 (0 : Fin 1) d)) = V m c main_v1 _
  refine congrArg (V m c main_v1) (funext fun k => Fin.ext ?_)
  match k with
  | ⟨0, _⟩ => show win0_1.index t (0 : Fin 2) * 1 + 1 * 0 = 0; omega
  | ⟨1, _⟩ => show win0_1.index t (1 : Fin 2) * 2048 + 1 * d.val = d.val; omega

theorem iblk_g (d : Fin 2048) (f : Fin 512) : iblk m c 2 t (ix2 d f) = G m c d (hid t f) := by
  obtain ⟨e0, e1⟩ := idx2 t
  show V m c main_v2 (((cfg0.win 2).blk t).view.emb (ix2 d f)) = V m c main_v2 _
  refine congrArg (V m c main_v2) (funext fun k => Fin.ext ?_)
  match k with
  | ⟨0, _⟩ => show win0_2.index t (0 : Fin 2) * 2048 + 1 * d.val = d.val; omega
  | ⟨1, _⟩ => show win0_2.index t (1 : Fin 2) * 512 + 1 * f.val = 512 * (t.val % 11) + f.val; omega

theorem iblk_u (d : Fin 2048) (f : Fin 512) : iblk m c 3 t (ix2 d f) = U m c d (hid t f) := by
  obtain ⟨e0, e1⟩ := idx3 t
  show V m c main_v3 (((cfg0.win 3).blk t).view.emb (ix2 d f)) = V m c main_v3 _
  refine congrArg (V m c main_v3) (funext fun k => Fin.ext ?_)
  match k with
  | ⟨0, _⟩ => show win0_3.index t (0 : Fin 2) * 2048 + 1 * d.val = d.val; omega
  | ⟨1, _⟩ => show win0_3.index t (1 : Fin 2) * 512 + 1 * f.val = 512 * (t.val % 11) + f.val; omega

theorem iblk_d (f : Fin 512) (e : Fin 2048) : iblk m c 4 t (ix2 f e) = D m c (hid t f) e := by
  obtain ⟨e0, e1⟩ := idx4 t
  show V m c main_v4 (((cfg0.win 4).blk t).view.emb (ix2 f e)) = V m c main_v4 _
  refine congrArg (V m c main_v4) (funext fun k => Fin.ext ?_)
  match k with
  | ⟨0, _⟩ => show win0_4.index t (0 : Fin 2) * 512 + 1 * f.val = 512 * (t.val % 11) + f.val; omega
  | ⟨1, _⟩ => show win0_4.index t (1 : Fin 2) * 2048 + 1 * e.val = e.val; omega

/-- One hidden unit's part of result `(r, e)`. -/
def part (r : Fin 16384) (e : Fin 2048) (f : Fin 5632) : EReal :=
  unit (nrm (X m c r) (W m c)) (fun d => G m c d f) (fun d => U m c d f) (D m c f e)

/-- What a point adds: its chunk's parts. -/
theorem adds (o : Vec Ideal S1024x2048 .f32) (s : Vec Ideal S1024x2048 .bf16)
    (hs : ∀ (r : Fin 1024) (d : Fin 2048), s (ix2 r d) = nrm (X m c (row t r)) (W m c) d) (r : Fin 1024) (e : Fin 2048) :
    k0_pay1 o s (iblk m c 2 t) (iblk m c 3 t) (iblk m c 4 t) (ix2 r e)
      = o (ix2 r e) + chunk (part m c (row t r) e) (t.val % 11) := by
  refine (acc_at o s _ _ _ r e).trans ?_
  congr 1
  rw [chunk, dif_pos (Nat.mod_lt _ (by decide))]
  refine Finset.sum_congr rfl fun f _ => ?_
  show _ = part m c (row t r) e (hid t f)
  unfold part
  rw [show (fun k => s (ix2 r k)) = nrm (X m c (row t r)) (W m c) from funext fun k => hs r k,
    show (fun k => iblk m c 2 t (ix2 k f)) = (fun d => G m c d (hid t f)) from funext fun k => iblk_g m c t k f,
    show (fun k => iblk m c 3 t (ix2 k f)) = (fun d => U m c d (hid t f)) from funext fun k => iblk_u m c t k f,
    iblk_d]

theorem kept (r : Fin 1024) (d : Fin 2048) :
    k0_pay3 (iblk m c 0 t) (iblk m c 1 t) (ix2 r d) = nrm (X m c (row t r)) (W m c) d := by
  refine (nrm_at _ _ r d).trans ?_
  rw [show (fun d => iblk m c 0 t (ix2 r d)) = X m c (row t r) from funext fun k => iblk_x m c t r k,
    show (fun d => iblk m c 1 t (ix2 (0 : Fin 1) d)) = W m c from funext fun k => iblk_n m c t k]

/-- After a point: the rows' normalisation is kept, and the result holds the input plus the chunks so far. -/
def Held (n : ℕ) (hn : n < cfg0.N) : Prop :=
  (∀ (r : Fin 1024) (d : Fin 2048), (outsAt0 m c n hn).2 (ix2 r d) = nrm (X m c (row ⟨n, hn⟩ r)) (W m c) d)
  ∧ ∀ (r : Fin 1024) (e : Fin 2048), (outsAt0 m c n hn).1 (ix2 r e)
      = X m c (row ⟨n, hn⟩ r) e + ∑ k ∈ Finset.range (n % 11 + 1), chunk (part m c (row ⟨n, hn⟩ r) e) k

theorem held_first (h : t.val % 11 = 0) : Held m c t.val t.isLt := by
  have h1 : ¬1 ≤ t.val % 11 := by omega
  unfold Held
  rw [outsAt0_A m c t h h1]
  refine ⟨fun r d => ?_, fun r e => ?_⟩
  · dsimp only
    rw [kept_A]
    exact kept m c t r d
  · dsimp only
    rw [out_A, first_eq, adds m c t _ _ (kept m c t) r e, iblk_x, h]
    simp

theorem held_next (n : ℕ) (hn : n + 1 < cfg0.N) (h : ¬(n + 1) % 11 = 0) (ih : Held m c n (Nat.lt_of_succ_lt hn)) :
    Held m c (n + 1) hn := by
  have h1 : 1 ≤ (n + 1) % 11 := by omega
  have hr (r : Fin 1024) : row ⟨n + 1, hn⟩ r = row ⟨n, Nat.lt_of_succ_lt hn⟩ r :=
    Fin.ext (by show 1024 * ((n + 1) / 11) + r.val = 1024 * (n / 11) + r.val; omega)
  have hs : (n + 1) % 11 = n % 11 + 1 := by omega
  unfold Held at ih ⊢
  rw [outsAt0_B m c ⟨n + 1, hn⟩ h h1]
  refine ⟨fun r d => ?_, fun r e => ?_⟩
  · rw [hr]
    exact ih.1 r d
  · dsimp only
    rw [out_B, adds m c ⟨n + 1, hn⟩ _ _ (fun r d => by rw [hr]; exact ih.1 r d) r e, Finset.sum_range_succ, ← add_assoc]
    congr 1
    rw [hs, hr]
    exact ih.2 r e

theorem held : ∀ (n : ℕ) (hn : n < cfg0.N), Held m c n hn
  | 0, hn => held_first m c ⟨0, hn⟩ rfl
  | n + 1, hn => by
    by_cases h : (n + 1) % 11 = 0
    · exact held_first m c ⟨n + 1, hn⟩ h
    · exact held_next m c n hn h (held n (Nat.lt_of_succ_lt hn))

/-- The result array at `(r, e)`: the input plus all the hidden units' parts. -/
theorem whole_at (r : Fin 16384) (e : Fin 2048) :
    Value.G5 m c (ix2 r e) = X m c r e + ∑ f, part m c r e f := by
  have hr := r.isLt
  have he := e.isLt
  have hp : Value.pt5Of (ix2 r e) = 11 * (r.val / 1024) + 10 := by
    show 11 * (1 * (r.val / 1024 - 0) + 1 * (e.val / 2048 - 0)) + 10 = _
    omega
  have hlt : 11 * (r.val / 1024) + 10 < cfg0.N := lt_of_lt_of_eq (by omega) N_0.symm
  unfold Value.G5
  rw [dif_pos (by rw [hp]; exact hlt), ← Value.outsAt0_sweep m c _ (by rw [hp]; exact hlt)]
  have hl : Value.loc5Of (ix2 r e) = ix2 (⟨r.val % 1024, Nat.mod_lt _ (by decide)⟩ : Fin 1024) e := by
    funext a
    apply Fin.ext
    match a with
    | ⟨0, _⟩ => rfl
    | ⟨1, _⟩ => show e.val % 2048 = e.val; omega
  have key : ∀ (n : ℕ) (hn : n < cfg0.N), n = 11 * (r.val / 1024) + 10 →
      (outsAt0 m c n hn).1 (ix2 (⟨r.val % 1024, Nat.mod_lt _ (by decide)⟩ : Fin 1024) e) = X m c r e + ∑ f, part m c r e f := by
    intro n hn hq
    rw [(held m c n hn).2, show row ⟨n, hn⟩ (⟨r.val % 1024, Nat.mod_lt _ (by decide)⟩ : Fin 1024) = r from
      Fin.ext (by show 1024 * (n / 11) + r.val % 1024 = r.val; omega), show n % 11 + 1 = 11 by omega, sum_chunk]
  rw [hl]
  exact key _ _ hp

end Blocks

end Cert.FeedForwardIdeal.Ffn

end
-- ==== Proof.FfnRef.lean ====
module

public import proofs.«01_k».proof.Proof.Gen.FeedForwardReferenceIdeal.Run
public import proofs.«01_k».proof.Proof.FfnMath
public import Idealize.ShloMosaic.Lib.ValueIdx
public import Idealize.ShloMosaic.Lib.ValueLayout
public import Idealize.ShloMosaic.Lib.KernelVsHost
public import Idealize.ShloMosaic.Lib.IdealHost

@[expose] public section

/-! The feed-forward reference's array, an element at a time. -/

set_option maxRecDepth 16384

noncomputable section

namespace Cert.FeedForwardReferenceIdeal.Ffn

open Idealize.ShloMosaic Idealize.ShloMosaic.TcCoe Idealize.ShloMosaic.ValueIdx
open Cert.FeedForwardReferenceIdeal Cert.FeedForwardReferenceIdeal.Gen Cert.Ffn

section Stages
variable (x : FVec Ideal S4x4096x2048 .f32) (n : FVec Ideal S2048 .f32) (g u : FVec Ideal S2048x5632 .f32) (d : FVec Ideal S5632x2048 .f32)

/-- Each row's sum of squares. -/
def squares : FVec Ideal S4x4096 .f32 :=
  Host.reduceAdd (mulf x x) (constant S_ .f32 0x00000000#32) reducesTo_S4x4096x2048_S4x4096_d2 h_S_

/-- The inverse of each row's root mean square. -/
def scale : FVec Ideal S4x4096x1 .f32 :=
  Host.rsqrt (addf (Host.divf (broadcastInDim S4x4096x1 ![0, 1] bcast_S4x4096_S4x4096x1_0_1 (squares x))
    (broadcastInDim S4x4096x1 ![] bcast_S_S4x4096x1 (constant S_ .f32 0x45000000#32)))
    (broadcastInDim S4x4096x1 ![] bcast_S_S4x4096x1 (constant S_ .f32 0x358637BD#32)))

/-- The normalised rows. -/
def normed : FVec Ideal S4x4096x2048 .f32 :=
  mulf (mulf x (broadcastInDim S4x4096x2048 ![0, 1, 2] bcast_S4x4096x1_S4x4096x2048_0_1_2 (scale x)))
    (broadcastInDim S4x4096x2048 ![0, 1, 2] bcast_S1x1x2048_S4x4096x2048_0_1_2 (broadcastInDim S1x1x2048 ![2] bcast_S2048_S1x1x2048_2 n))

/-- The normalised rows by a weight matrix. -/
def proj (h : FVec Ideal S4x4096x2048 .f32) (w : FVec Ideal S2048x5632 .f32) : FVec Ideal S4x4096x5632 .f32 :=
  Host.dotGeneral (φ₁ := .f32) dot_S4x4096x2048_S2048x5632_S4x4096x5632_2_0_01_1_n_n none h w

/-- The gated activations. -/
def hidden (p q : FVec Ideal S4x4096x5632 .f32) : FVec Ideal S4x4096x5632 .f32 :=
  mulf (mulf p (Host.divf (broadcastInDim S4x4096x5632 ![] bcast_S_S4x4096x5632 (constant S_ .f32 0x3F800000#32))
    (addf (broadcastInDim S4x4096x5632 ![] bcast_S_S4x4096x5632 (constant S_ .f32 0x3F800000#32)) (Host.exp (Host.negf p))))) q

/-- The input plus half the block's result. -/
def result : FVec Ideal S16384x2048 .f32 :=
  shapeCast S16384x2048 (addf x (mulf (broadcastInDim S4x4096x2048 ![] bcast_S_S4x4096x2048 (constant S_ .f32 0x3F000000#32))
    (Host.dotGeneral (φ₁ := .f32) dot_S4x4096x5632_S5632x2048_S4x4096x2048_2_0_01_1_n_n none
      (hidden (proj (normed x n) g) (proj (normed x n) u)) d))) shapeCasts_S4x4096x2048_S16384x2048

end Stages

theorem proj_rank : dot_S4x4096x2048_S2048x5632_S4x4096x5632_2_0_01_1_n_n.contr.rank = 1 := rfl
theorem proj_size : dot_S4x4096x2048_S2048x5632_S4x4096x5632_2_0_01_1_n_n.contr.size ⟨0, by rw [proj_rank]; decide⟩ = 2048 := rfl

theorem proj_at (h : FVec Ideal S4x4096x2048 .f32) (w : FVec Ideal S2048x5632 .f32) (b : Fin 4) (s : Fin 4096) (f : Fin 5632) :
    proj h w (ix3 b s f) = ∑ d : Fin 2048, h (ix3 b s d) * w (ix2 d f) := by
  unfold proj
  simp only [Host.dotGeneral]
  rw [Ideal.dotGeneral_apply, ← Equiv.sum_comp (contrEquiv1 _ 2048 proj_rank proj_size).symm]
  refine Finset.sum_congr rfl fun d _ => ?_
  have hd := contrEquiv1_symm_val _ 2048 proj_rank proj_size d
  refine congrArg₂ (· * ·) (congrArg h ?_) (congrArg w ?_)
  · funext x
    apply Fin.ext
    match x with
    | ⟨0, _⟩ => rfl
    | ⟨1, _⟩ => rfl
    | ⟨2, _⟩ => exact hd
  · funext x
    apply Fin.ext
    match x with
    | ⟨0, _⟩ => exact hd
    | ⟨1, _⟩ => rfl

theorem down_rank : dot_S4x4096x5632_S5632x2048_S4x4096x2048_2_0_01_1_n_n.contr.rank = 1 := rfl
theorem down_size : dot_S4x4096x5632_S5632x2048_S4x4096x2048_2_0_01_1_n_n.contr.size ⟨0, by rw [down_rank]; decide⟩ = 5632 := rfl

theorem down_at (h : FVec Ideal S4x4096x5632 .f32) (w : FVec Ideal S5632x2048 .f32) (b : Fin 4) (s : Fin 4096) (e : Fin 2048) :
    Host.dotGeneral (φ₁ := .f32) dot_S4x4096x5632_S5632x2048_S4x4096x2048_2_0_01_1_n_n none h w (ix3 b s e)
      = ∑ f : Fin 5632, h (ix3 b s f) * w (ix2 f e) := by
  simp only [Host.dotGeneral]
  rw [Ideal.dotGeneral_apply, ← Equiv.sum_comp (contrEquiv1 _ 5632 down_rank down_size).symm]
  refine Finset.sum_congr rfl fun d _ => ?_
  have hd := contrEquiv1_symm_val _ 5632 down_rank down_size d
  refine congrArg₂ (· * ·) (congrArg h ?_) (congrArg w ?_)
  · funext x
    apply Fin.ext
    match x with
    | ⟨0, _⟩ => rfl
    | ⟨1, _⟩ => rfl
    | ⟨2, _⟩ => exact hd
  · funext x
    apply Fin.ext
    match x with
    | ⟨0, _⟩ => exact hd
    | ⟨1, _⟩ => rfl

theorem reduces_row : S4x4096x2048.Reduces [2] S4x4096 := by decide

theorem row_lift (b : Fin 4) (s : Fin 4096) (d : Fin 2048) : reduces_row.lift (ix2 b s) d = ix3 b s d := by
  funext x
  apply Fin.ext
  match x with
  | ⟨0, _⟩ => rfl
  | ⟨1, _⟩ => rfl
  | ⟨2, _⟩ => rfl

section Values
variable (x : FVec Ideal S4x4096x2048 .f32) (n : FVec Ideal S2048 .f32)

theorem squares_at (b : Fin 4) (s : Fin 4096) : squares x (ix2 b s) = ∑ d : Fin 2048, x (ix3 b s d) * x (ix3 b s d) := by
  unfold squares
  rw [hostReduceAdd_apply, Ideal.hostReduceAdd_single _ reduces_row]
  show Ideal.ofBits .f32 0x00000000#32 + _ = _
  rw [Ideal.ofBits_zero_f32, zero_add]
  exact Finset.sum_congr rfl fun d _ => congrArg (fun y => x y * x y) (row_lift b s d)

theorem scale_at (b : Fin 4) (s : Fin 4096) :
    scale x (ix3 b s (0 : Fin 1)) = Ideal.rsqrt ((∑ d : Fin 2048, x (ix3 b s d) * x (ix3 b s d)) * inv + eps) := by
  have e : broadcastInDim S4x4096x1 ![0, 1] bcast_S4x4096_S4x4096x1_0_1 (squares x) (ix3 b s (0 : Fin 1)) = _ :=
    (broadcastInDim_apply _ _ _ _ (ix2 b s) fun k => by
      match k with
      | ⟨0, _⟩ => rfl
      | ⟨1, _⟩ => rfl).trans (squares_at x b s)
  rw [← mean_eq, ← e]
  rfl

theorem normed_at (b : Fin 4) (s : Fin 4096) (d : Fin 2048) :
    normed x n (ix3 b s d) = nrm (fun d => x (ix3 b s d)) (fun d => n (ix1 d)) d := by
  have e1 : broadcastInDim S4x4096x2048 ![0, 1, 2] bcast_S4x4096x1_S4x4096x2048_0_1_2 (scale x) (ix3 b s d) = _ :=
    (broadcastInDim_apply _ _ _ _ (ix3 b s (0 : Fin 1)) fun k => by
      match k with
      | ⟨0, _⟩ => rfl
      | ⟨1, _⟩ => rfl
      | ⟨2, _⟩ => rfl).trans (scale_at x b s)
  have e2 : broadcastInDim S4x4096x2048 ![0, 1, 2] bcast_S1x1x2048_S4x4096x2048_0_1_2
      (broadcastInDim S1x1x2048 ![2] bcast_S2048_S1x1x2048_2 n) (ix3 b s d) = n (ix1 d) :=
    (broadcastInDim_apply _ _ _ _ (ix3 (0 : Fin 1) (0 : Fin 1) d) fun k => by
      match k with
      | ⟨0, _⟩ => rfl
      | ⟨1, _⟩ => rfl
      | ⟨2, _⟩ => rfl).trans (broadcastInDim_apply _ _ _ _ (ix1 d) fun k => by
        match k with
        | ⟨0, _⟩ => rfl)
  exact congrArg₂ (· * ·) (congrArg (x (ix3 b s d) * ·) e1) e2

theorem result_at (g u : FVec Ideal S2048x5632 .f32) (w : FVec Ideal S5632x2048 .f32) (b : Fin 4) (s : Fin 4096) (e : Fin 2048)
    (r : Fin 16384) (hr : r.val = 4096 * b.val + s.val) :
    result x n g u w (ix2 r e) = x (ix3 b s e) + half * ∑ f : Fin 5632,
      gated (∑ d, nrm (fun d => x (ix3 b s d)) (fun d => n (ix1 d)) d * g (ix2 d f))
        (∑ d, nrm (fun d => x (ix3 b s d)) (fun d => n (ix1 d)) d * u (ix2 d f)) * w (ix2 f e) := by
  unfold result
  refine (shapeCast_apply (s := S4x4096x2048) (t := S16384x2048) _ _ _ (ix3 b s e) ?_).trans ?_
  · rw [Shape.rowMajor_val_three, Shape.rowMajor_val_two]
    show (b.val * 4096 + s.val) * 2048 + e.val = r.val * 2048 + e.val
    omega
  · refine congrArg₂ (fun p q => x (ix3 b s e) + p * q) (rfl : _ = half) ((down_at _ w b s e).trans ?_)
    refine Finset.sum_congr rfl fun f _ => congrArg (· * w (ix2 f e)) ?_
    have hp (v : FVec Ideal S2048x5632 .f32) : proj (normed x n) v (ix3 b s f)
        = ∑ d, nrm (fun d => x (ix3 b s d)) (fun d => n (ix1 d)) d * v (ix2 d f) :=
      (proj_at _ v b s f).trans (Finset.sum_congr rfl fun d _ => by rw [normed_at])
    rw [← hp g, ← hp u]
    rfl

end Values

open Idealize.SL.Sem in
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2⟩) (Value.run m ρ)

end Cert.FeedForwardReferenceIdeal.Ffn

end
-- ==== Proof.FfnClose.lean ====
module

public import proofs.«01_k».proof.Defs
public import proofs.«01_k».proof.Proof.Gen.FeedForward.Frame
public import proofs.«01_k».proof.Proof.Close
public import proofs.«01_k».proof.Proof.FfnWhole
public import proofs.«01_k».proof.Proof.FfnRef

@[expose] public section

/-! The feed-forward block's value: over the extended reals and finite norm and gate weights, the kernel and the reference
    leave one array. -/

set_option maxRecDepth 16384

noncomputable section

namespace Cert.Ffn

open Idealize.ShloMosaic Idealize.ShloMosaic.TcCoe Idealize.SL.Sem Idealize.ShloMosaic.ValueIdx
open Cert.Att (and_one top_bits real_of_abs)

instance preFacts : Cert.Pre_finite_gate.Facts where
  bcast_S_S2048 := by decide
  reducesTo_S2048_S_d0 := by decide
  h_S_ := by decide
  bcast_S_S2048x5632 := by decide
  reducesTo_S2048x5632_S_d0_1 := by decide

instance : Subsingleton Cert.Pre_finite_gate.S_.Idx := ⟨fun a b => funext fun k => k.elim0⟩

theorem real_of_bit (x : EReal) (e : BitVec.ofBool (decide (max x (-x) < Ideal.ofBits .f32 0x7F800000#32)) = 1#1) :
    ∃ r : ℝ, x = ((r : ℝ) : EReal) := by
  refine ⟨_, real_of_abs _ ?_⟩
  by_contra hn
  rw [top_bits, decide_eq_false hn] at e
  exact absurd e (by decide)

section Kernel
open Cert.FeedForwardIdeal Cert.FeedForwardIdeal.Gen Cert.FeedForwardIdeal.Ffn

variable (m : (ℓ : Loc nD τ sig) → Buf (Elt Ideal) ℓ) (c : Dev nD)

theorem weights_real (h : Cert.Pre_FeedForwardIdeal_finite_gate m) :
    (∀ i, ∃ r : ℝ, (m ((c.tc : Thread nD τ).loc main_arg1) : FVec Ideal S2048 .f32) i = ((r : ℝ) : EReal))
    ∧ ∀ i, ∃ r : ℝ, (m ((c.tc : Thread nD τ).loc main_arg2) : FVec Ideal S2048x5632 .f32) i = ((r : ℝ) : EReal) := by
  have e := congrFun (h c) ix0
  obtain ⟨e1, e2⟩ := and_one e
  exact ⟨fun i => real_of_bit _ (Host.reduce_andi_all _ _ _ _ _ e1 i), fun i => real_of_bit _ (Host.reduce_andi_all _ _ _ _ _ e2 i)⟩

theorem X_eq (b : Fin 4) (s : Fin 4096) (d : Fin 2048) (r : Fin 16384) (hr : r.val = 4096 * b.val + s.val) :
    X m c r d = (m ((c.tc : Thread nD τ).loc main_arg0) : FVec Ideal S4x4096x2048 .f32) (ix3 b s d) := by
  unfold X
  rw [V_x]
  refine shapeCast_apply (s := S4x4096x2048) (t := S16384x2048) _ _ _ (ix3 b s d) ?_
  rw [Shape.rowMajor_val_three, Shape.rowMajor_val_two]
  show (b.val * 4096 + s.val) * 2048 + d.val = r.val * 2048 + d.val
  omega

theorem W_eq (d : Fin 2048) : W m c d = (m ((c.tc : Thread nD τ).loc main_arg1) : FVec Ideal S2048 .f32) (ix1 d) := by
  unfold W
  rw [V_n]
  refine shapeCast_apply (s := S2048) (t := S1x2048) _ _ _ (ix1 d) ?_
  rw [Shape.rowMajor_val_one, Shape.rowMajor_val_two]
  show d.val = 0 * 2048 + d.val
  omega

theorem G_eq (d : Fin 2048) (f : Fin 5632) :
    G m c d f = (m ((c.tc : Thread nD τ).loc main_arg2) : FVec Ideal S2048x5632 .f32) (ix2 d f) := congrFun (V_g m c) (ix2 d f)
theorem U_eq (d : Fin 2048) (f : Fin 5632) :
    U m c d f = (m ((c.tc : Thread nD τ).loc main_arg3) : FVec Ideal S2048x5632 .f32) (ix2 d f) := congrFun (V_u m c) (ix2 d f)
theorem D_eq (f : Fin 5632) (e : Fin 2048) :
    D m c f e = (m ((c.tc : Thread nD τ).loc main_arg4) : FVec Ideal S5632x2048 .f32) (ix2 f e) := congrFun (V_d m c) (ix2 f e)

/-- The kernel's array is the reference's function of the arguments. -/
theorem whole_eq (h : Cert.Pre_FeedForwardIdeal_finite_gate m) :
    Value.G5 m c = Cert.FeedForwardReferenceIdeal.Ffn.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  obtain ⟨hn, hg⟩ := weights_real m c h
  funext i
  obtain ⟨r, e, rfl⟩ : ∃ (r : Fin 16384) (e : Fin 2048), i = ix2 r e :=
    ⟨i 0, i 1, funext fun k => by
      match k with
      | ⟨0, _⟩ => rfl
      | ⟨1, _⟩ => rfl⟩
  have hr := r.isLt
  obtain ⟨b, s, hbs⟩ : ∃ (b : Fin 4) (s : Fin 4096), r.val = 4096 * b.val + s.val :=
    ⟨⟨r.val / 4096, by omega⟩, ⟨r.val % 4096, by omega⟩, by show r.val = 4096 * (r.val / 4096) + r.val % 4096; omega⟩
  refine (whole_at m c r e).trans (Eq.trans ?_ (Cert.FeedForwardReferenceIdeal.Ffn.result_at _ _ _ _ _ b s e r hbs).symm)
  rw [X_eq m c b s e r hbs, half_sum]
  refine congrArg₂ (fun p q : EReal => p + q) rfl (Finset.sum_congr rfl fun f _ => ?_)
  unfold part unit
  rw [show X m c r = (fun d => (m ((c.tc : Thread nD τ).loc main_arg0) : FVec Ideal S4x4096x2048 .f32) (ix3 b s d)) from
      funext fun d => X_eq m c b s d r hbs,
    show W m c = (fun d => (m ((c.tc : Thread nD τ).loc main_arg1) : FVec Ideal S2048 .f32) (ix1 d)) from funext fun d => W_eq m c d,
    show (fun d => G m c d f) = (fun d => (m ((c.tc : Thread nD τ).loc main_arg2) : FVec Ideal S2048x5632 .f32) (ix2 d f)) from
      funext fun d => G_eq m c d f,
    show (fun d => U m c d f) = (fun d => (m ((c.tc : Thread nD τ).loc main_arg3) : FVec Ideal S2048x5632 .f32) (ix2 d f)) from
      funext fun d => U_eq m c d f,
    D_eq]
  obtain ⟨p, hp⟩ := sum_real Finset.univ (fun d : Fin 2048 =>
      nrm (fun d => (m ((c.tc : Thread nD τ).loc main_arg0) : FVec Ideal S4x4096x2048 .f32) (ix3 b s d))
        (fun d => (m ((c.tc : Thread nD τ).loc main_arg1) : FVec Ideal S2048 .f32) (ix1 d)) d
        * (m ((c.tc : Thread nD τ).loc main_arg2) : FVec Ideal S2048x5632 .f32) (ix2 d f)) fun d => by
    obtain ⟨y, hy⟩ := nrm_real (fun d => (m ((c.tc : Thread nD τ).loc main_arg0) : FVec Ideal S4x4096x2048 .f32) (ix3 b s d))
      (fun d => (m ((c.tc : Thread nD τ).loc main_arg1) : FVec Ideal S2048 .f32) (ix1 d)) d (hn _)
    obtain ⟨z, hz⟩ := hg (ix2 d f)
    exact ⟨y * z, by rw [hy, hz, EReal.coe_mul]⟩
  dsimp only at hp ⊢
  rw [hp, act_eq, mul_assoc]

end Kernel

theorem frame_ffn : Cert.quiescent_FeedForward := fun m ρ _ => Cert.FeedForward.Gen.frame m ρ

theorem frame_ffn_ideal : Cert.quiescent_FeedForwardIdeal := fun m ρ _ => Cert.FeedForwardIdeal.Gen.frame m ρ

theorem frame_ffn_reference : Cert.quiescent_FeedForwardReferenceIdeal := fun m ρ _ =>
  (θ_run Cert.FeedForwardReferenceIdeal.defs _ _).mono
    (fun r h => ⟨fun c => (h c).2, sem_eq_zero_of_no_sems (by decide) r.2⟩)
    (Cert.FeedForwardReferenceIdeal.Value.run m ρ)

theorem value_ffn : Cert.algebraic_FeedForwardIdeal_FeedForwardReferenceIdeal_pre_finite_gate := fun m g m' g' hpre harg =>
  ⟨fun c => Cert.FeedForwardIdeal.Value.G5 m c, Cert.FeedForwardIdeal.Value.run m g,
    (θ_run Cert.FeedForwardReferenceIdeal.defs _ _).mono (fun r h c => ⟨(h c).1.trans (by
      obtain ⟨a0, a1, a2, a3, a4⟩ := harg c
      rw [a0, a1, a2, a3, a4]
      exact (whole_eq m c hpre).symm), (h c).2⟩) (Cert.FeedForwardReferenceIdeal.Ffn.run m' g')⟩

end Cert.Ffn

end
-- ==== Proof.MergeMath.lean ====
module

public import proofs.«01_k».proof.Proof.FfnMath

@[expose] public section

/-! The gates of the merge: the kernel's by a hyperbolic tangent, the reference's by an exponential, one function of the
    extended reals. -/

noncomputable section

namespace Cert.Mix

open Idealize.ShloMosaic Cert.Ffn

/-- A gate: half the hyperbolic tangent of half its argument, and a half. -/
def gate (z : EReal) : EReal := half * Ideal.tanh (half * z) + half

/-- A gate: one over one and the exponential of its argument's negative. -/
def sigm (z : EReal) : EReal := Ideal.div one (one + Ideal.exp (-z))

theorem tanh_real (x : ℝ) : 1 / 2 * Real.tanh (1 / 2 * x) + 1 / 2 = 1 / (1 + Real.exp (-x)) := by
  have e : Real.exp (-x) = Real.exp (-(1 / 2 * x)) * Real.exp (-(1 / 2 * x)) := by
    rw [← Real.exp_add]
    ring_nf
  have p := Real.exp_pos (1 / 2 * x)
  have n := Real.exp_pos (-(1 / 2 * x))
  have c : Real.exp (1 / 2 * x) * Real.exp (-(1 / 2 * x)) = 1 := by
    rw [← Real.exp_add, add_neg_cancel, Real.exp_zero]
  rw [Real.tanh_eq_sinh_div_cosh, Real.sinh_eq, Real.cosh_eq, e]
  generalize Real.exp (1 / 2 * x) = a at *
  generalize Real.exp (-(1 / 2 * x)) = b at *
  have h1 : a + b ≠ 0 := by positivity
  have h2 : 1 + b * b ≠ 0 := by positivity
  field_simp
  linear_combination (2 * b) * c

theorem gate_eq (z : EReal) : gate z = sigm z := by
  unfold gate sigm
  induction z with
  | bot =>
    rw [half_eq, one_eq, EReal.coe_mul_bot_of_pos (by norm_num), EReal.neg_bot]
    show ((1 / 2 : ℝ) : EReal) * (-1) + ((1 / 2 : ℝ) : EReal) = Ideal.div ((1 : ℝ) : EReal) (((1 : ℝ) : EReal) + ⊤)
    rw [EReal.coe_add_top, Ideal.div, if_neg (by decide), EReal.inv_top, mul_zero, mul_neg, mul_one, ← EReal.coe_neg, ← EReal.coe_add]
    norm_num
  | top =>
    rw [half_eq, one_eq, EReal.coe_mul_top_of_pos (by norm_num), EReal.neg_top]
    show ((1 / 2 : ℝ) : EReal) * 1 + ((1 / 2 : ℝ) : EReal) = Ideal.div ((1 : ℝ) : EReal) (((1 : ℝ) : EReal) + 0)
    rw [add_zero, Ideal.div, if_neg (by norm_num), mul_one, ← EReal.coe_add, ← EReal.coe_inv, ← EReal.coe_mul]
    norm_num
  | coe g =>
    have h : (one + Ideal.exp (-(g : EReal))) = ((1 + Real.exp (-g) : ℝ) : EReal) := by
      rw [one_eq, ← EReal.coe_neg, EReal.coe_add]
      rfl
    have hp : (1 + Real.exp (-g)) ≠ 0 := by positivity
    have hd : Ideal.div one (one + Ideal.exp (-(g : EReal))) = ((1 / (1 + Real.exp (-g)) : ℝ) : EReal) := by
      rw [h, Ideal.div, if_neg (by exact_mod_cast hp), one_eq, ← EReal.coe_inv, ← EReal.coe_mul, one_div, one_mul]
    rw [hd, half_eq, ← EReal.coe_mul]
    show ((1 / 2 : ℝ) : EReal) * ((Real.tanh (1 / 2 * g) : ℝ) : EReal) + _ = _
    rw [← EReal.coe_mul, ← EReal.coe_add, tanh_real]

/-- Three branches' projections `p` under their gates. -/
def merged (σ : EReal → EReal) (z0 z1 z2 p0 p1 p2 : EReal) : EReal := σ z0 * p0 + σ z1 * p1 + σ z2 * p2

end Cert.Mix

end
-- ==== Proof.MergeBody.lean ====
module

public import proofs.«01_k».proof.Proof.Gen.MergeIdeal.Value
public import proofs.«01_k».proof.Proof.MergeMath
public import Idealize.ShloMosaic.Lib.MatmulPlain
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.KernelVsHost
public import Idealize.ShloMosaic.Lib.StableHlo.Run
public import Idealize.ShloMosaic.Lib.Tactic

@[expose] public section

/-! The merge kernel read at the extended reals: what a point stores, entry by entry, and the array all its points leave. -/

set_option maxRecDepth 16384

noncomputable section

namespace Cert.MergeIdeal.Mix

open Idealize.ShloMosaic Idealize.ShloMosaic.TcCoe Idealize.ShloMosaic.ValueIdx
open Cert.MergeIdeal Cert.MergeIdeal.Gen Cert.Ffn Cert.Mix

theorem zz : (![0, 0] : Fin 2 → Nat) = fun _ => 0 := funext fun a => by fin_cases a <;> rfl

/-! ## A point's entries -/

/-- A branch's output by its weights, and the merged branches by theirs. -/
def prod (y : FVec Ideal S256x1024 .bf16) (w : FVec Ideal S1024x2048 .bf16) : FVec Ideal S256x2048 .f32 :=
  matmul dot_S256x1024_S1024x2048_S256x2048_1_0_0_1_n_n none y w (constant (F := Ideal) S256x2048 .f32 0x00000000#32)
def prodOut (y : FVec Ideal S256x2048 .bf16) (w : FVec Ideal S2048x2048 .bf16) : FVec Ideal S256x2048 .f32 :=
  matmul dot_S256x2048_S2048x2048_S256x2048_1_0_0_1_n_n none y w (constant (F := Ideal) S256x2048 .f32 0x00000000#32)

theorem by_weights (y : FVec Ideal S256x1024 .bf16) (w : FVec Ideal S1024x2048 .bf16) (r : Fin 256) (d : Fin 2048) :
    prod y w (ix2 r d)
      = ∑ k : Fin 1024, y (ix2 r k) * w (ix2 k d) := by
  refine (Ideal.matmul_plain_apply (M := 256) (K := 1024) (N := 2048) none _ _ _ r d).trans ?_
  rw [constant_apply]
  show Ideal.ofBits .f32 0x00000000#32 + _ = _
  rw [Ideal.ofBits_zero_f32, zero_add]

theorem by_out (y : FVec Ideal S256x2048 .bf16) (w : FVec Ideal S2048x2048 .bf16) (r : Fin 256) (e : Fin 2048) :
    prodOut y w (ix2 r e)
      = ∑ k : Fin 2048, y (ix2 r k) * w (ix2 k e) := by
  refine (Ideal.matmul_plain_apply (M := 256) (K := 2048) (N := 2048) none _ _ _ r e).trans ?_
  rw [constant_apply]
  show Ideal.ofBits .f32 0x00000000#32 + _ = _
  rw [Ideal.ofBits_zero_f32, zero_add]

theorem gate_at (z : Vec Ideal S256x2048 .bf16) (b : Vec Ideal S1x2048 .f32) (r : Fin 256) (d : Fin 2048) :
    k0_pay3 z b (ix2 r d) = gate (z (ix2 r d) + b (ix2 (0 : Fin 1) d)) := by
  unfold k0_pay3
  rw [shapeCast_self, shapeCast_self]
  have e : broadcastTo S256x2048 b broadcasts_S1x2048_S256x2048 (ix2 r d) = b (ix2 (0 : Fin 1) d) :=
    broadcastTo_apply b broadcasts_S1x2048_S256x2048 (ix2 r d) (ix2 (0 : Fin 1) d) fun a => by
      match a with
      | ⟨0, _⟩ => rfl
      | ⟨1, _⟩ => rfl
  rw [← e]
  rfl

theorem first_eq (z : Vec Ideal S256x2048 .bf16) (b : Vec Ideal S1x2048 .f32) (y : Vec Ideal S256x1024 .bf16) (w : Vec Ideal S1024x2048 .bf16) :
    k0_pay2 z b y w = mulf (k0_pay3 z b) (prod y w) := by
  unfold k0_pay2 k0_pay3 prod
  dsimp only
  rw [shapeCast_self y, shapeCast_self w]

theorem last_eq (p g : FVec Ideal S256x2048 .f32) (y1 : FVec Ideal S256x1024 .bf16) (w1 : Vec Ideal S1024x2048 .bf16)
    (z2 : Vec Ideal S256x2048 .bf16) (b2 : Vec Ideal S1x2048 .f32) (y2 : Vec Ideal S256x1024 .bf16) (w2 : Vec Ideal S1024x2048 .bf16)
    (x : Vec Ideal S256x2048 .f32) (w : Vec Ideal S2048x2048 .bf16) :
    k0_pay1 p g y1 w1 z2 b2 y2 w2 x w = addf (x : FVec Ideal S256x2048 .f32) (prodOut
      (truncf .bf16 (addf (addf p (mulf g (prod y1 w1))) (mulf (k0_pay3 z2 b2) (prod y2 w2))) bitsLt_bf16_f32) w) := by
  unfold k0_pay1 k0_pay3 prod prodOut
  dsimp only
  rw [shapeCast_self w1, shapeCast_self y2, shapeCast_self w2, shapeCast_self x, shapeCast_self w]

section Entry
variable (y0 y1 y2 : Vec Ideal S256x1024 .bf16) (z0 z1 z2 : Vec Ideal S256x2048 .bf16) (b : Vec Ideal S1x6144 .f32)
  (x : Vec Ideal S256x2048 .f32) (w0 w1 w2 : Vec Ideal S1024x2048 .bf16) (w : Vec Ideal S2048x2048 .bf16)

/-- Gate `g`'s bias, from the three side by side. -/
abbrev lane (g : Fin 3) (d : Fin 2048) : Fin 6144 := ⟨2048 * g.val + d.val, by omega⟩

theorem bias0 (d : Fin 2048) : View.ld b r0_1 (ix2 (0 : Fin 1) d) = b (ix2 (0 : Fin 1) (lane 0 d)) := by
  show b (r0_1.toLoadRect.idx _) = _
  refine congrArg b (funext fun a => Fin.ext ?_)
  match a with
  | ⟨0, _⟩ => rfl
  | ⟨1, _⟩ => show 0 + 1 * d.val = 2048 * 0 + d.val; omega

theorem bias1 (d : Fin 2048) : View.ld b r0_4 (ix2 (0 : Fin 1) d) = b (ix2 (0 : Fin 1) (lane 1 d)) := by
  show b (r0_4.toLoadRect.idx _) = _
  refine congrArg b (funext fun a => Fin.ext ?_)
  match a with
  | ⟨0, _⟩ => rfl
  | ⟨1, _⟩ => show 2048 + 1 * d.val = 2048 * 1 + d.val; omega

theorem bias2 (d : Fin 2048) : View.ld b r0_5 (ix2 (0 : Fin 1) d) = b (ix2 (0 : Fin 1) (lane 2 d)) := by
  show b (r0_5.toLoadRect.idx _) = _
  refine congrArg b (funext fun a => Fin.ext ?_)
  match a with
  | ⟨0, _⟩ => rfl
  | ⟨1, _⟩ => show 4096 + 1 * d.val = 2048 * 2 + d.val; omega

theorem out_at (r : Fin 256) (e : Fin 2048) :
    out0_12 y0 y1 y2 z0 z1 z2 b x w0 w1 w2 w (ix2 r e) = x (ix2 r e) + ∑ d : Fin 2048,
      merged gate (z0 (ix2 r d) + b (ix2 (0 : Fin 1) (lane 0 d))) (z1 (ix2 r d) + b (ix2 (0 : Fin 1) (lane 1 d)))
        (z2 (ix2 r d) + b (ix2 (0 : Fin 1) (lane 2 d)))
        (∑ k : Fin 1024, y0 (ix2 r k) * w0 (ix2 k d)) (∑ k : Fin 1024, y1 (ix2 r k) * w1 (ix2 k d))
        (∑ k : Fin 1024, y2 (ix2 r k) * w2 (ix2 k d)) * w (ix2 d e) := by
  unfold out0_12
  rw [View.canon_unit_zero zz]
  simp only [View.ld_unit_zero (S := S256x2048) zz, View.ld_unit_zero (S := S256x1024) zz, View.ld_unit_zero (S := S1024x2048) zz,
    View.ld_unit_zero (S := S2048x2048) zz]
  rw [last_eq, first_eq]
  refine congrArg₂ (fun p q : EReal => p + q) rfl ((by_out _ w r e).trans (Finset.sum_congr rfl fun d _ => ?_))
  refine congrArg₂ (fun p q : EReal => p * q) ?_ rfl
  unfold merged
  rw [← bias0 b, ← bias1 b, ← bias2 b, ← gate_at, ← gate_at, ← gate_at, ← by_weights, ← by_weights, ← by_weights]
  unfold k0_pay4
  rw [shapeCast_self y1]
  rfl

end Entry

end Cert.MergeIdeal.Mix

end
-- ==== Proof.MergeWhole.lean ====
module

public import proofs.«01_k».proof.Proof.MergeBody

@[expose] public section

/-! The array the merge kernel leaves, entry by entry, as a function of its arguments. -/

set_option maxRecDepth 16384

noncomputable section

namespace Cert.MergeIdeal.Mix

open Idealize.ShloMosaic Idealize.ShloMosaic.TcCoe Idealize.ShloMosaic.ValueIdx Idealize.ShloMosaic.StableHlo
open Cert.MergeIdeal Cert.MergeIdeal.Gen Cert.Ffn Cert.Mix

/-! ## What the region finds in its arrays -/

section Launch
variable (m : (ℓ : Loc nD τ sig) → Buf (Elt Ideal) ℓ) (c : Dev nD)

/-- The arguments: the three branches' outputs, the gates and their bias, the residual input, the four weight matrices. -/
abbrev A0 : FVec Ideal S4x4096x1024 .f32 := m ((c.tc : Thread nD τ).loc main_arg0)
abbrev A1 : FVec Ideal S4x4096x1024 .f32 := m ((c.tc : Thread nD τ).loc main_arg1)
abbrev A2 : FVec Ideal S4x4096x1024 .f32 := m ((c.tc : Thread nD τ).loc main_arg2)
abbrev A3 : FVec Ideal S4x4096x6144 .f32 := m ((c.tc : Thread nD τ).loc main_arg3)
abbrev A4 : FVec Ideal S6144 .f32 := m ((c.tc : Thread nD τ).loc main_arg4)
abbrev A5 : FVec Ideal S4x4096x2048 .f32 := m ((c.tc : Thread nD τ).loc main_arg5)
abbrev A6 : FVec Ideal S1024x2048 .f32 := m ((c.tc : Thread nD τ).loc main_arg6)
abbrev A7 : FVec Ideal S1024x2048 .f32 := m ((c.tc : Thread nD τ).loc main_arg7)
abbrev A8 : FVec Ideal S1024x2048 .f32 := m ((c.tc : Thread nD τ).loc main_arg8)
abbrev A9 : FVec Ideal S2048x2048 .f32 := m ((c.tc : Thread nD τ).loc main_arg9)

theorem V_y0 : (V m c main_v4 : FVec Ideal S16384x1024 .bf16)
    = truncf .bf16 (shapeCast S16384x1024 (A0 m c) shapeCasts_S4x4096x1024_S16384x1024) bitsLt_bf16_f32 := by
  simp only [V, hostOps0, hostOps0_1, hostOps0_2, List.flatten_cons, List.flatten_nil, List.cons_append,
    List.nil_append, TRef.unary, TRef.binary, TRef.toBuf, TRef.ofBuf, cast_eq]
  after_results_simp <;> rfl

theorem V_y1 : (V m c main_v6 : FVec Ideal S16384x1024 .bf16)
    = truncf .bf16 (shapeCast S16384x1024 (A1 m c) shapeCasts_S4x4096x1024_S16384x1024) bitsLt_bf16_f32 := by
  simp only [V, hostOps0, hostOps0_1, hostOps0_2, List.flatten_cons, List.flatten_nil, List.cons_append,
    List.nil_append, TRef.unary, TRef.binary, TRef.toBuf, TRef.ofBuf, cast_eq]
  after_results_simp <;> rfl

theorem V_y2 : (V m c main_v8 : FVec Ideal S16384x1024 .bf16)
    = truncf .bf16 (shapeCast S16384x1024 (A2 m c) shapeCasts_S4x4096x1024_S16384x1024) bitsLt_bf16_f32 := by
  simp only [V, hostOps0, hostOps0_1, hostOps0_2, List.flatten_cons, List.flatten_nil, List.cons_append,
    List.nil_append, TRef.unary, TRef.binary, TRef.toBuf, TRef.ofBuf, cast_eq]
  after_results_simp <;> rfl

theorem V_z : (V m c main_v2 : FVec Ideal S16384x14336 .bf16)
    = pad S16384x14336 ![0, 0] ![0, 8192] ![0, 0]
        (truncf .bf16 (shapeCast S16384x6144 (A3 m c) shapeCasts_S4x4096x6144_S16384x6144) bitsLt_bf16_f32)
        (sitofp (F := Ideal) .bf16 (constantI S_ 32 0#32)) pads_S16384x6144_S16384x14336_000_081920 h_S_ := by
  simp only [V, hostOps0, hostOps0_1, hostOps0_2, List.flatten_cons, List.flatten_nil, List.cons_append,
    List.nil_append, TRef.unary, TRef.binary, TRef.toBuf, TRef.ofBuf, cast_eq]
  after_results_simp <;> rfl

theorem V_b : (V m c main_v9 : FVec Ideal S1x6144 .f32) = shapeCast S1x6144 (A4 m c) shapeCasts_S6144_S1x6144 := by
  simp only [V, hostOps0, hostOps0_1, hostOps0_2, List.flatten_cons, List.flatten_nil, List.cons_append,
    List.nil_append, TRef.unary, TRef.binary, TRef.toBuf, TRef.ofBuf, cast_eq]
  after_results_simp <;> rfl

theorem V_x : (V m c main_v10 : FVec Ideal S16384x2048 .f32)
    = shapeCast S16384x2048 (A5 m c) shapeCasts_S4x4096x2048_S16384x2048 := by
  simp only [V, hostOps0, hostOps0_1, hostOps0_2, List.flatten_cons, List.flatten_nil, List.cons_append,
    List.nil_append, TRef.unary, TRef.binary, TRef.toBuf, TRef.ofBuf, cast_eq]
  after_results_simp <;> rfl

theorem V_w0 : (V m c main_v11 : FVec Ideal S1024x2048 .bf16) = truncf .bf16 (A6 m c) bitsLt_bf16_f32 := by
  simp only [V, hostOps0, hostOps0_1, hostOps0_2, List.flatten_cons, List.flatten_nil, List.cons_append,
    List.nil_append, TRef.unary, TRef.binary, TRef.toBuf, TRef.ofBuf, cast_eq]
  after_results_simp <;> rfl

theorem V_w1 : (V m c main_v12 : FVec Ideal S1024x2048 .bf16) = truncf .bf16 (A7 m c) bitsLt_bf16_f32 := by
  simp only [V, hostOps0, hostOps0_1, hostOps0_2, List.flatten_cons, List.flatten_nil, List.cons_append,
    List.nil_append, TRef.unary, TRef.binary, TRef.toBuf, TRef.ofBuf, cast_eq]
  after_results_simp <;> rfl

theorem V_w2 : (V m c main_v13 : FVec Ideal S1024x2048 .bf16) = truncf .bf16 (A8 m c) bitsLt_bf16_f32 := by
  simp only [V, hostOps0, hostOps0_1, hostOps0_2, List.flatten_cons, List.flatten_nil, List.cons_append,
    List.nil_append, TRef.unary, TRef.binary, TRef.toBuf, TRef.ofBuf, cast_eq]
  after_results_simp <;> rfl

theorem V_w : (V m c main_v14 : FVec Ideal S2048x2048 .bf16) = truncf .bf16 (A9 m c) bitsLt_bf16_f32 := by
  simp only [V, hostOps0, hostOps0_1, hostOps0_2, List.flatten_cons, List.flatten_nil, List.cons_append,
    List.nil_append, TRef.unary, TRef.binary, TRef.toBuf, TRef.ofBuf, cast_eq]
  after_results_simp <;> rfl

end Launch

/-! ## The blocks of a grid point -/

theorem t_lt (t : Fin cfg0.N) : t.val < 64 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 1 :=
  (by decide +kernel : ∀ t : Fin grid0.N, _)
theorem idx5 : ∀ t : Fin cfg0.N, win0_5.index t (0 : Fin 2) = t.val ∧ win0_5.index t (1 : Fin 2) = 2 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

section Blocks
variable (m : (ℓ : Loc nD τ sig) → Buf (Elt Ideal) ℓ) (c : Dev nD) (t : Fin cfg0.N)
variable (r : Fin 256) (b : Fin 4) (s : Fin 4096) (h : 256 * t.val + r.val = 4096 * b.val + s.val)

include h

theorem iblk_y0 (k : Fin 1024) : (iblk m c 0 t : Vec Ideal S256x1024 .bf16) (ix2 r k) = A0 m c (ix3 b s k) := by
  obtain ⟨e0, e1⟩ := idx0 t
  have ht := t_lt t
  refine Eq.trans (?_ : _ = (V m c main_v4 : FVec Ideal S16384x1024 .bf16) (ix2 (⟨256 * t.val + r.val, by omega⟩ : Fin 16384) k)) ?_
  · show V m c main_v4 (((cfg0.win 0).blk t).view.emb (ix2 r k)) = V m c main_v4 _
    refine congrArg (V m c main_v4) (funext fun x => Fin.ext ?_)
    match x with
    | ⟨0, _⟩ => show win0_0.index t (0 : Fin 2) * 256 + 1 * r.val = 256 * t.val + r.val; omega
    | ⟨1, _⟩ => show win0_0.index t (1 : Fin 2) * 1024 + 1 * k.val = k.val; omega
  · rw [V_y0]
    refine shapeCast_apply (s := S4x4096x1024) (t := S16384x1024) _ _ _ (ix3 b s k) ?_
    rw [Shape.rowMajor_val_three, Shape.rowMajor_val_two]
    show (b.val * 4096 + s.val) * 1024 + k.val = (256 * t.val + r.val) * 1024 + k.val
    omega

theorem iblk_y1 (k : Fin 1024) : (iblk m c 1 t : Vec Ideal S256x1024 .bf16) (ix2 r k) = A1 m c (ix3 b s k) := by
  obtain ⟨e0, e1⟩ := idx1 t
  have ht := t_lt t
  refine Eq.trans (?_ : _ = (V m c main_v6 : FVec Ideal S16384x1024 .bf16) (ix2 (⟨256 * t.val + r.val, by omega⟩ : Fin 16384) k)) ?_
  · show V m c main_v6 (((cfg0.win 1).blk t).view.emb (ix2 r k)) = V m c main_v6 _
    refine congrArg (V m c main_v6) (funext fun x => Fin.ext ?_)
    match x with
    | ⟨0, _⟩ => show win0_1.index t (0 : Fin 2) * 256 + 1 * r.val = 256 * t.val + r.val; omega
    | ⟨1, _⟩ => show win0_1.index t (1 : Fin 2) * 1024 + 1 * k.val = k.val; omega
  · rw [V_y1]
    refine shapeCast_apply (s := S4x4096x1024) (t := S16384x1024) _ _ _ (ix3 b s k) ?_
    rw [Shape.rowMajor_val_three, Shape.rowMajor_val_two]
    show (b.val * 4096 + s.val) * 1024 + k.val = (256 * t.val + r.val) * 1024 + k.val
    omega

theorem iblk_y2 (k : Fin 1024) : (iblk m c 2 t : Vec Ideal S256x1024 .bf16) (ix2 r k) = A2 m c (ix3 b s k) := by
  obtain ⟨e0, e1⟩ := idx2 t
  have ht := t_lt t
  refine Eq.trans (?_ : _ = (V m c main_v8 : FVec Ideal S16384x1024 .bf16) (ix2 (⟨256 * t.val + r.val, by omega⟩ : Fin 16384) k)) ?_
  · show V m c main_v8 (((cfg0.win 2).blk t).view.emb (ix2 r k)) = V m c main_v8 _
    refine congrArg (V m c main_v8) (funext fun x => Fin.ext ?_)
    match x with
    | ⟨0, _⟩ => show win0_2.index t (0 : Fin 2) * 256 + 1 * r.val = 256 * t.val + r.val; omega
    | ⟨1, _⟩ => show win0_2.index t (1 : Fin 2) * 1024 + 1 * k.val = k.val; omega
  · rw [V_y2]
    refine shapeCast_apply (s := S4x4096x1024) (t := S16384x1024) _ _ _ (ix3 b s k) ?_
    rw [Shape.rowMajor_val_three, Shape.rowMajor_val_two]
    show (b.val * 4096 + s.val) * 1024 + k.val = (256 * t.val + r.val) * 1024 + k.val
    omega

theorem iblk_z0 (d : Fin 2048) : (iblk m c 3 t : Vec Ideal S256x2048 .bf16) (ix2 r d) = A3 m c (ix3 b s (lane 0 d)) := by
  obtain ⟨e0, e1⟩ := idx3 t
  have ht := t_lt t
  refine Eq.trans (?_ : _ = (V m c main_v2 : FVec Ideal S16384x14336 .bf16)
    (ix2 (⟨256 * t.val + r.val, by omega⟩ : Fin 16384) (⟨2048 * 0 + d.val, by omega⟩ : Fin 14336))) ?_
  · show V m c main_v2 (((cfg0.win 3).blk t).view.emb (ix2 r d)) = V m c main_v2 _
    refine congrArg (V m c main_v2) (funext fun x => Fin.ext ?_)
    match x with
    | ⟨0, _⟩ => show win0_3.index t (0 : Fin 2) * 256 + 1 * r.val = 256 * t.val + r.val; omega
    | ⟨1, _⟩ => show win0_3.index t (1 : Fin 2) * 2048 + 1 * d.val = 2048 * 0 + d.val; omega
  · rw [V_z]
    refine (pad_apply_of_inside _ _ _ _ _ _ _ _ (ix2 (⟨256 * t.val + r.val, by omega⟩ : Fin 16384) (lane 0 d)) fun x => by
      match x with
      | ⟨0, _⟩ => show 256 * t.val + r.val = 0 + (256 * t.val + r.val) * (0 + 1); omega
      | ⟨1, _⟩ => show 2048 * 0 + d.val = 0 + (2048 * 0 + d.val) * (0 + 1); omega).trans ?_
    refine shapeCast_apply (s := S4x4096x6144) (t := S16384x6144) _ _ _ (ix3 b s (lane 0 d)) ?_
    rw [Shape.rowMajor_val_three, Shape.rowMajor_val_two]
    show (b.val * 4096 + s.val) * 6144 + (2048 * 0 + d.val) = (256 * t.val + r.val) * 6144 + (2048 * 0 + d.val)
    omega

theorem iblk_z1 (d : Fin 2048) : (iblk m c 4 t : Vec Ideal S256x2048 .bf16) (ix2 r d) = A3 m c (ix3 b s (lane 1 d)) := by
  obtain ⟨e0, e1⟩ := idx4 t
  have ht := t_lt t
  refine Eq.trans (?_ : _ = (V m c main_v2 : FVec Ideal S16384x14336 .bf16)
    (ix2 (⟨256 * t.val + r.val, by omega⟩ : Fin 16384) (⟨2048 * 1 + d.val, by omega⟩ : Fin 14336))) ?_
  · show V m c main_v2 (((cfg0.win 4).blk t).view.emb (ix2 r d)) = V m c main_v2 _
    refine congrArg (V m c main_v2) (funext fun x => Fin.ext ?_)
    match x with
    | ⟨0, _⟩ => show win0_4.index t (0 : Fin 2) * 256 + 1 * r.val = 256 * t.val + r.val; omega
    | ⟨1, _⟩ => show win0_4.index t (1 : Fin 2) * 2048 + 1 * d.val = 2048 * 1 + d.val; omega
  · rw [V_z]
    refine (pad_apply_of_inside _ _ _ _ _ _ _ _ (ix2 (⟨256 * t.val + r.val, by omega⟩ : Fin 16384) (lane 1 d)) fun x => by
      match x with
      | ⟨0, _⟩ => show 256 * t.val + r.val = 0 + (256 * t.val + r.val) * (0 + 1); omega
      | ⟨1, _⟩ => show 2048 * 1 + d.val = 0 + (2048 * 1 + d.val) * (0 + 1); omega).trans ?_
    refine shapeCast_apply (s := S4x4096x6144) (t := S16384x6144) _ _ _ (ix3 b s (lane 1 d)) ?_
    rw [Shape.rowMajor_val_three, Shape.rowMajor_val_two]
    show (b.val * 4096 + s.val) * 6144 + (2048 * 1 + d.val) = (256 * t.val + r.val) * 6144 + (2048 * 1 + d.val)
    omega

theorem iblk_z2 (d : Fin 2048) : (iblk m c 5 t : Vec Ideal S256x2048 .bf16) (ix2 r d) = A3 m c (ix3 b s (lane 2 d)) := by
  obtain ⟨e0, e1⟩ := idx5 t
  have ht := t_lt t
  refine Eq.trans (?_ : _ = (V m c main_v2 : FVec Ideal S16384x14336 .bf16)
    (ix2 (⟨256 * t.val + r.val, by omega⟩ : Fin 16384) (⟨2048 * 2 + d.val, by omega⟩ : Fin 14336))) ?_
  · show V m c main_v2 (((cfg0.win 5).blk t).view.emb (ix2 r d)) = V m c main_v2 _
    refine congrArg (V m c main_v2) (funext fun x => Fin.ext ?_)
    match x with
    | ⟨0, _⟩ => show win0_5.index t (0 : Fin 2) * 256 + 1 * r.val = 256 * t.val + r.val; omega
    | ⟨1, _⟩ => show win0_5.index t (1 : Fin 2) * 2048 + 1 * d.val = 2048 * 2 + d.val; omega
  · rw [V_z]
    refine (pad_apply_of_inside _ _ _ _ _ _ _ _ (ix2 (⟨256 * t.val + r.val, by omega⟩ : Fin 16384) (lane 2 d)) fun x => by
      match x with
      | ⟨0, _⟩ => show 256 * t.val + r.val = 0 + (256 * t.val + r.val) * (0 + 1); omega
      | ⟨1, _⟩ => show 2048 * 2 + d.val = 0 + (2048 * 2 + d.val) * (0 + 1); omega).trans ?_
    refine shapeCast_apply (s := S4x4096x6144) (t := S16384x6144) _ _ _ (ix3 b s (lane 2 d)) ?_
    rw [Shape.rowMajor_val_three, Shape.rowMajor_val_two]
    show (b.val * 4096 + s.val) * 6144 + (2048 * 2 + d.val) = (256 * t.val + r.val) * 6144 + (2048 * 2 + d.val)
    omega

theorem iblk_x (e : Fin 2048) : (iblk m c 7 t : Vec Ideal S256x2048 .f32) (ix2 r e) = A5 m c (ix3 b s e) := by
  obtain ⟨e0, e1⟩ := idx7 t
  have ht := t_lt t
  refine Eq.trans (?_ : _ = (V m c main_v10 : FVec Ideal S16384x2048 .f32) (ix2 (⟨256 * t.val + r.val, by omega⟩ : Fin 16384) e)) ?_
  · show V m c main_v10 (((cfg0.win 7).blk t).view.emb (ix2 r e)) = V m c main_v10 _
    refine congrArg (V m c main_v10) (funext fun x => Fin.ext ?_)
    match x with
    | ⟨0, _⟩ => show win0_7.index t (0 : Fin 2) * 256 + 1 * r.val = 256 * t.val + r.val; omega
    | ⟨1, _⟩ => show win0_7.index t (1 : Fin 2) * 2048 + 1 * e.val = e.val; omega
  · rw [V_x]
    refine shapeCast_apply (s := S4x4096x2048) (t := S16384x2048) _ _ _ (ix3 b s e) ?_
    rw [Shape.rowMajor_val_three, Shape.rowMajor_val_two]
    show (b.val * 4096 + s.val) * 2048 + e.val = (256 * t.val + r.val) * 2048 + e.val
    omega

omit h

theorem iblk_b (l : Fin 6144) : (iblk m c 6 t : Vec Ideal S1x6144 .f32) (ix2 (0 : Fin 1) l) = A4 m c (ix1 l) := by
  obtain ⟨e0, e1⟩ := idx6 t
  refine Eq.trans (?_ : _ = (V m c main_v9 : FVec Ideal S1x6144 .f32) (ix2 (0 : Fin 1) l)) ?_
  · show V m c main_v9 (((cfg0.win 6).blk t).view.emb (ix2 (0 : Fin 1) l)) = V m c main_v9 _
    refine congrArg (V m c main_v9) (funext fun x => Fin.ext ?_)
    match x with
    | ⟨0, _⟩ => show win0_6.index t (0 : Fin 2) * 1 + 1 * 0 = 0; omega
    | ⟨1, _⟩ => show win0_6.index t (1 : Fin 2) * 6144 + 1 * l.val = l.val; omega
  · rw [V_b]
    refine shapeCast_apply (s := S6144) (t := S1x6144) _ _ _ (ix1 l) ?_
    rw [Shape.rowMajor_val_one, Shape.rowMajor_val_two]
    show l.val = 0 * 6144 + l.val
    omega

theorem iblk_w0 (k : Fin 1024) (d : Fin 2048) : (iblk m c 8 t : Vec Ideal S1024x2048 .bf16) (ix2 k d) = A6 m c (ix2 k d) := by
  obtain ⟨e0, e1⟩ := idx8 t
  refine Eq.trans (?_ : _ = (V m c main_v11 : FVec Ideal S1024x2048 .bf16) (ix2 k d)) ?_
  · show V m c main_v11 (((cfg0.win 8).blk t).view.emb (ix2 k d)) = V m c main_v11 _
    refine congrArg (V m c main_v11) (funext fun x => Fin.ext ?_)
    match x with
    | ⟨0, _⟩ => show win0_8.index t (0 : Fin 2) * 1024 + 1 * k.val = k.val; omega
    | ⟨1, _⟩ => show win0_8.index t (1 : Fin 2) * 2048 + 1 * d.val = d.val; omega
  · rw [V_w0]
    rfl

theorem iblk_w1 (k : Fin 1024) (d : Fin 2048) : (iblk m c 9 t : Vec Ideal S1024x2048 .bf16) (ix2 k d) = A7 m c (ix2 k d) := by
  obtain ⟨e0, e1⟩ := idx9 t
  refine Eq.trans (?_ : _ = (V m c main_v12 : FVec Ideal S1024x2048 .bf16) (ix2 k d)) ?_
  · show V m c main_v12 (((cfg0.win 9).blk t).view.emb (ix2 k d)) = V m c main_v12 _
    refine congrArg (V m c main_v12) (funext fun x => Fin.ext ?_)
    match x with
    | ⟨0, _⟩ => show win0_9.index t (0 : Fin 2) * 1024 + 1 * k.val = k.val; omega
    | ⟨1, _⟩ => show win0_9.index t (1 : Fin 2) * 2048 + 1 * d.val = d.val; omega
  · rw [V_w1]
    rfl

theorem iblk_w2 (k : Fin 1024) (d : Fin 2048) : (iblk m c 10 t : Vec Ideal S1024x2048 .bf16) (ix2 k d) = A8 m c (ix2 k d) := by
  obtain ⟨e0, e1⟩ := idx10 t
  refine Eq.trans (?_ : _ = (V m c main_v13 : FVec Ideal S1024x2048 .bf16) (ix2 k d)) ?_
  · show V m c main_v13 (((cfg0.win 10).blk t).view.emb (ix2 k d)) = V m c main_v13 _
    refine congrArg (V m c main_v13) (funext fun x => Fin.ext ?_)
    match x with
    | ⟨0, _⟩ => show win0_10.index t (0 : Fin 2) * 1024 + 1 * k.val = k.val; omega
    | ⟨1, _⟩ => show win0_10.index t (1 : Fin 2) * 2048 + 1 * d.val = d.val; omega
  · rw [V_w2]
    rfl

theorem iblk_w (k : Fin 2048) (d : Fin 2048) : (iblk m c 11 t : Vec Ideal S2048x2048 .bf16) (ix2 k d) = A9 m c (ix2 k d) := by
  obtain ⟨e0, e1⟩ := idx11 t
  refine Eq.trans (?_ : _ = (V m c main_v14 : FVec Ideal S2048x2048 .bf16) (ix2 k d)) ?_
  · show V m c main_v14 (((cfg0.win 11).blk t).view.emb (ix2 k d)) = V m c main_v14 _
    refine congrArg (V m c main_v14) (funext fun x => Fin.ext ?_)
    match x with
    | ⟨0, _⟩ => show win0_11.index t (0 : Fin 2) * 2048 + 1 * k.val = k.val; omega
    | ⟨1, _⟩ => show win0_11.index t (1 : Fin 2) * 2048 + 1 * d.val = d.val; omega
  · rw [V_w]
    rfl

end Blocks

/-! ## The whole array -/

section Whole
variable (m : (ℓ : Loc nD τ sig) → Buf (Elt Ideal) ℓ) (c : Dev nD)

/-- Result `(b, s, e)`: the residual input plus the merged branches by the output weights. -/
def value (σ : EReal → EReal) (a0 a1 a2 : FVec Ideal S4x4096x1024 .f32) (a3 : FVec Ideal S4x4096x6144 .f32) (a4 : FVec Ideal S6144 .f32)
    (a5 : FVec Ideal S4x4096x2048 .f32) (a6 a7 a8 : FVec Ideal S1024x2048 .f32) (a9 : FVec Ideal S2048x2048 .f32)
    (b : Fin 4) (s : Fin 4096) (e : Fin 2048) : EReal :=
  a5 (ix3 b s e) + ∑ d : Fin 2048,
    merged σ (a3 (ix3 b s (lane 0 d)) + a4 (ix1 (lane 0 d))) (a3 (ix3 b s (lane 1 d)) + a4 (ix1 (lane 1 d)))
      (a3 (ix3 b s (lane 2 d)) + a4 (ix1 (lane 2 d)))
      (∑ k : Fin 1024, a0 (ix3 b s k) * a6 (ix2 k d)) (∑ k : Fin 1024, a1 (ix3 b s k) * a7 (ix2 k d))
      (∑ k : Fin 1024, a2 (ix3 b s k) * a8 (ix2 k d)) * a9 (ix2 d e)

/-- A point's entry is its row's result. -/
theorem point_at (t : Fin cfg0.N) (r : Fin 256) (b : Fin 4) (s : Fin 4096) (h : 256 * t.val + r.val = 4096 * b.val + s.val) (e : Fin 2048) :
    (dats m 0 c).after 12 t (ix2 r e)
      = value gate (A0 m c) (A1 m c) (A2 m c) (A3 m c) (A4 m c) (A5 m c) (A6 m c) (A7 m c) (A8 m c) (A9 m c) b s e := by
  refine (congrFun (after0_12 m c t) (ix2 r e)).trans ((out_at _ _ _ _ _ _ _ _ _ _ _ _ r e).trans ?_)
  unfold value
  refine congrArg₂ (fun p q : EReal => p + q) (iblk_x m c t r b s h e) (Finset.sum_congr rfl fun d _ => ?_)
  rw [iblk_z0 m c t r b s h, iblk_z1 m c t r b s h, iblk_z2 m c t r b s h, iblk_b, iblk_b, iblk_b, iblk_w]
  refine congrArg (· * A9 m c (ix2 d e)) ?_
  unfold merged
  refine congrArg₂ (fun p q : EReal => p + q) (congrArg₂ (fun p q : EReal => p + q) ?_ ?_) ?_
  · exact congrArg (gate _ * ·) (Finset.sum_congr rfl fun k _ =>
      congrArg₂ (fun p q : EReal => p * q) (iblk_y0 m c t r b s h k) (iblk_w0 m c t k d))
  · exact congrArg (gate _ * ·) (Finset.sum_congr rfl fun k _ =>
      congrArg₂ (fun p q : EReal => p * q) (iblk_y1 m c t r b s h k) (iblk_w1 m c t k d))
  · exact congrArg (gate _ * ·) (Finset.sum_congr rfl fun k _ =>
      congrArg₂ (fun p q : EReal => p * q) (iblk_y2 m c t r b s h k) (iblk_w2 m c t k d))

theorem emb_out (t : Fin cfg0.N) (r : Fin 256) (e : Fin 2048) :
    ((cfg0.win 12).blk t).view.emb (ix2 r e)
      = (ix2 (⟨256 * t.val + r.val, by have := t_lt t; omega⟩ : Fin 16384) e : S16384x2048.Idx) := by
  obtain ⟨e0, e1⟩ := idx12 t
  refine funext fun x => Fin.ext ?_
  match x with
  | ⟨0, _⟩ => show win0_12.index t (0 : Fin 2) * 256 + 1 * r.val = 256 * t.val + r.val; omega
  | ⟨1, _⟩ => show win0_12.index t (1 : Fin 2) * 2048 + 1 * e.val = e.val; omega

/-- The final array at row `r`, sequence `b`'s position `s`. -/
theorem whole_at (R : Fin 16384) (e : Fin 2048) (b : Fin 4) (s : Fin 4096) (hR : R.val = 4096 * b.val + s.val) :
    (dats m 0 c).arrAt 12 cfg0.N (ix2 R e : S16384x2048.Idx)
      = value gate (A0 m c) (A1 m c) (A2 m c) (A3 m c) (A4 m c) (A5 m c) (A6 m c) (A7 m c) (A8 m c) (A9 m c) b s e := by
  have hlt := R.isLt
  let t : Fin cfg0.N := ⟨R.val / 256, lt_of_lt_of_eq (by omega) N_0.symm⟩
  let r : Fin 256 := ⟨R.val % 256, Nat.mod_lt _ (by decide)⟩
  have ht : 256 * t.val + r.val = R.val := by
    show 256 * (R.val / 256) + R.val % 256 = R.val
    omega
  have key := congrFun (Value.blocks12 m c t (flush0_12 t)) (ix2 r e)
  have e1 : ((cfg0.win 12).blk t).view.read (Elt Ideal) ((dats m 0 c).arrAt 12 cfg0.N) (ix2 r e)
      = (dats m 0 c).arrAt 12 cfg0.N (ix2 R e : S16384x2048.Idx) := by
    show (dats m 0 c).arrAt 12 cfg0.N (((cfg0.win 12).blk t).view.emb (ix2 r e)) = _
    rw [emb_out]
    exact congrArg (fun q : Fin 16384 => (dats m 0 c).arrAt 12 cfg0.N (ix2 q e : S16384x2048.Idx)) (Fin.ext ht)
  exact e1.symm.trans (key.trans (point_at m c t r b s (ht.trans hR) e))

end Whole

end Cert.MergeIdeal.Mix

end
-- ==== Proof.MergeRef.lean ====
module

public import proofs.«01_k».proof.Proof.Gen.MergeReferenceIdeal.Run
public import proofs.«01_k».proof.Proof.MergeWhole
public import Idealize.ShloMosaic.Lib.ValueIdx
public import Idealize.ShloMosaic.Lib.ValueLayout
public import Idealize.ShloMosaic.Lib.KernelVsHost
public import Idealize.ShloMosaic.Lib.IdealHost

@[expose] public section

/-! The merge reference's array, an element at a time. -/

set_option maxRecDepth 16384

noncomputable section

namespace Cert.MergeReferenceIdeal.Mix

open Idealize.ShloMosaic Idealize.ShloMosaic.TcCoe Idealize.ShloMosaic.ValueIdx
open Cert.MergeReferenceIdeal Cert.MergeReferenceIdeal.Gen Cert.Ffn Cert.Mix
open Cert.MergeIdeal.Mix (lane value)

section Stages
variable (a0 a1 a2 : FVec Ideal S4x4096x1024 .f32) (a3 : FVec Ideal S4x4096x6144 .f32) (a4 : FVec Ideal S6144 .f32)
  (a5 : FVec Ideal S4x4096x2048 .f32) (a6 a7 a8 : FVec Ideal S1024x2048 .f32) (a9 : FVec Ideal S2048x2048 .f32)

/-- The three gates side by side. -/
def gates : FVec Ideal S4x4096x6144 .f32 :=
  Host.divf (broadcastInDim S4x4096x6144 ![] bcast_S_S4x4096x6144 (constant S_ .f32 0x3F800000#32))
    (addf (broadcastInDim S4x4096x6144 ![] bcast_S_S4x4096x6144 (constant S_ .f32 0x3F800000#32))
      (Host.exp (Host.negf (addf a3 (broadcastInDim S4x4096x6144 ![0, 1, 2] bcast_S1x1x6144_S4x4096x6144_0_1_2
        (broadcastInDim S1x1x6144 ![2] bcast_S6144_S1x1x6144_2 a4))))))

/-- The three gates, each its own row. -/
def three : FVec Ideal S4x4096x3x2048 .f32 := shapeCast S4x4096x3x2048 (gates a3 a4) shapeCasts_S4x4096x6144_S4x4096x3x2048

def gate0 : FVec Ideal S4x4096x2048 .f32 :=
  shapeCast S4x4096x2048 (extractStridedSlice S4x4096x1x2048 ![0, 0, 0, 0] (three a3 a4) slices_S4x4096x3x2048_S4x4096x1x2048_0_0_0_0)
    shapeCasts_S4x4096x1x2048_S4x4096x2048
def gate1 : FVec Ideal S4x4096x2048 .f32 :=
  shapeCast S4x4096x2048 (extractStridedSlice S4x4096x1x2048 ![0, 0, 1, 0] (three a3 a4) slices_S4x4096x3x2048_S4x4096x1x2048_0_0_1_0)
    shapeCasts_S4x4096x1x2048_S4x4096x2048
def gate2 : FVec Ideal S4x4096x2048 .f32 :=
  shapeCast S4x4096x2048 (extractStridedSlice S4x4096x1x2048 ![0, 0, 2, 0] (three a3 a4) slices_S4x4096x3x2048_S4x4096x1x2048_0_0_2_0)
    shapeCasts_S4x4096x1x2048_S4x4096x2048

/-- A branch's output by its weights. -/
def proj (y : FVec Ideal S4x4096x1024 .f32) (w : FVec Ideal S1024x2048 .f32) : FVec Ideal S4x4096x2048 .f32 :=
  Host.dotGeneral (φ₁ := .f32) dot_S4x4096x1024_S1024x2048_S4x4096x2048_2_0_01_1_n_n none y w

/-- The merged branches by the output weights. -/
def outProj (y : FVec Ideal S4x4096x2048 .f32) (w : FVec Ideal S2048x2048 .f32) : FVec Ideal S4x4096x2048 .f32 :=
  Host.dotGeneral (φ₁ := .f32) dot_S4x4096x2048_S2048x2048_S4x4096x2048_2_0_01_1_n_n none y w

/-- The residual input plus the merged branches' projection. -/
def result : FVec Ideal S16384x2048 .f32 :=
  shapeCast S16384x2048 (addf a5 (outProj (addf (addf (mulf (gate0 a3 a4) (proj a0 a6)) (mulf (gate1 a3 a4) (proj a1 a7)))
    (mulf (gate2 a3 a4) (proj a2 a8))) a9)) shapeCasts_S4x4096x2048_S16384x2048

theorem gates_at (b : Fin 4) (s : Fin 4096) (l : Fin 6144) : gates a3 a4 (ix3 b s l) = sigm (a3 (ix3 b s l) + a4 (ix1 l)) := by
  have e : broadcastInDim S4x4096x6144 ![0, 1, 2] bcast_S1x1x6144_S4x4096x6144_0_1_2
      (broadcastInDim S1x1x6144 ![2] bcast_S6144_S1x1x6144_2 a4) (ix3 b s l) = a4 (ix1 l) :=
    (broadcastInDim_apply _ _ _ _ (ix3 (0 : Fin 1) (0 : Fin 1) l) fun k => by
      match k with
      | ⟨0, _⟩ => rfl
      | ⟨1, _⟩ => rfl
      | ⟨2, _⟩ => rfl).trans (broadcastInDim_apply _ _ _ _ (ix1 l) fun k => by
        match k with
        | ⟨0, _⟩ => rfl)
  rw [← e]
  rfl

theorem three_at (b : Fin 4) (s : Fin 4096) (g : Fin 3) (d : Fin 2048) :
    three a3 a4 (ix4 b s g d) = sigm (a3 (ix3 b s (lane g d)) + a4 (ix1 (lane g d))) := by
  refine Eq.trans (shapeCast_apply (s := S4x4096x6144) (t := S4x4096x3x2048) _ _ _ (ix3 b s (lane g d)) ?_) (gates_at a3 a4 b s _)
  rw [Shape.rowMajor_val_three, Shape.rowMajor_val_four]
  show (b.val * 4096 + s.val) * 6144 + (2048 * g.val + d.val) = ((b.val * 4096 + s.val) * 3 + g.val) * 2048 + d.val
  omega

theorem squeezed (x : FVec Ideal S4x4096x1x2048 .f32) (b : Fin 4) (s : Fin 4096) (d : Fin 2048) :
    shapeCast S4x4096x2048 x shapeCasts_S4x4096x1x2048_S4x4096x2048 (ix3 b s d) = x (ix4 b s (0 : Fin 1) d) := by
  refine shapeCast_apply (s := S4x4096x1x2048) (t := S4x4096x2048) _ _ _ (ix4 b s (0 : Fin 1) d) ?_
  rw [Shape.rowMajor_val_three, Shape.rowMajor_val_four]
  show ((b.val * 4096 + s.val) * 1 + 0) * 2048 + d.val = (b.val * 4096 + s.val) * 2048 + d.val
  omega

theorem gate0_at (b : Fin 4) (s : Fin 4096) (d : Fin 2048) :
    gate0 a3 a4 (ix3 b s d) = sigm (a3 (ix3 b s (lane 0 d)) + a4 (ix1 (lane 0 d))) :=
  (squeezed _ b s d).trans ((extractStridedSlice_apply _ _ _ _ (ix4 b s (0 : Fin 3) d) fun k => by
    match k with
    | ⟨0, _⟩ => show b.val = 0 + b.val; omega
    | ⟨1, _⟩ => show s.val = 0 + s.val; omega
    | ⟨2, _⟩ => rfl
    | ⟨3, _⟩ => show d.val = 0 + d.val; omega).trans (three_at a3 a4 b s 0 d))

theorem gate1_at (b : Fin 4) (s : Fin 4096) (d : Fin 2048) :
    gate1 a3 a4 (ix3 b s d) = sigm (a3 (ix3 b s (lane 1 d)) + a4 (ix1 (lane 1 d))) :=
  (squeezed _ b s d).trans ((extractStridedSlice_apply _ _ _ _ (ix4 b s (1 : Fin 3) d) fun k => by
    match k with
    | ⟨0, _⟩ => show b.val = 0 + b.val; omega
    | ⟨1, _⟩ => show s.val = 0 + s.val; omega
    | ⟨2, _⟩ => rfl
    | ⟨3, _⟩ => show d.val = 0 + d.val; omega).trans (three_at a3 a4 b s 1 d))

theorem gate2_at (b : Fin 4) (s : Fin 4096) (d : Fin 2048) :
    gate2 a3 a4 (ix3 b s d) = sigm (a3 (ix3 b s (lane 2 d)) + a4 (ix1 (lane 2 d))) :=
  (squeezed _ b s d).trans ((extractStridedSlice_apply _ _ _ _ (ix4 b s (2 : Fin 3) d) fun k => by
    match k with
    | ⟨0, _⟩ => show b.val = 0 + b.val; omega
    | ⟨1, _⟩ => show s.val = 0 + s.val; omega
    | ⟨2, _⟩ => rfl
    | ⟨3, _⟩ => show d.val = 0 + d.val; omega).trans (three_at a3 a4 b s 2 d))

theorem proj_rank : dot_S4x4096x1024_S1024x2048_S4x4096x2048_2_0_01_1_n_n.contr.rank = 1 := rfl
theorem proj_size : dot_S4x4096x1024_S1024x2048_S4x4096x2048_2_0_01_1_n_n.contr.size ⟨0, by rw [proj_rank]; decide⟩ = 1024 := rfl

theorem proj_at (h : FVec Ideal S4x4096x1024 .f32) (w : FVec Ideal S1024x2048 .f32) (b : Fin 4) (s : Fin 4096) (e : Fin 2048) :
    proj h w (ix3 b s e) = ∑ k : Fin 1024, h (ix3 b s k) * w (ix2 k e) := by
  unfold proj
  simp only [Host.dotGeneral]
  rw [Ideal.dotGeneral_apply, ← Equiv.sum_comp (contrEquiv1 _ 1024 proj_rank proj_size).symm]
  refine Finset.sum_congr rfl fun d _ => ?_
  have hd := contrEquiv1_symm_val _ 1024 proj_rank proj_size d
  refine congrArg₂ (· * ·) (congrArg h ?_) (congrArg w ?_)
  · funext x
    apply Fin.ext
    match x with
    | ⟨0, _⟩ => rfl
    | ⟨1, _⟩ => rfl
    | ⟨2, _⟩ => exact hd
  · funext x
    apply Fin.ext
    match x with
    | ⟨0, _⟩ => exact hd
    | ⟨1, _⟩ => rfl

theorem out_rank : dot_S4x4096x2048_S2048x2048_S4x4096x2048_2_0_01_1_n_n.contr.rank = 1 := rfl
theorem out_size : dot_S4x4096x2048_S2048x2048_S4x4096x2048_2_0_01_1_n_n.contr.size ⟨0, by rw [out_rank]; decide⟩ = 2048 := rfl

theorem out_at (h : FVec Ideal S4x4096x2048 .f32) (w : FVec Ideal S2048x2048 .f32) (b : Fin 4) (s : Fin 4096) (e : Fin 2048) :
    outProj h w (ix3 b s e) = ∑ k : Fin 2048, h (ix3 b s k) * w (ix2 k e) := by
  unfold outProj
  simp only [Host.dotGeneral]
  rw [Ideal.dotGeneral_apply, ← Equiv.sum_comp (contrEquiv1 _ 2048 out_rank out_size).symm]
  refine Finset.sum_congr rfl fun d _ => ?_
  have hd := contrEquiv1_symm_val _ 2048 out_rank out_size d
  refine congrArg₂ (· * ·) (congrArg h ?_) (congrArg w ?_)
  · funext x
    apply Fin.ext
    match x with
    | ⟨0, _⟩ => rfl
    | ⟨1, _⟩ => rfl
    | ⟨2, _⟩ => exact hd
  · funext x
    apply Fin.ext
    match x with
    | ⟨0, _⟩ => exact hd
    | ⟨1, _⟩ => rfl

theorem result_at (b : Fin 4) (s : Fin 4096) (e : Fin 2048) (r : Fin 16384) (hr : r.val = 4096 * b.val + s.val) :
    result a0 a1 a2 a3 a4 a5 a6 a7 a8 a9 (ix2 r e) = value sigm a0 a1 a2 a3 a4 a5 a6 a7 a8 a9 b s e := by
  unfold result
  refine (shapeCast_apply (s := S4x4096x2048) (t := S16384x2048) _ _ _ (ix3 b s e) ?_).trans ?_
  · rw [Shape.rowMajor_val_three, Shape.rowMajor_val_two]
    show (b.val * 4096 + s.val) * 2048 + e.val = r.val * 2048 + e.val
    omega
  · unfold value
    refine congrArg₂ (fun p q : EReal => p + q) rfl ((out_at _ a9 b s e).trans ?_)
    refine Finset.sum_congr rfl fun d _ => congrArg (· * a9 (ix2 d e)) ?_
    unfold merged
    rw [← gate0_at, ← gate1_at, ← gate2_at, ← proj_at, ← proj_at, ← proj_at]
    rfl

end Stages

open Idealize.SL.Sem in
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans rfl, (h c).2⟩) (Value.run m ρ)

end Cert.MergeReferenceIdeal.Mix

end
-- ==== Proof.MergeClose.lean ====
module

public import proofs.«01_k».proof.Defs
public import proofs.«01_k».proof.Proof.Gen.Merge.Frame
public import proofs.«01_k».proof.Proof.MergeRef

@[expose] public section

/-! The merge's value: over the extended reals, the kernel and the reference leave one array. -/

set_option maxRecDepth 16384

noncomputable section

namespace Cert.Mix

open Idealize.ShloMosaic Idealize.ShloMosaic.TcCoe Idealize.SL.Sem Idealize.ShloMosaic.ValueIdx

section Kernel
open Cert.MergeIdeal Cert.MergeIdeal.Gen Cert.MergeIdeal.Mix

variable (m : (ℓ : Loc nD τ sig) → Buf (Elt Ideal) ℓ) (c : Dev nD)

/-- The kernel's array is the reference's function of the arguments. -/
theorem whole_eq : (dats m 0 c).arrAt 12 cfg0.N = Cert.MergeReferenceIdeal.Mix.result (A0 m c) (A1 m c) (A2 m c) (A3 m c) (A4 m c)
    (A5 m c) (A6 m c) (A7 m c) (A8 m c) (A9 m c) := by
  funext i
  obtain ⟨r, e, rfl⟩ : ∃ (r : Fin 16384) (e : Fin 2048), i = ix2 r e :=
    ⟨i 0, i 1, funext fun k => by
      match k with
      | ⟨0, _⟩ => rfl
      | ⟨1, _⟩ => rfl⟩
  have hr := r.isLt
  obtain ⟨b, s, hbs⟩ : ∃ (b : Fin 4) (s : Fin 4096), r.val = 4096 * b.val + s.val :=
    ⟨⟨r.val / 4096, by omega⟩, ⟨r.val % 4096, by omega⟩, by show r.val = 4096 * (r.val / 4096) + r.val % 4096; omega⟩
  refine (whole_at m c r e b s hbs).trans (Eq.trans ?_ (Cert.MergeReferenceIdeal.Mix.result_at _ _ _ _ _ _ _ _ _ _ b s e r hbs).symm)
  rw [show gate = sigm from funext gate_eq]

end Kernel

theorem frame_merge : Cert.quiescent_Merge := fun m ρ _ => Cert.Merge.Gen.frame m ρ

theorem frame_merge_ideal : Cert.quiescent_MergeIdeal := fun m ρ _ => Cert.MergeIdeal.Gen.frame m ρ

theorem frame_merge_reference : Cert.quiescent_MergeReferenceIdeal := fun m ρ _ =>
  (θ_run Cert.MergeReferenceIdeal.defs _ _).mono
    (fun r h => ⟨fun c => (h c).2, sem_eq_zero_of_no_sems (by decide) r.2⟩)
    (Cert.MergeReferenceIdeal.Value.run m ρ)

theorem value_merge : Cert.algebraic_MergeIdeal_MergeReferenceIdeal := fun m g m' g' _ harg =>
  ⟨fun c => (Cert.MergeIdeal.Gen.dats m 0 c).arrAt 12 Cert.MergeIdeal.cfg0.N, Cert.MergeIdeal.Value.run_blocks m g,
    (θ_run Cert.MergeReferenceIdeal.defs _ _).mono (fun r h c => ⟨(h c).1.trans (by
      obtain ⟨a0, a1, a2, a3, a4, a5, a6, a7, a8, a9⟩ := harg c
      rw [a0, a1, a2, a3, a4, a5, a6, a7, a8, a9]
      exact (whole_eq m c).symm), (h c).2⟩) (Cert.MergeReferenceIdeal.Mix.run m' g')⟩

end Cert.Mix

end
-- ==== Proof.ProjBody.lean ====
module

public import proofs.«01_k».proof.Proof.Gen.ProjectionIdeal.Frame
public import Idealize.ShloMosaic.Lib.Pipeline.Value
public import Idealize.ShloMosaic.Lib.WritesUnit

@[expose] public section

/-! The input projection's body: the blocks it stores as functions of the blocks it reads, and the runs of its two
    branches. -/

set_option maxRecDepth 16384

noncomputable section

namespace Cert.ProjectionIdeal.Inp

open Idealize.ShloMosaic Idealize.ShloMosaic.TcCoe Idealize.ShloMosaic.Tactic
open Cert.ProjectionIdeal Cert.ProjectionIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

local notation "𝕄" => MT nD τ sig Unit (Elt F) ℕ (UR sig nD τ) ℕ

/-! ## The blocks stored -/

/-- Sixteen rows of a weight, rounded. -/
def sd16 (v : Vec F S1x16x2048 .f32) : FVec F S16x2048 .bf16 := truncf .bf16 (shapeCast S16x2048 v shapeCasts_S1x16x2048_S16x2048 : FVec F S16x2048 .f32) bitsLt_bf16_f32

/-- Thirty-two rows of a weight, rounded. -/
def sd32 (v : Vec F S1x32x2048 .f32) : FVec F S32x2048 .bf16 := truncf .bf16 (shapeCast S32x2048 v shapeCasts_S1x32x2048_S32x2048 : FVec F S32x2048 .f32) bitsLt_bf16_f32

/-- Thirty-two rows of a wide weight, rounded. -/
def sdw (v : Vec F S1x32x5632 .f32) : FVec F S32x5632 .bf16 := truncf .bf16 (shapeCast S32x5632 v shapeCasts_S1x32x5632_S32x5632 : FVec F S32x5632 .f32) bitsLt_bf16_f32

/-- Sixty-four rows of a weight, rounded. -/
def sd64 (v : Vec F S1x64x2048 .f32) : FVec F S64x2048 .bf16 := truncf .bf16 (shapeCast S64x2048 v shapeCasts_S1x64x2048_S64x2048 : FVec F S64x2048 .f32) bitsLt_bf16_f32

/-- One over the root mean square of each row. -/
def rms (x : FVec F S1024x2048 .f32) : FVec F S1024x1 .f32 :=
  rsqrt (addf (mulf (shapeCast S1024x1 (multiReduction .add [1] S1024 (mulf x x) 0x00000000#32 reduces_S1024x2048_S1024 (.inl rfl) rfl : FVec F S1024 .f32) shapeCasts_S1024_S1024x1)
    (broadcast S1024x1 (Scalar.ofBits .f32 0x3A000000#32))) (broadcast S1024x1 (Scalar.ofBits .f32 0x358637BD#32)))

/-- The rows normalised and weighted. -/
def xnOf (x : Vec F S1024x2048 .f32) (n : Vec F S1x2048 .f32) : FVec F S1024x2048 .bf16 :=
  truncf .bf16 (mulf (mulf (shapeCast S1024x2048 x shapeCasts_S1024x2048_S1024x2048 : FVec F S1024x2048 .f32)
      (broadcastTo S1024x2048 (rms (shapeCast S1024x2048 x shapeCasts_S1024x2048_S1024x2048)) broadcasts_S1024x1_S1024x2048))
    (broadcastTo S1024x2048 (shapeCast S1x2048 n shapeCasts_S1x2048_S1x2048 : FVec F S1x2048 .f32) broadcasts_S1x2048_S1024x2048)) bitsLt_bf16_f32

/-- The rows' product with the narrow columns. -/
def dtOf (s : FVec F S1024x2048 .bf16) (w : Vec F S2048x128 .bf16) : FVec F S1024x128 .f32 :=
  matmul dot_S1024x2048_S2048x128_S1024x128_1_0_0_1_n_n none s (shapeCast S2048x128 w shapeCasts_S2048x128_S2048x128 : FVec F S2048x128 .bf16) (constant S1024x128 .f32 0x00000000#32)

/-- The rows' product with a block of columns, rounded. -/
def prOf (s : FVec F S1024x2048 .bf16) (w : Vec F S2048x2048 .bf16) : FVec F S1024x2048 .bf16 :=
  truncf .bf16 (matmul dot_S1024x2048_S2048x2048_S1024x2048_1_0_0_1_n_n none s (shapeCast S2048x2048 w shapeCasts_S2048x2048_S2048x2048 : FVec F S2048x2048 .bf16) (constant S1024x2048 .f32 0x00000000#32)) bitsLt_bf16_f32

/-! ## The body over those blocks -/

/-- The casts of the weights' blocks but the last. -/
noncomputable def sides (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1x16x2048 .f32) (harg6 : arg6.IsWhole) (arg7 : Memref sig .tc .vmem S1x16x2048 .f32) (harg7 : arg7.IsWhole) (arg8 : Memref sig .tc .vmem S1x16x2048 .f32) (harg8 : arg8.IsWhole) (arg9 : Memref sig .tc .vmem S1x32x2048 .f32) (harg9 : arg9.IsWhole) (arg10 : Memref sig .tc .vmem S1x32x5632 .f32) (harg10 : arg10.IsWhole) (arg11 : Memref sig .tc .vmem S1x32x5632 .f32) (harg11 : arg11.IsWhole) (arg12 : Memref sig .tc .vmem S1x64x2048 .f32) (harg12 : arg12.IsWhole) (arg13 : Memref sig .tc .vmem S1024x2048 .bf16) (harg13 : arg13.IsWhole) (arg14 : Memref sig .tc .vmem S1024x128 .f32) (harg14 : arg14.IsWhole) (arg15 : Memref sig .tc .vmem S16x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S32x2048 .bf16) (harg18 : arg18.IsWhole) (arg19 : Memref sig .tc .vmem S32x5632 .bf16) (harg19 : arg19.IsWhole) (arg20 : Memref sig .tc .vmem S32x5632 .bf16) (harg20 : arg20.IsWhole) (arg21 : Memref sig .tc .vmem S64x2048 .bf16) (harg21 : arg21.IsWhole) (arg22 : Memref sig .tc .vmem S1024x2048 .bf16) (harg22 : arg22.IsWhole) :
    Prog (TpuEff nD τ sig (Elt F) Λ₀ .tc) (PUnit) := do
  let v6 : Vec F S1x16x2048 .f32 ← Prog.lift (.load arg6 (Rect.unit (s := S1x16x2048) ![0, 0, 0] S1x16x2048.size inb_S1x16x2048_S1x16x2048_0_0_0).toLoadRect (View.loadsAt_vmem h_S1x16x2048))
  let v9 : Vec F S16x2048 .bf16 ← Prog.lift (.load arg15 (Rect.unit (s := S16x2048) ![0, 0] S16x2048.size inb_S16x2048_S16x2048_0_0).toLoadRect (View.loadsAt_vmem h_S16x2048))
  Prog.lift (.store arg15 (Rect.unit (s := S16x2048) ![0, 0] S16x2048.size inb_S16x2048_S16x2048_0_0) (sd16 v6) Finset.univ (View.stores_vmem h_S16x2048 (harg15.storeExact_slice rfl _ packedbf16_S16x2048_S16x2048_0_0) (fun _ => rfl)) (.inl rfl))
  let v10 : Vec F S1x16x2048 .f32 ← Prog.lift (.load arg7 (Rect.unit (s := S1x16x2048) ![0, 0, 0] S1x16x2048.size inb_S1x16x2048_S1x16x2048_0_0_0).toLoadRect (View.loadsAt_vmem h_S1x16x2048))
  let v13 : Vec F S16x2048 .bf16 ← Prog.lift (.load arg16 (Rect.unit (s := S16x2048) ![0, 0] S16x2048.size inb_S16x2048_S16x2048_0_0).toLoadRect (View.loadsAt_vmem h_S16x2048))
  Prog.lift (.store arg16 (Rect.unit (s := S16x2048) ![0, 0] S16x2048.size inb_S16x2048_S16x2048_0_0) (sd16 v10) Finset.univ (View.stores_vmem h_S16x2048 (harg16.storeExact_slice rfl _ packedbf16_S16x2048_S16x2048_0_0) (fun _ => rfl)) (.inl rfl))
  let v14 : Vec F S1x16x2048 .f32 ← Prog.lift (.load arg8 (Rect.unit (s := S1x16x2048) ![0, 0, 0] S1x16x2048.size inb_S1x16x2048_S1x16x2048_0_0_0).toLoadRect (View.loadsAt_vmem h_S1x16x2048))
  let v17 : Vec F S16x2048 .bf16 ← Prog.lift (.load arg17 (Rect.unit (s := S16x2048) ![0, 0] S16x2048.size inb_S16x2048_S16x2048_0_0).toLoadRect (View.loadsAt_vmem h_S16x2048))
  Prog.lift (.store arg17 (Rect.unit (s := S16x2048) ![0, 0] S16x2048.size inb_S16x2048_S16x2048_0_0) (sd16 v14) Finset.univ (View.stores_vmem h_S16x2048 (harg17.storeExact_slice rfl _ packedbf16_S16x2048_S16x2048_0_0) (fun _ => rfl)) (.inl rfl))
  let v18 : Vec F S1x32x2048 .f32 ← Prog.lift (.load arg9 (Rect.unit (s := S1x32x2048) ![0, 0, 0] S1x32x2048.size inb_S1x32x2048_S1x32x2048_0_0_0).toLoadRect (View.loadsAt_vmem h_S1x32x2048))
  let v21 : Vec F S32x2048 .bf16 ← Prog.lift (.load arg18 (Rect.unit (s := S32x2048) ![0, 0] S32x2048.size inb_S32x2048_S32x2048_0_0).toLoadRect (View.loadsAt_vmem h_S32x2048))
  Prog.lift (.store arg18 (Rect.unit (s := S32x2048) ![0, 0] S32x2048.size inb_S32x2048_S32x2048_0_0) (sd32 v18) Finset.univ (View.stores_vmem h_S32x2048 (harg18.storeExact_slice rfl _ packedbf16_S32x2048_S32x2048_0_0) (fun _ => rfl)) (.inl rfl))
  let v22 : Vec F S1x32x5632 .f32 ← Prog.lift (.load arg10 (Rect.unit (s := S1x32x5632) ![0, 0, 0] S1x32x5632.size inb_S1x32x5632_S1x32x5632_0_0_0).toLoadRect (View.loadsAt_vmem h_S1x32x5632))
  let v25 : Vec F S32x5632 .bf16 ← Prog.lift (.load arg19 (Rect.unit (s := S32x5632) ![0, 0] S32x5632.size inb_S32x5632_S32x5632_0_0).toLoadRect (View.loadsAt_vmem h_S32x5632))
  Prog.lift (.store arg19 (Rect.unit (s := S32x5632) ![0, 0] S32x5632.size inb_S32x5632_S32x5632_0_0) (sdw v22) Finset.univ (View.stores_vmem h_S32x5632 (harg19.storeExact_slice rfl _ packedbf16_S32x5632_S32x5632_0_0) (fun _ => rfl)) (.inl rfl))
  let v26 : Vec F S1x32x5632 .f32 ← Prog.lift (.load arg11 (Rect.unit (s := S1x32x5632) ![0, 0, 0] S1x32x5632.size inb_S1x32x5632_S1x32x5632_0_0_0).toLoadRect (View.loadsAt_vmem h_S1x32x5632))
  let v29 : Vec F S32x5632 .bf16 ← Prog.lift (.load arg20 (Rect.unit (s := S32x5632) ![0, 0] S32x5632.size inb_S32x5632_S32x5632_0_0).toLoadRect (View.loadsAt_vmem h_S32x5632))
  Prog.lift (.store arg20 (Rect.unit (s := S32x5632) ![0, 0] S32x5632.size inb_S32x5632_S32x5632_0_0) (sdw v26) Finset.univ (View.stores_vmem h_S32x5632 (harg20.storeExact_slice rfl _ packedbf16_S32x5632_S32x5632_0_0) (fun _ => rfl)) (.inl rfl))
  pure ⟨⟩

/-- A row block's first point, up to its last store. -/
noncomputable def opening (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1x16x2048 .f32) (harg6 : arg6.IsWhole) (arg7 : Memref sig .tc .vmem S1x16x2048 .f32) (harg7 : arg7.IsWhole) (arg8 : Memref sig .tc .vmem S1x16x2048 .f32) (harg8 : arg8.IsWhole) (arg9 : Memref sig .tc .vmem S1x32x2048 .f32) (harg9 : arg9.IsWhole) (arg10 : Memref sig .tc .vmem S1x32x5632 .f32) (harg10 : arg10.IsWhole) (arg11 : Memref sig .tc .vmem S1x32x5632 .f32) (harg11 : arg11.IsWhole) (arg12 : Memref sig .tc .vmem S1x64x2048 .f32) (harg12 : arg12.IsWhole) (arg13 : Memref sig .tc .vmem S1024x2048 .bf16) (harg13 : arg13.IsWhole) (arg14 : Memref sig .tc .vmem S1024x128 .f32) (harg14 : arg14.IsWhole) (arg15 : Memref sig .tc .vmem S16x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S32x2048 .bf16) (harg18 : arg18.IsWhole) (arg19 : Memref sig .tc .vmem S32x5632 .bf16) (harg19 : arg19.IsWhole) (arg20 : Memref sig .tc .vmem S32x5632 .bf16) (harg20 : arg20.IsWhole) (arg21 : Memref sig .tc .vmem S64x2048 .bf16) (harg21 : arg21.IsWhole) (arg22 : Memref sig .tc .vmem S1024x2048 .bf16) (harg22 : arg22.IsWhole) :
    Prog (TpuEff nD τ sig (Elt F) Λ₀ .tc) (FVec F S1024x2048 .bf16) := do
  let v30 : Vec F S1x64x2048 .f32 ← Prog.lift (.load arg12 (Rect.unit (s := S1x64x2048) ![0, 0, 0] S1x64x2048.size inb_S1x64x2048_S1x64x2048_0_0_0).toLoadRect (View.loadsAt_vmem h_S1x64x2048))
  let v33 : Vec F S64x2048 .bf16 ← Prog.lift (.load arg21 (Rect.unit (s := S64x2048) ![0, 0] S64x2048.size inb_S64x2048_S64x2048_0_0).toLoadRect (View.loadsAt_vmem h_S64x2048))
  Prog.lift (.store arg21 (Rect.unit (s := S64x2048) ![0, 0] S64x2048.size inb_S64x2048_S64x2048_0_0) (sd64 v30) Finset.univ (View.stores_vmem h_S64x2048 (harg21.storeExact_slice rfl _ packedbf16_S64x2048_S64x2048_0_0) (fun _ => rfl)) (.inl rfl))
  let v34 : Vec F S1024x2048 .f32 ← Prog.lift (.load arg2 (Rect.unit (s := S1024x2048) ![0, 0] S1024x2048.size inb_S1024x2048_S1024x2048_0_0).toLoadRect (View.loadsAt_vmem h_S1024x2048))
  let v46 : Vec F S1x2048 .f32 ← Prog.lift (.load arg3 (Rect.unit (s := S1x2048) ![0, 0] S1x2048.size inb_S1x2048_S1x2048_0_0).toLoadRect (View.loadsAt_vmem h_S1x2048))
  let v51 : Vec F S1024x2048 .bf16 ← Prog.lift (.load arg22 (Rect.unit (s := S1024x2048) ![0, 0] S1024x2048.size inb_S1024x2048_S1024x2048_0_0).toLoadRect (View.loadsAt_vmem h_S1024x2048))
  Prog.lift (.store arg22 (Rect.unit (s := S1024x2048) ![0, 0] S1024x2048.size inb_S1024x2048_S1024x2048_0_0) (shapeCast S1024x2048 (xnOf v34 v46) shapeCasts_S1024x2048_S1024x2048) Finset.univ (View.stores_vmem h_S1024x2048 (harg22.storeExact_slice rfl _ packedbf16_S1024x2048_S1024x2048_0_0) (fun _ => rfl)) (.inl rfl))
  let v54 : Vec F S2048x128 .bf16 ← Prog.lift (.load arg5 (Rect.unit (s := S2048x128) ![0, 0] S2048x128.size inb_S2048x128_S2048x128_0_0).toLoadRect (View.loadsAt_vmem h_S2048x128))
  let v57 : Vec F S1024x128 .f32 ← Prog.lift (.load arg14 (Rect.unit (s := S1024x128) ![0, 0] S1024x128.size inb_S1024x128_S1024x128_0_0).toLoadRect (View.loadsAt_vmem h_S1024x128))
  Prog.lift (.store arg14 (Rect.unit (s := S1024x128) ![0, 0] S1024x128.size inb_S1024x128_S1024x128_0_0) (dtOf (xnOf v34 v46) v54) Finset.univ (View.stores_vmem_bits_univ h_S1024x128 rfl) (.inl rfl))
  let v58 : Vec F S2048x2048 .bf16 ← Prog.lift (.load arg4 (Rect.unit (s := S2048x2048) ![0, 0] S2048x2048.size inb_S2048x2048_S2048x2048_0_0).toLoadRect (View.loadsAt_vmem h_S2048x2048))
  let v62 : Vec F S1024x2048 .bf16 ← Prog.lift (.load arg13 (Rect.unit (s := S1024x2048) ![0, 0] S1024x2048.size inb_S1024x2048_S1024x2048_0_0).toLoadRect (View.loadsAt_vmem h_S1024x2048))
  pure (prOf (xnOf v34 v46) v58)

/-- The body. -/
noncomputable def body (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1x16x2048 .f32) (harg6 : arg6.IsWhole) (arg7 : Memref sig .tc .vmem S1x16x2048 .f32) (harg7 : arg7.IsWhole) (arg8 : Memref sig .tc .vmem S1x16x2048 .f32) (harg8 : arg8.IsWhole) (arg9 : Memref sig .tc .vmem S1x32x2048 .f32) (harg9 : arg9.IsWhole) (arg10 : Memref sig .tc .vmem S1x32x5632 .f32) (harg10 : arg10.IsWhole) (arg11 : Memref sig .tc .vmem S1x32x5632 .f32) (harg11 : arg11.IsWhole) (arg12 : Memref sig .tc .vmem S1x64x2048 .f32) (harg12 : arg12.IsWhole) (arg13 : Memref sig .tc .vmem S1024x2048 .bf16) (harg13 : arg13.IsWhole) (arg14 : Memref sig .tc .vmem S1024x128 .f32) (harg14 : arg14.IsWhole) (arg15 : Memref sig .tc .vmem S16x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S32x2048 .bf16) (harg18 : arg18.IsWhole) (arg19 : Memref sig .tc .vmem S32x5632 .bf16) (harg19 : arg19.IsWhole) (arg20 : Memref sig .tc .vmem S32x5632 .bf16) (harg20 : arg20.IsWhole) (arg21 : Memref sig .tc .vmem S64x2048 .bf16) (harg21 : arg21.IsWhole) (arg22 : Memref sig .tc .vmem S1024x2048 .bf16) (harg22 : arg22.IsWhole) :
    Prog (TpuEff nD τ sig (Elt F) Λ₀ .tc) PUnit := do
  if k0_h1 : k0_cond1 i = 1#1 then do
    sides i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    let v61 : FVec F S1024x2048 .bf16 ← opening i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    Prog.lift (.store arg13 (Rect.unit (s := S1024x2048) ![0, 0] S1024x2048.size inb_S1024x2048_S1024x2048_0_0) v61 Finset.univ (View.stores_vmem h_S1024x2048 (harg13.storeExact_slice rfl _ packedbf16_S1024x2048_S1024x2048_0_0) (fun _ => rfl)) (.inl rfl))
    pure ⟨⟩
  else do
    pure ⟨⟩
  if k0_h2 : k0_cond2 i = 1#1 then do
    sides i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    let v30 : Vec F S1x64x2048 .f32 ← Prog.lift (.load arg12 (Rect.unit (s := S1x64x2048) ![0, 0, 0] S1x64x2048.size inb_S1x64x2048_S1x64x2048_0_0_0).toLoadRect (View.loadsAt_vmem h_S1x64x2048))
    let v33 : Vec F S64x2048 .bf16 ← Prog.lift (.load arg21 (Rect.unit (s := S64x2048) ![0, 0] S64x2048.size inb_S64x2048_S64x2048_0_0).toLoadRect (View.loadsAt_vmem h_S64x2048))
    Prog.lift (.store arg21 (Rect.unit (s := S64x2048) ![0, 0] S64x2048.size inb_S64x2048_S64x2048_0_0) (sd64 v30) Finset.univ (View.stores_vmem h_S64x2048 (harg21.storeExact_slice rfl _ packedbf16_S64x2048_S64x2048_0_0) (fun _ => rfl)) (.inl rfl))
    let v34 : Vec F S1024x2048 .bf16 ← Prog.lift (.load arg22 (Rect.unit (s := S1024x2048) ![0, 0] S1024x2048.size inb_S1024x2048_S1024x2048_0_0).toLoadRect (View.loadsAt_vmem h_S1024x2048))
    let v35 : Vec F S2048x2048 .bf16 ← Prog.lift (.load arg4 (Rect.unit (s := S2048x2048) ![0, 0] S2048x2048.size inb_S2048x2048_S2048x2048_0_0).toLoadRect (View.loadsAt_vmem h_S2048x2048))
    let v39 : Vec F S1024x2048 .bf16 ← Prog.lift (.load arg13 (Rect.unit (s := S1024x2048) ![0, 0] S1024x2048.size inb_S1024x2048_S1024x2048_0_0).toLoadRect (View.loadsAt_vmem h_S1024x2048))
    Prog.lift (.store arg13 (Rect.unit (s := S1024x2048) ![0, 0] S1024x2048.size inb_S1024x2048_S1024x2048_0_0) (prOf v34 v35) Finset.univ (View.stores_vmem h_S1024x2048 (harg13.storeExact_slice rfl _ packedbf16_S1024x2048_S1024x2048_0_0) (fun _ => rfl)) (.inl rfl))
    pure ⟨⟩
  else do
    pure ⟨⟩
  pure ⟨⟩

theorem sides_eq : k0_part1 (F := F) = sides (F := F) := rfl

theorem sides_eq' : k0_part3 (F := F) = sides (F := F) := rfl

theorem opening_eq : k0_part2 (F := F) = opening (F := F) := rfl

theorem body_eq : cc0_inproj (F := F) = body (F := F) := by
  funext i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
  unfold cc0_inproj body
  rw [sides_eq, sides_eq', opening_eq]
  rfl

theorem zz : (![0, 0] : Fin 2 → Nat) = fun _ => 0 := funext fun a => by fin_cases a <;> rfl

theorem zzz : (![0, 0, 0] : Fin 3 → Nat) = fun _ => 0 := funext fun a => by fin_cases a <;> rfl

/-- One store over a whole buffer leaves what it stores. -/
theorem stored {κ : Kind} {sp : Space} {s : Shape} {e : EltTy} (v : View sig κ sp s e) (f : v.ty.Contents (Elt F))
    {off : Fin s.rank → ℕ} (h : off = fun _ => 0) (inb : ∀ a, off a + s.size a ≤ s.size a) (w : s.Idx → Elt F e) :
    v.read (Elt F) (v.writes (Elt F) f [⟨Rect.unit off s.size inb, w⟩]) = w := by
  subst h
  funext y
  exact View.read_writes_cons_unit_of_mem v f _ _ _ y y rfl fun a => (Nat.zero_add _).symm

set_option maxHeartbeats 1600000 in
/-- The body at a row block's first point. -/
theorem body_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1x16x2048 .f32) (harg6 : arg6.IsWhole) (arg7 : Memref sig .tc .vmem S1x16x2048 .f32) (harg7 : arg7.IsWhole) (arg8 : Memref sig .tc .vmem S1x16x2048 .f32) (harg8 : arg8.IsWhole) (arg9 : Memref sig .tc .vmem S1x32x2048 .f32) (harg9 : arg9.IsWhole) (arg10 : Memref sig .tc .vmem S1x32x5632 .f32) (harg10 : arg10.IsWhole) (arg11 : Memref sig .tc .vmem S1x32x5632 .f32) (harg11 : arg11.IsWhole) (arg12 : Memref sig .tc .vmem S1x64x2048 .f32) (harg12 : arg12.IsWhole) (arg13 : Memref sig .tc .vmem S1024x2048 .bf16) (harg13 : arg13.IsWhole) (arg14 : Memref sig .tc .vmem S1024x128 .f32) (harg14 : arg14.IsWhole) (arg15 : Memref sig .tc .vmem S16x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S32x2048 .bf16) (harg18 : arg18.IsWhole) (arg19 : Memref sig .tc .vmem S32x5632 .bf16) (harg19 : arg19.IsWhole) (arg20 : Memref sig .tc .vmem S32x5632 .bf16) (harg20 : arg20.IsWhole) (arg21 : Memref sig .tc .vmem S64x2048 .bf16) (harg21 : arg21.IsWhole) (arg22 : Memref sig .tc .vmem S1024x2048 .bf16) (harg22 : arg22.IsWhole)
    (X : Vec F S1024x2048 .f32) (N : Vec F S1x2048 .f32) (W : Vec F S2048x2048 .bf16) (D : Vec F S2048x128 .bf16) (B1 : Vec F S1x16x2048 .f32) (B2 : Vec F S1x16x2048 .f32) (B3 : Vec F S1x16x2048 .f32) (B4 : Vec F S1x32x2048 .f32) (B5 : Vec F S1x32x5632 .f32) (B6 : Vec F S1x32x5632 .f32) (B7 : Vec F S1x64x2048 .f32) (hc1 : k0_cond1 i = 1#1) (hc2 : ¬ k0_cond2 i = 1#1) (E : Set ℕ) (Kt : PUnit → sProp 𝕄) :
    iprop(owns (c : Thread nD τ) arg2 fullShare X
        ∗ owns (c : Thread nD τ) arg3 fullShare N
        ∗ owns (c : Thread nD τ) arg4 fullShare W
        ∗ owns (c : Thread nD τ) arg5 fullShare D
        ∗ owns (c : Thread nD τ) arg6 fullShare B1
        ∗ owns (c : Thread nD τ) arg7 fullShare B2
        ∗ owns (c : Thread nD τ) arg8 fullShare B3
        ∗ owns (c : Thread nD τ) arg9 fullShare B4
        ∗ owns (c : Thread nD τ) arg10 fullShare B5
        ∗ owns (c : Thread nD τ) arg11 fullShare B6
        ∗ owns (c : Thread nD τ) arg12 fullShare B7
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (iprop(owns (c : Thread nD τ) arg2 fullShare X
        ∗ owns (c : Thread nD τ) arg3 fullShare N
        ∗ owns (c : Thread nD τ) arg4 fullShare W
        ∗ owns (c : Thread nD τ) arg5 fullShare D
        ∗ owns (c : Thread nD τ) arg6 fullShare B1
        ∗ owns (c : Thread nD τ) arg7 fullShare B2
        ∗ owns (c : Thread nD τ) arg8 fullShare B3
        ∗ owns (c : Thread nD τ) arg9 fullShare B4
        ∗ owns (c : Thread nD τ) arg10 fullShare B5
        ∗ owns (c : Thread nD τ) arg11 fullShare B6
        ∗ owns (c : Thread nD τ) arg12 fullShare B7
        ∗ owns (c : Thread nD τ) arg13 fullShare (prOf (xnOf X N) W)
        ∗ owns (c : Thread nD τ) arg14 fullShare (dtOf (xnOf X N) D)
        ∗ owns (c : Thread nD τ) arg15 fullShare (sd16 B1)
        ∗ owns (c : Thread nD τ) arg16 fullShare (sd16 B2)
        ∗ owns (c : Thread nD τ) arg17 fullShare (sd16 B3)
        ∗ owns (c : Thread nD τ) arg18 fullShare (sd32 B4)
        ∗ owns (c : Thread nD τ) arg19 fullShare (sdw B5)
        ∗ owns (c : Thread nD τ) arg20 fullShare (sdw B6)
        ∗ owns (c : Thread nD τ) arg21 fullShare (sd64 B7)
        ∗ owns (c : Thread nD τ) arg22 fullShare (xnOf X N)) -∗ Kt ⟨⟩))
      ⊢ wp frame (wpE (defs₀ (F := F)) 𝒱₀ c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Kt := by
  rw [body_eq]
  unfold body sides opening owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  sl_exec (disch := first | sl_exact hc1 | sl_exact hc2)
  sl_step
  iapply Hk
  isplitl [H2]
  · iexists _
    isplitr
    · ipureintro; exact harg2.read_unread _
    iexact H2
  isplitl [H3]
  · iexists _
    isplitr
    · ipureintro; exact harg3.read_unread _
    iexact H3
  isplitl [H4]
  · iexists _
    isplitr
    · ipureintro; exact harg4.read_unread _
    iexact H4
  isplitl [H5]
  · iexists _
    isplitr
    · ipureintro; exact harg5.read_unread _
    iexact H5
  isplitl [H6]
  · iexists _
    isplitr
    · ipureintro; exact harg6.read_unread _
    iexact H6
  isplitl [H7]
  · iexists _
    isplitr
    · ipureintro; exact harg7.read_unread _
    iexact H7
  isplitl [H8]
  · iexists _
    isplitr
    · ipureintro; exact harg8.read_unread _
    iexact H8
  isplitl [H9]
  · iexists _
    isplitr
    · ipureintro; exact harg9.read_unread _
    iexact H9
  isplitl [H10]
  · iexists _
    isplitr
    · ipureintro; exact harg10.read_unread _
    iexact H10
  isplitl [H11]
  · iexists _
    isplitr
    · ipureintro; exact harg11.read_unread _
    iexact H11
  isplitl [H12]
  · iexists _
    isplitr
    · ipureintro; exact harg12.read_unread _
    iexact H12
  isplitl [H13]
  · iexists _
    isplitr
    swap
    · iexact H13
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H14]
  · iexists _
    isplitr
    swap
    · iexact H14
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H15]
  · iexists _
    isplitr
    swap
    · iexact H15
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H16]
  · iexists _
    isplitr
    swap
    · iexact H16
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H17]
  · iexists _
    isplitr
    swap
    · iexact H17
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H18]
  · iexists _
    isplitr
    swap
    · iexact H18
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H19]
  · iexists _
    isplitr
    swap
    · iexact H19
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H20]
  · iexists _
    isplitr
    swap
    · iexact H20
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H21]
  · iexists _
    isplitr
    swap
    · iexact H21
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  iexists _
  isplitr
  swap
  · iexact H22
  ipureintro
  sl_unfold_words
  refine (stored _ _ zz _ _).trans ?_
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x2048) zz, View.ld_unit_zero (S := S1x2048) zz,
    View.ld_unit_zero (S := S2048x2048) zz, View.ld_unit_zero (S := S2048x128) zz, View.ld_unit_zero (S := S1x16x2048) zzz,
    View.ld_unit_zero (S := S1x32x2048) zzz, View.ld_unit_zero (S := S1x32x5632) zzz, View.ld_unit_zero (S := S1x64x2048) zzz, shapeCast_self]

set_option maxHeartbeats 1600000 in
/-- The body at a later point of a row block. -/
theorem body_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1x16x2048 .f32) (harg6 : arg6.IsWhole) (arg7 : Memref sig .tc .vmem S1x16x2048 .f32) (harg7 : arg7.IsWhole) (arg8 : Memref sig .tc .vmem S1x16x2048 .f32) (harg8 : arg8.IsWhole) (arg9 : Memref sig .tc .vmem S1x32x2048 .f32) (harg9 : arg9.IsWhole) (arg10 : Memref sig .tc .vmem S1x32x5632 .f32) (harg10 : arg10.IsWhole) (arg11 : Memref sig .tc .vmem S1x32x5632 .f32) (harg11 : arg11.IsWhole) (arg12 : Memref sig .tc .vmem S1x64x2048 .f32) (harg12 : arg12.IsWhole) (arg13 : Memref sig .tc .vmem S1024x2048 .bf16) (harg13 : arg13.IsWhole) (arg14 : Memref sig .tc .vmem S1024x128 .f32) (harg14 : arg14.IsWhole) (arg15 : Memref sig .tc .vmem S16x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S32x2048 .bf16) (harg18 : arg18.IsWhole) (arg19 : Memref sig .tc .vmem S32x5632 .bf16) (harg19 : arg19.IsWhole) (arg20 : Memref sig .tc .vmem S32x5632 .bf16) (harg20 : arg20.IsWhole) (arg21 : Memref sig .tc .vmem S64x2048 .bf16) (harg21 : arg21.IsWhole) (arg22 : Memref sig .tc .vmem S1024x2048 .bf16) (harg22 : arg22.IsWhole)
    (X : Vec F S1024x2048 .f32) (N : Vec F S1x2048 .f32) (W : Vec F S2048x2048 .bf16) (D : Vec F S2048x128 .bf16) (B1 : Vec F S1x16x2048 .f32) (B2 : Vec F S1x16x2048 .f32) (B3 : Vec F S1x16x2048 .f32) (B4 : Vec F S1x32x2048 .f32) (B5 : Vec F S1x32x5632 .f32) (B6 : Vec F S1x32x5632 .f32) (B7 : Vec F S1x64x2048 .f32) (T : Vec F S1024x128 .f32) (G : Vec F S1024x2048 .bf16) (hc1 : ¬ k0_cond1 i = 1#1) (hc2 : k0_cond2 i = 1#1) (E : Set ℕ) (Kt : PUnit → sProp 𝕄) :
    iprop(owns (c : Thread nD τ) arg2 fullShare X
        ∗ owns (c : Thread nD τ) arg3 fullShare N
        ∗ owns (c : Thread nD τ) arg4 fullShare W
        ∗ owns (c : Thread nD τ) arg5 fullShare D
        ∗ owns (c : Thread nD τ) arg6 fullShare B1
        ∗ owns (c : Thread nD τ) arg7 fullShare B2
        ∗ owns (c : Thread nD τ) arg8 fullShare B3
        ∗ owns (c : Thread nD τ) arg9 fullShare B4
        ∗ owns (c : Thread nD τ) arg10 fullShare B5
        ∗ owns (c : Thread nD τ) arg11 fullShare B6
        ∗ owns (c : Thread nD τ) arg12 fullShare B7
        ∗ (∃ d, owns (c : Thread nD τ) arg13 fullShare d)
        ∗ owns (c : Thread nD τ) arg14 fullShare T
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ owns (c : Thread nD τ) arg22 fullShare G
        ∗ (iprop(owns (c : Thread nD τ) arg2 fullShare X
        ∗ owns (c : Thread nD τ) arg3 fullShare N
        ∗ owns (c : Thread nD τ) arg4 fullShare W
        ∗ owns (c : Thread nD τ) arg5 fullShare D
        ∗ owns (c : Thread nD τ) arg6 fullShare B1
        ∗ owns (c : Thread nD τ) arg7 fullShare B2
        ∗ owns (c : Thread nD τ) arg8 fullShare B3
        ∗ owns (c : Thread nD τ) arg9 fullShare B4
        ∗ owns (c : Thread nD τ) arg10 fullShare B5
        ∗ owns (c : Thread nD τ) arg11 fullShare B6
        ∗ owns (c : Thread nD τ) arg12 fullShare B7
        ∗ owns (c : Thread nD τ) arg13 fullShare (prOf G W)
        ∗ owns (c : Thread nD τ) arg14 fullShare T
        ∗ owns (c : Thread nD τ) arg15 fullShare (sd16 B1)
        ∗ owns (c : Thread nD τ) arg16 fullShare (sd16 B2)
        ∗ owns (c : Thread nD τ) arg17 fullShare (sd16 B3)
        ∗ owns (c : Thread nD τ) arg18 fullShare (sd32 B4)
        ∗ owns (c : Thread nD τ) arg19 fullShare (sdw B5)
        ∗ owns (c : Thread nD τ) arg20 fullShare (sdw B6)
        ∗ owns (c : Thread nD τ) arg21 fullShare (sd64 B7)
        ∗ owns (c : Thread nD τ) arg22 fullShare G) -∗ Kt ⟨⟩))
      ⊢ wp frame (wpE (defs₀ (F := F)) 𝒱₀ c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Kt := by
  rw [body_eq]
  unfold body sides opening owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%d13, %f13, -, H13⟩, ⟨%f14, %h14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %h22, H22⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg14.eq_unread h14
  obtain rfl := harg22.eq_unread h22
  sl_exec (disch := first | sl_exact hc1 | sl_exact hc2)
  sl_step
  iapply Hk
  isplitl [H2]
  · iexists _
    isplitr
    · ipureintro; exact harg2.read_unread _
    iexact H2
  isplitl [H3]
  · iexists _
    isplitr
    · ipureintro; exact harg3.read_unread _
    iexact H3
  isplitl [H4]
  · iexists _
    isplitr
    · ipureintro; exact harg4.read_unread _
    iexact H4
  isplitl [H5]
  · iexists _
    isplitr
    · ipureintro; exact harg5.read_unread _
    iexact H5
  isplitl [H6]
  · iexists _
    isplitr
    · ipureintro; exact harg6.read_unread _
    iexact H6
  isplitl [H7]
  · iexists _
    isplitr
    · ipureintro; exact harg7.read_unread _
    iexact H7
  isplitl [H8]
  · iexists _
    isplitr
    · ipureintro; exact harg8.read_unread _
    iexact H8
  isplitl [H9]
  · iexists _
    isplitr
    · ipureintro; exact harg9.read_unread _
    iexact H9
  isplitl [H10]
  · iexists _
    isplitr
    · ipureintro; exact harg10.read_unread _
    iexact H10
  isplitl [H11]
  · iexists _
    isplitr
    · ipureintro; exact harg11.read_unread _
    iexact H11
  isplitl [H12]
  · iexists _
    isplitr
    · ipureintro; exact harg12.read_unread _
    iexact H12
  isplitl [H13]
  · iexists _
    isplitr
    swap
    · iexact H13
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg22.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H14]
  · iexists _
    isplitr
    · ipureintro; exact harg14.read_unread _
    iexact H14
  isplitl [H15]
  · iexists _
    isplitr
    swap
    · iexact H15
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg22.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H16]
  · iexists _
    isplitr
    swap
    · iexact H16
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg22.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H17]
  · iexists _
    isplitr
    swap
    · iexact H17
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg22.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H18]
  · iexists _
    isplitr
    swap
    · iexact H18
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg22.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H19]
  · iexists _
    isplitr
    swap
    · iexact H19
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg22.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H20]
  · iexists _
    isplitr
    swap
    · iexact H20
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg22.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  isplitl [H21]
  · iexists _
    isplitr
    swap
    · iexact H21
    ipureintro
    sl_unfold_words
    refine (stored _ _ zz _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg22.read_unread, View.ld_unit_zero (S := S1024x2048) zz, View.ld_unit_zero (S := S1x2048) zz,
      View.ld_unit_zero (S := S2048x2048) zz, View.ld_unit_zero (S := S2048x128) zz, View.ld_unit_zero (S := S1x16x2048) zzz,
      View.ld_unit_zero (S := S1x32x2048) zzz, View.ld_unit_zero (S := S1x32x5632) zzz, View.ld_unit_zero (S := S1x64x2048) zzz, shapeCast_self]
  iexists _
  isplitr
  · ipureintro; exact harg22.read_unread _
  iexact H22

end Cert.ProjectionIdeal.Inp

end
-- ==== Proof.ProjRun.lean ====
module

public import proofs.«01_k».proof.Proof.ProjBody
public import proofs.«01_k».proof.Proof.Gen.ProjectionIdeal.Points

@[expose] public section

/-! The run of the input projection's launch: the body at every grid point, and the frame. -/

set_option maxRecDepth 16384

noncomputable section

namespace Cert.ProjectionIdeal.Inp

open Idealize.ShloMosaic Idealize.ShloMosaic.TcCoe Idealize.ShloMosaic.Tactic
open Cert.ProjectionIdeal Cert.ProjectionIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

theorem cond1_iff : ∀ t : Fin grid0.N, k0_cond1 (grid0.coords t) = 1#1 ↔ t.val % 7 = 0 := by decide +kernel

theorem cond2_iff : ∀ t : Fin grid0.N, k0_cond2 (grid0.coords t) = 1#1 ↔ ¬ t.val % 7 = 0 := by decide +kernel

theorem live : ∀ t : Fin grid0.N, (!(k0_cond1 (grid0.coords t) == 1#1) && !(k0_cond2 (grid0.coords t) == 1#1)) = false := by decide +kernel

theorem idle12 : ∀ t : Fin grid0.N, (!(k0_cond1 (grid0.coords t) == 1#1)) = decide (¬ t.val % 7 = 0) := by decide +kernel

theorem back_owns (c : Dev nD) (b : Ref sig .tc) (g : b.ty.Contents (Elt F)) :
    (owns (c : Thread nD τ) (Memref.whole b) fullShare g : sProp 𝕄) ⊢ iprop(∃ f, ((c : Thread nD τ).loc b) ↦{fullShare} f) := by
  rw [owns_whole]
  iintro H
  iexists _
  iexact H

/-- The first point of a point's row block. -/
def first (n : ℕ) : Fin cfg0.N := ⟨n / 7 * 7 % 112, by show _ < grid0.N; rw [N_0]; omega⟩

theorem first_self (t : Fin cfg0.N) (h : t.val % 7 = 0) : first t.val = t := by
  have := t.isLt
  have hN : cfg0.N = 112 := N_0
  exact Fin.ext (by show t.val / 7 * 7 % 112 = t.val; omega)

theorem first_succ (n : ℕ) (h : ¬ (n + 1) % 7 = 0) : first (n + 1) = first n :=
  Fin.ext (by show (n + 1) / 7 * 7 % 112 = n / 7 * 7 % 112; omega)

theorem first_pred (t : Fin cfg0.N) (h : ¬ t.val % 7 = 0) : first (t.val - 1) = first t.val :=
  Fin.ext (by show (t.val - 1) / 7 * 7 % 112 = t.val / 7 * 7 % 112; omega)

variable (m : (ℓ : Loc nD τ sig) → Buf (Elt F) ℓ) (ρ : Dev nD → PrngReg)

/-- The normalised rows the scratch holds between a row block's points. -/
def rowsAt (c : Dev nD) (n : ℕ) : FVec F S1024x2048 .bf16 := xnOf (iblk m c 0 (first n)) (iblk m c 1 (first n))

/-- The narrow columns' block of a row block. -/
def dtAt (c : Dev nD) (n : ℕ) : FVec F S1024x128 .f32 := dtOf (rowsAt m c n) (iblk m c 3 (first n))

/-- The block of columns at a point. -/
def prAt (c : Dev nD) (t : Fin cfg0.N) : FVec F S1024x2048 .bf16 := prOf (rowsAt m c t.val) (X0_2 m c t)

/-- What the scratch holds before a point. -/
def carried (c : Dev nD) (n : ℕ) : sProp 𝕄 :=
  if n % 7 = 0 then ΦA spec0 c else iprop(owns (c : Thread nD τ) (Memref.whole cc0_scratch0) fullShare (rowsAt m c n) ∗ ∃ r, prngReg c r)

theorem carried_whole (c : Dev nD) (n : ℕ) (h : n % 7 = 0) : carried m c n = ΦA spec0 c := if_pos h

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => prAt m c t
    | ⟨12, _⟩ => dtAt m c t.val
    | ⟨13, _⟩ => sd16 (iblk m c 4 t)
    | ⟨14, _⟩ => sd16 (iblk m c 5 t)
    | ⟨15, _⟩ => sd16 (iblk m c 6 t)
    | ⟨16, _⟩ => sd32 (iblk m c 7 t)
    | ⟨17, _⟩ => sdw (iblk m c 8 t)
    | ⟨18, _⟩ => sdw (iblk m c 9 t)
    | ⟨19, _⟩ => sd64 (iblk m c 10 t)
    | ⟨n + 20, h⟩ => absurd h (Nat.not_lt.mpr (Nat.le_add_left 20 n))
  Φ t := carried m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = prAt m c t := by dsimp only [dats]
theorem after0_12 (c : Dev nD) (t : Fin cfg0.N) : (dats m 0 c).after 12 t = dtAt m c t.val := by dsimp only [dats]
theorem after0_13 (c : Dev nD) (t : Fin cfg0.N) : (dats m 0 c).after 13 t = sd16 (iblk m c 4 t) := by dsimp only [dats]
theorem after0_14 (c : Dev nD) (t : Fin cfg0.N) : (dats m 0 c).after 14 t = sd16 (iblk m c 5 t) := by dsimp only [dats]
theorem after0_15 (c : Dev nD) (t : Fin cfg0.N) : (dats m 0 c).after 15 t = sd16 (iblk m c 6 t) := by dsimp only [dats]
theorem after0_16 (c : Dev nD) (t : Fin cfg0.N) : (dats m 0 c).after 16 t = sd32 (iblk m c 7 t) := by dsimp only [dats]
theorem after0_17 (c : Dev nD) (t : Fin cfg0.N) : (dats m 0 c).after 17 t = sdw (iblk m c 8 t) := by dsimp only [dats]
theorem after0_18 (c : Dev nD) (t : Fin cfg0.N) : (dats m 0 c).after 18 t = sdw (iblk m c 9 t) := by dsimp only [dats]
theorem after0_19 (c : Dev nD) (t : Fin cfg0.N) : (dats m 0 c).after 19 t = sd64 (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem found12 (c : Dev nD) : ∀ (n : ℕ) (t : Fin cfg0.N) (_ : t.val = n) (_ : ¬ t.val % 7 = 0) (d), (dats m 0 c).before 12 t d = dtAt m c t.val
  | 0, t, ht, h, d => absurd (by rw [ht]) h
  | n + 1, t, ht, h, d => by
    have hN : n < cfg0.N := by have := t.isLt; omega
    have hf : (cfg0.win 12).fetch t = false := (cfg0.win 12).fetch_out rfl _
    have e1 : (⟨t.val - 1, Nat.lt_of_le_of_lt (Nat.sub_le _ _) t.isLt⟩ : Fin cfg0.N) = ⟨n, hN⟩ := Fin.ext (by show t.val - 1 = n; omega)
    have hfl : ¬ (cfg0.win 12).flush ⟨n, hN⟩ = true := fun hb => by
      have := (flush0_12 ⟨n, hN⟩).mp hb
      simp only at this
      omega
    have e2 : dtAt m c n = dtAt m c t.val := by
      unfold dtAt rowsAt
      rw [show n = t.val - 1 by omega, first_pred t h]
    rw [(dats m 0 c).before_of_pos 12 t (by omega) hf d, e1, if_neg hfl]
    unfold Pipeline.Dat.left
    have hi : cfg0.idle 12 (cfg0.grid.coords ⟨n, hN⟩) = decide (¬ n % 7 = 0) := idle12 ⟨n, hN⟩
    rw [hi]
    by_cases h7 : n % 7 = 0
    · rw [show decide (¬ n % 7 = 0) = false by simp [h7]]
      show (dats m 0 c).kept 12 ⟨n, hN⟩ d = _
      unfold Pipeline.Dat.kept
      rw [Pipeline.fill_of_clip_none (cfg := cfg0) 12 _ (fun _ => rfl) d ((dats m 0 c).after 12 ⟨n, hN⟩), Pipeline.Window.fill_cut, after0_12]
      exact e2
    · rw [show decide (¬ n % 7 = 0) = true by simp [h7]]
      show (dats m 0 c).before 12 ⟨n, hN⟩ d = _
      rw [found12 c n ⟨n, hN⟩ rfl h7 d]
      exact e2

theorem before0_12 (c : Dev nD) (t : Fin cfg0.N) (h : ¬ t.val % 7 = 0) (d) : (dats m 0 c).before 12 t d = dtAt m c t.val :=
  found12 m c t.val t rfl h d

set_option maxHeartbeats 1600000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10]
  rw [show (dats m 0 c).Φ t.succ = carried m c (t.val + 1) from rfl, show (dats m 0 c).Φ t.castSucc = carried m c t.val from rfl,
    show (dats m 0 c).owesAt () t.succ = (dats m 0 c).owesAt () t.castSucc from rfl, after0_0, after0_1, after0_2, after0_3, after0_4, after0_5, after0_6, after0_7, after0_8, after0_9, after0_10, after0_11, after0_12, after0_13, after0_14, after0_15, after0_16, after0_17, after0_18, after0_19]
  rw [show (win0 11).flush t = true from flush0_11 t]
  rw [show idle0 11 (grid0.coords t) = false from live t]
  by_cases h0 : t.val % 7 = 0
  · rw [show idle0 12 (grid0.coords t) = false from (idle12 t).trans (by simp [h0])]
    unfold carried
    rw [if_pos h0, if_neg (show ¬ (t.val + 1) % 7 = 0 by omega)]
    unfold ΦA
    rw [scopedRest0_eq]
    iintro ⟨⟨⟨%g, S⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (body_A c (grid0.coords t) _ _ _ _ _ _ _ _ _ _ _ _ _ _ _ _ _ _ _ _ _ _ _ _ _ _ _ _ _ _ _ _ _ _ _ _ _ _ _ _ _ _ (iblk m c 0 t) (iblk m c 1 t) (X0_2 m c t) (iblk m c 3 t) (iblk m c 4 t) (iblk m c 5 t) (iblk m c 6 t) (iblk m c 7 t) (iblk m c 8 t) (iblk m c 9 t) (iblk m c 10 t) ((cond1_iff t).mpr h0) (fun h => (cond2_iff t).mp h h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [S]
    · iexists _
      rw [owns_whole]
      iexact S
    have e1 : rowsAt m c t.val = xnOf (iblk m c 0 t) (iblk m c 1 t) := by unfold rowsAt; rw [first_self t h0]
    have e2 : rowsAt m c (t.val + 1) = xnOf (iblk m c 0 t) (iblk m c 1 t) := by
      unfold rowsAt
      rw [first_succ t.val (by omega), first_self t h0]
    have e3 : prAt m c t = prOf (xnOf (iblk m c 0 t) (iblk m c 1 t)) (X0_2 m c t) := by unfold prAt; rw [e1]
    have e4 : dtAt m c t.val = dtOf (xnOf (iblk m c 0 t) (iblk m c 1 t)) (iblk m c 3 t) := by unfold dtAt; rw [e1, first_self t h0]
    rw [e2, e3, e4]
    iintro ⟨H0, H1, H2, H3, H4, H5, H6, H7, H8, H9, H10, H11, H12, H13, H14, H15, H16, H17, H18, H19, S⟩
    isplitl [S HR]
    · isplitl [S]
      · iexact S
      · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [show idle0 12 (grid0.coords t) = true from (idle12 t).trans (by simp [h0])]
    simp only [before0_12 m c t h0]
    have e3 : prAt m c t = prOf (rowsAt m c t.val) (X0_2 m c t) := rfl
    rw [e3]
    rw [show carried m c t.val = iprop(owns (c : Thread nD τ) (Memref.whole cc0_scratch0) fullShare (rowsAt m c t.val) ∗ ∃ r, prngReg c r) from if_neg h0]
    iintro ⟨⟨S, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (body_B c (grid0.coords t) _ _ _ _ _ _ _ _ _ _ _ _ _ _ _ _ _ _ _ _ _ _ _ _ _ _ _ _ _ _ _ _ _ _ _ _ _ _ _ _ _ _ (iblk m c 0 t) (iblk m c 1 t) (X0_2 m c t) (iblk m c 3 t) (iblk m c 4 t) (iblk m c 5 t) (iblk m c 6 t) (iblk m c 7 t) (iblk m c 8 t) (iblk m c 9 t) (iblk m c 10 t) (dtAt m c t.val) (rowsAt m c t.val) (fun h => h0 ((cond1_iff t).mp h)) ((cond2_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [S]; · iexact S
    iintro ⟨H0, H1, H2, H3, H4, H5, H6, H7, H8, H9, H10, H11, H12, H13, H14, H15, H16, H17, H18, H19, S⟩
    isplitl [S HR]
    · by_cases h6 : (t.val + 1) % 7 = 0
      · rw [show carried m c (t.val + 1) = ΦA spec0 c from if_pos h6]
        unfold ΦA
        rw [scopedRest0_eq]
        isplitl [S]
        · iapply (back_owns c cc0_scratch0 (rowsAt m c t.val)); iexact S
        · iexact HR
      · rw [show carried m c (t.val + 1) = iprop(owns (c : Thread nD τ) (Memref.whole cc0_scratch0) fullShare (rowsAt m c (t.val + 1)) ∗ ∃ r, prngReg c r) from if_neg h6,
          show rowsAt m c (t.val + 1) = rowsAt m c t.val by unfold rowsAt; rw [first_succ t.val h6]]
        isplitl [S]
        · iexact S
        · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · cases (win0 12).flush t
      · iexists d12
        iexact H12
      · iexact H12
    isplitl [H13]; · iexact H13
    isplitl [H14]; · iexact H14
    isplitl [H15]; · iexact H15
    isplitl [H16]; · iexact H16
    isplitl [H17]; · iexact H17
    isplitl [H18]; · iexact H18
    iexact H19

set_option backward.isDefEq.respectTransparency.types false in
/-- The launch's run: every array ends at what the proof data says, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl)
    (hin := fun c => Entails.of_eq (carried_whole m c 0 rfl).symm)
    (hout := fun c => Entails.of_eq (carried_whole m c grid0.N (by rw [N_0])))

end Cert.ProjectionIdeal.Inp

end
-- ==== Proof.ProjFrames.lean ====
module

public import proofs.«01_k».proof.Defs
public import proofs.«01_k».proof.Proof.ProjRun
public import proofs.«01_k».proof.Proof.Gen.Projection
public import proofs.«01_k».proof.Proof.Gen.ProjectionReferenceIdeal.Run
public import Idealize.ShloMosaic.Lib.Quiescent

@[expose] public section

/-! The frames of the input projection and of its reference, from the one run of `ProjRun.lean` over any float values. -/

set_option maxRecDepth 16384

noncomputable section

namespace Cert.Inp

open Idealize.ShloMosaic Idealize.ShloMosaic.TcCoe Idealize.SL.Sem

/-! The two printings of the kernel have one text: one body, one body table. -/

set_option maxHeartbeats 10000000 in
theorem same_body : @Cert.Projection.cc0_inproj Bits _ _ = @Cert.ProjectionIdeal.cc0_inproj Bits _ _ := rfl

set_option maxHeartbeats 10000000 in
theorem same_main : Cert.Projection.main (F := Bits) = Cert.ProjectionIdeal.main (F := Bits) := rfl

set_option maxHeartbeats 10000000 in
theorem same_table : Cert.Projection.defs₀ (F := Bits) = Cert.ProjectionIdeal.defs₀ (F := Bits) := by
  unfold Cert.Projection.defs₀ Cert.ProjectionIdeal.defs₀
  refine congrArg Defs.onTc ?_
  funext a b
  rcases a with ⟨a, ha⟩
  obtain _ | a := a
  · rcases b with ⟨t, s⟩
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _) _) _) _) _) _) _) _) _) _) _) _) _) _) _) _) _) _) _) _) _) _) _
  · exact absurd ha (by omega)

set_option maxHeartbeats 10000000 in
theorem same_defs : Cert.Projection.defs (F := Bits) = Cert.ProjectionIdeal.defs (F := Bits) := by
  unfold Cert.Projection.defs Cert.ProjectionIdeal.defs
  exact congrArg (Pipeline.defs _) same_table

set_option maxHeartbeats 10000000 in
theorem frame_projection : Cert.quiescent_Projection := fun m ρ _ => by
  rw [same_defs, same_main]
  exact θ_run_with_sems (Cert.ProjectionIdeal.Gen.frame_of (F := Bits) m ρ (Cert.ProjectionIdeal.Inp.dats m) fun _ _ => rfl)
    (Cert.ProjectionIdeal.Inp.run_main (F := Bits) m ρ)

theorem frame_projection_ideal : Cert.quiescent_ProjectionIdeal := fun m ρ _ =>
  θ_run_with_sems (Cert.ProjectionIdeal.Gen.frame_of (F := Ideal) m ρ (Cert.ProjectionIdeal.Inp.dats m) fun _ _ => rfl)
    (Cert.ProjectionIdeal.Inp.run_main (F := Ideal) m ρ)

theorem frame_projection_reference : Cert.quiescent_ProjectionReferenceIdeal := fun m ρ _ =>
  (θ_run Cert.ProjectionReferenceIdeal.defs _ _).mono
    (fun r h => ⟨fun c => (h c).2.2.2.2.2.2.2.2.2, sem_eq_zero_of_no_sems (by decide) r.2⟩)
    (Cert.ProjectionReferenceIdeal.Value.run m ρ)

end Cert.Inp

end
-- ==== Proof.ProjMath.lean ====
module

public import proofs.«01_k».proof.Proof.FfnMath

@[expose] public section

/-! The columns of the input projection in the order the later calls read them. -/

set_option maxRecDepth 16384

noncomputable section

namespace Cert.Inp

open Idealize.ShloMosaic

/-- The weight's column that a column of the new order takes, if it takes one. -/
def src (C : ℕ) : Option (Fin 14160) :=
  if h : C < 6144 then some ⟨C - 0 + 8016, by omega⟩ else
  if h : C < 7168 then some ⟨C - 6144 + 3920, by omega⟩ else
  if h : C < 8192 then some ⟨C - 7168 + 4944, by omega⟩ else
  if h : C < 9216 then some ⟨C - 8192 + 5968, by omega⟩ else
  if h : C < 10240 then some ⟨C - 9216 + 6992, by omega⟩ else
  if h : C < 11264 then some ⟨C - 10240 + 0, by omega⟩ else
  if h : C < 12800 then some ⟨C - 11264 + 1024, by omega⟩ else
  if h : C < 12864 then some ⟨C - 12800 + 3856, by omega⟩ else
  if h : C < 13056 then none else
  if h : C < 13824 then some ⟨C - 13056 + 2576, by omega⟩ else
  if h : C < 14336 then some ⟨C - 13824 + 3344, by omega⟩ else
  if h : C < 14352 then some ⟨C - 14336 + 2560, by omega⟩ else
  none

theorem src_0 (C : ℕ) (g : 0 ≤ C) (h : C < 6144) : src C = some ⟨C - 0 + 8016, by omega⟩ := by
  unfold src
  rw [dif_pos h]

theorem src_1 (C : ℕ) (g : 6144 ≤ C) (h : C < 7168) : src C = some ⟨C - 6144 + 3920, by omega⟩ := by
  unfold src
  rw [dif_neg (show ¬ C < 6144 by omega), dif_pos h]

theorem src_2 (C : ℕ) (g : 7168 ≤ C) (h : C < 8192) : src C = some ⟨C - 7168 + 4944, by omega⟩ := by
  unfold src
  rw [dif_neg (show ¬ C < 6144 by omega), dif_neg (show ¬ C < 7168 by omega), dif_pos h]

theorem src_3 (C : ℕ) (g : 8192 ≤ C) (h : C < 9216) : src C = some ⟨C - 8192 + 5968, by omega⟩ := by
  unfold src
  rw [dif_neg (show ¬ C < 6144 by omega), dif_neg (show ¬ C < 7168 by omega), dif_neg (show ¬ C < 8192 by omega), dif_pos h]

theorem src_4 (C : ℕ) (g : 9216 ≤ C) (h : C < 10240) : src C = some ⟨C - 9216 + 6992, by omega⟩ := by
  unfold src
  rw [dif_neg (show ¬ C < 6144 by omega), dif_neg (show ¬ C < 7168 by omega), dif_neg (show ¬ C < 8192 by omega), dif_neg (show ¬ C < 9216 by omega), dif_pos h]

theorem src_5 (C : ℕ) (g : 10240 ≤ C) (h : C < 11264) : src C = some ⟨C - 10240 + 0, by omega⟩ := by
  unfold src
  rw [dif_neg (show ¬ C < 6144 by omega), dif_neg (show ¬ C < 7168 by omega), dif_neg (show ¬ C < 8192 by omega), dif_neg (show ¬ C < 9216 by omega), dif_neg (show ¬ C < 10240 by omega), dif_pos h]

theorem src_6 (C : ℕ) (g : 11264 ≤ C) (h : C < 12800) : src C = some ⟨C - 11264 + 1024, by omega⟩ := by
  unfold src
  rw [dif_neg (show ¬ C < 6144 by omega), dif_neg (show ¬ C < 7168 by omega), dif_neg (show ¬ C < 8192 by omega), dif_neg (show ¬ C < 9216 by omega), dif_neg (show ¬ C < 10240 by omega), dif_neg (show ¬ C < 11264 by omega), dif_pos h]

theorem src_7 (C : ℕ) (g : 12800 ≤ C) (h : C < 12864) : src C = some ⟨C - 12800 + 3856, by omega⟩ := by
  unfold src
  rw [dif_neg (show ¬ C < 6144 by omega), dif_neg (show ¬ C < 7168 by omega), dif_neg (show ¬ C < 8192 by omega), dif_neg (show ¬ C < 9216 by omega), dif_neg (show ¬ C < 10240 by omega), dif_neg (show ¬ C < 11264 by omega), dif_neg (show ¬ C < 12800 by omega), dif_pos h]

theorem src_8 (C : ℕ) (g : 12864 ≤ C) (h : C < 13056) : src C = none := by
  unfold src
  rw [dif_neg (show ¬ C < 6144 by omega), dif_neg (show ¬ C < 7168 by omega), dif_neg (show ¬ C < 8192 by omega), dif_neg (show ¬ C < 9216 by omega), dif_neg (show ¬ C < 10240 by omega), dif_neg (show ¬ C < 11264 by omega), dif_neg (show ¬ C < 12800 by omega), dif_neg (show ¬ C < 12864 by omega), dif_pos h]

theorem src_9 (C : ℕ) (g : 13056 ≤ C) (h : C < 13824) : src C = some ⟨C - 13056 + 2576, by omega⟩ := by
  unfold src
  rw [dif_neg (show ¬ C < 6144 by omega), dif_neg (show ¬ C < 7168 by omega), dif_neg (show ¬ C < 8192 by omega), dif_neg (show ¬ C < 9216 by omega), dif_neg (show ¬ C < 10240 by omega), dif_neg (show ¬ C < 11264 by omega), dif_neg (show ¬ C < 12800 by omega), dif_neg (show ¬ C < 12864 by omega), dif_neg (show ¬ C < 13056 by omega), dif_pos h]

theorem src_10 (C : ℕ) (g : 13824 ≤ C) (h : C < 14336) : src C = some ⟨C - 13824 + 3344, by omega⟩ := by
  unfold src
  rw [dif_neg (show ¬ C < 6144 by omega), dif_neg (show ¬ C < 7168 by omega), dif_neg (show ¬ C < 8192 by omega), dif_neg (show ¬ C < 9216 by omega), dif_neg (show ¬ C < 10240 by omega), dif_neg (show ¬ C < 11264 by omega), dif_neg (show ¬ C < 12800 by omega), dif_neg (show ¬ C < 12864 by omega), dif_neg (show ¬ C < 13056 by omega), dif_neg (show ¬ C < 13824 by omega), dif_pos h]

theorem src_11 (C : ℕ) (g : 14336 ≤ C) (h : C < 14352) : src C = some ⟨C - 14336 + 2560, by omega⟩ := by
  unfold src
  rw [dif_neg (show ¬ C < 6144 by omega), dif_neg (show ¬ C < 7168 by omega), dif_neg (show ¬ C < 8192 by omega), dif_neg (show ¬ C < 9216 by omega), dif_neg (show ¬ C < 10240 by omega), dif_neg (show ¬ C < 11264 by omega), dif_neg (show ¬ C < 12800 by omega), dif_neg (show ¬ C < 12864 by omega), dif_neg (show ¬ C < 13056 by omega), dif_neg (show ¬ C < 13824 by omega), dif_neg (show ¬ C < 14336 by omega), dif_pos h]

theorem src_12 (C : ℕ) (g : 14352 ≤ C) (h : C < 14464) : src C = none := by
  unfold src
  rw [dif_neg (show ¬ C < 6144 by omega), dif_neg (show ¬ C < 7168 by omega), dif_neg (show ¬ C < 8192 by omega), dif_neg (show ¬ C < 9216 by omega), dif_neg (show ¬ C < 10240 by omega), dif_neg (show ¬ C < 11264 by omega), dif_neg (show ¬ C < 12800 by omega), dif_neg (show ¬ C < 12864 by omega), dif_neg (show ¬ C < 13056 by omega), dif_neg (show ¬ C < 13824 by omega), dif_neg (show ¬ C < 14336 by omega), dif_neg (show ¬ C < 14352 by omega)]

/-- A row by a matrix's columns in the new order: the products where there is a column, zero where there is none. -/
def placed (h : Fin 2048 → EReal) (w : Fin 2048 → Fin 14160 → EReal) (C : ℕ) : EReal :=
  (src C).elim 0 fun k => ∑ d, h d * w d k

theorem placed_eq (h : Fin 2048 → EReal) (w : Fin 2048 → Fin 14160 → EReal) (C : ℕ) :
    ∑ d, h d * (src C).elim 0 (w d) = placed h w C := by
  unfold placed
  cases src C with
  | none => exact Finset.sum_eq_zero fun d _ => mul_zero _
  | some k => rfl

end Cert.Inp

end
-- ==== Proof.ProjWhole.lean ====
module

public import proofs.«01_k».proof.Proof.ProjRun
public import proofs.«01_k».proof.Proof.ProjMath
public import Idealize.ShloMosaic.Lib.StableHlo.Run
public import Idealize.ShloMosaic.Lib.MatmulPlain
public import Idealize.ShloMosaic.Lib.ValueLayoutCasts
public import Idealize.ShloMosaic.Lib.ValueIdx
public import Idealize.ShloMosaic.Lib.ValueLayout
public import Idealize.ShloMosaic.Lib.KernelVsHost
public import Idealize.ShloMosaic.Lib.IdealHost

@[expose] public section

/-! What the input projection's launch stores at each grid point, entry by entry, as a function of its arguments. -/

set_option maxRecDepth 16384

noncomputable section

namespace Cert.ProjectionIdeal.Inp

open Idealize.ShloMosaic Idealize.ShloMosaic.TcCoe Idealize.ShloMosaic.ValueIdx Idealize.ShloMosaic.StableHlo
open Cert.ProjectionIdeal Cert.ProjectionIdeal.Gen Cert.Ffn Cert.Inp

/-! ## The weight with its columns in the new order -/

/-- The weight's columns in the new order. -/
def relaid (w : FVec Ideal S2048x14160 .bf16) : FVec Ideal S2048x14464 .bf16 :=
  concatenate S2048x14464 1 [⟨S2048x6144, (extractStridedSlice S2048x6144 ![0, 8016] w slices_S2048x14160_S2048x6144_0_8016 : FVec Ideal S2048x6144 .bf16)⟩,
    ⟨S2048x1024, (extractStridedSlice S2048x1024 ![0, 3920] w slices_S2048x14160_S2048x1024_0_3920 : FVec Ideal S2048x1024 .bf16)⟩,
    ⟨S2048x1024, (extractStridedSlice S2048x1024 ![0, 4944] w slices_S2048x14160_S2048x1024_0_4944 : FVec Ideal S2048x1024 .bf16)⟩,
    ⟨S2048x1024, (extractStridedSlice S2048x1024 ![0, 5968] w slices_S2048x14160_S2048x1024_0_5968 : FVec Ideal S2048x1024 .bf16)⟩,
    ⟨S2048x1024, (extractStridedSlice S2048x1024 ![0, 6992] w slices_S2048x14160_S2048x1024_0_6992 : FVec Ideal S2048x1024 .bf16)⟩,
    ⟨S2048x1024, (extractStridedSlice S2048x1024 ![0, 0] w slices_S2048x14160_S2048x1024_0_0 : FVec Ideal S2048x1024 .bf16)⟩,
    ⟨S2048x1536, (extractStridedSlice S2048x1536 ![0, 1024] w slices_S2048x14160_S2048x1536_0_1024 : FVec Ideal S2048x1536 .bf16)⟩,
    ⟨S2048x64, (extractStridedSlice S2048x64 ![0, 3856] w slices_S2048x14160_S2048x64_0_3856 : FVec Ideal S2048x64 .bf16)⟩,
    ⟨S2048x192, (broadcastInDim S2048x192 ![] bcast_S_S2048x192 (constant S_ .bf16 0x0000#16) : FVec Ideal S2048x192 .bf16)⟩,
    ⟨S2048x768, (extractStridedSlice S2048x768 ![0, 2576] w slices_S2048x14160_S2048x768_0_2576 : FVec Ideal S2048x768 .bf16)⟩,
    ⟨S2048x512, (extractStridedSlice S2048x512 ![0, 3344] w slices_S2048x14160_S2048x512_0_3344 : FVec Ideal S2048x512 .bf16)⟩,
    ⟨S2048x16, (extractStridedSlice S2048x16 ![0, 2560] w slices_S2048x14160_S2048x16_0_2560 : FVec Ideal S2048x16 .bf16)⟩,
    ⟨S2048x112, (broadcastInDim S2048x112 ![] bcast_S_S2048x112 (constant S_ .bf16 0x0000#16) : FVec Ideal S2048x112 .bf16)⟩]
    concatenates_S2048x6144_S2048x1024_S2048x1024_S2048x1024_S2048x1024_S2048x1024_S2048x1536_S2048x64_S2048x192_S2048x768_S2048x512_S2048x16_S2048x112_S2048x14464_d1

theorem zero_bf16 : Ideal.ofBits .bf16 0x0000#16 = 0 := by simp [Ideal.ofBits, Ideal.ieee]

set_option maxHeartbeats 4000000 in
theorem relaid_at (w : FVec Ideal S2048x14160 .bf16) (d : Fin 2048) (C : Fin 14464) :
    relaid w (ix2 d C) = (src C.val).elim 0 fun k => w (ix2 d k) := by
  have hC := C.isLt
  unfold relaid
  by_cases h0 : C.val < 6144
  · rw [src_0 _ (by omega) h0]
    refine (concatenate_apply_piece (1 : Fin S2048x14464.rank) _ _ (ix2 d C) 0 (by show 0 < 13; decide) S2048x6144 _ rfl rfl 0 rfl
      (ix2 d (⟨C.val - 0, by omega⟩ : Fin 6144)) (fun a ha => by
        match a, ha with
        | ⟨0, _⟩, _ => rfl
        | ⟨1, _⟩, ha => exact absurd rfl ha) (by show 0 + (C.val - 0) = C.val; omega)).trans ?_
    exact extractStridedSlice_apply _ _ _ _ (ix2 d (⟨C.val - 0 + 8016, by omega⟩ : Fin 14160)) fun k => by
      match k with
      | ⟨0, _⟩ => show d.val = 0 + d.val; omega
      | ⟨1, _⟩ => show C.val - 0 + 8016 = 8016 + (C.val - 0); omega
  by_cases h1 : C.val < 7168
  · rw [src_1 _ (by omega) h1]
    refine (concatenate_apply_piece (1 : Fin S2048x14464.rank) _ _ (ix2 d C) 1 (by show 1 < 13; decide) S2048x1024 _ rfl rfl 6144 rfl
      (ix2 d (⟨C.val - 6144, by omega⟩ : Fin 1024)) (fun a ha => by
        match a, ha with
        | ⟨0, _⟩, _ => rfl
        | ⟨1, _⟩, ha => exact absurd rfl ha) (by show 6144 + (C.val - 6144) = C.val; omega)).trans ?_
    exact extractStridedSlice_apply _ _ _ _ (ix2 d (⟨C.val - 6144 + 3920, by omega⟩ : Fin 14160)) fun k => by
      match k with
      | ⟨0, _⟩ => show d.val = 0 + d.val; omega
      | ⟨1, _⟩ => show C.val - 6144 + 3920 = 3920 + (C.val - 6144); omega
  by_cases h2 : C.val < 8192
  · rw [src_2 _ (by omega) h2]
    refine (concatenate_apply_piece (1 : Fin S2048x14464.rank) _ _ (ix2 d C) 2 (by show 2 < 13; decide) S2048x1024 _ rfl rfl 7168 rfl
      (ix2 d (⟨C.val - 7168, by omega⟩ : Fin 1024)) (fun a ha => by
        match a, ha with
        | ⟨0, _⟩, _ => rfl
        | ⟨1, _⟩, ha => exact absurd rfl ha) (by show 7168 + (C.val - 7168) = C.val; omega)).trans ?_
    exact extractStridedSlice_apply _ _ _ _ (ix2 d (⟨C.val - 7168 + 4944, by omega⟩ : Fin 14160)) fun k => by
      match k with
      | ⟨0, _⟩ => show d.val = 0 + d.val; omega
      | ⟨1, _⟩ => show C.val - 7168 + 4944 = 4944 + (C.val - 7168); omega
  by_cases h3 : C.val < 9216
  · rw [src_3 _ (by omega) h3]
    refine (concatenate_apply_piece (1 : Fin S2048x14464.rank) _ _ (ix2 d C) 3 (by show 3 < 13; decide) S2048x1024 _ rfl rfl 8192 rfl
      (ix2 d (⟨C.val - 8192, by omega⟩ : Fin 1024)) (fun a ha => by
        match a, ha with
        | ⟨0, _⟩, _ => rfl
        | ⟨1, _⟩, ha => exact absurd rfl ha) (by show 8192 + (C.val - 8192) = C.val; omega)).trans ?_
    exact extractStridedSlice_apply _ _ _ _ (ix2 d (⟨C.val - 8192 + 5968, by omega⟩ : Fin 14160)) fun k => by
      match k with
      | ⟨0, _⟩ => show d.val = 0 + d.val; omega
      | ⟨1, _⟩ => show C.val - 8192 + 5968 = 5968 + (C.val - 8192); omega
  by_cases h4 : C.val < 10240
  · rw [src_4 _ (by omega) h4]
    refine (concatenate_apply_piece (1 : Fin S2048x14464.rank) _ _ (ix2 d C) 4 (by show 4 < 13; decide) S2048x1024 _ rfl rfl 9216 rfl
      (ix2 d (⟨C.val - 9216, by omega⟩ : Fin 1024)) (fun a ha => by
        match a, ha with
        | ⟨0, _⟩, _ => rfl
        | ⟨1, _⟩, ha => exact absurd rfl ha) (by show 9216 + (C.val - 9216) = C.val; omega)).trans ?_
    exact extractStridedSlice_apply _ _ _ _ (ix2 d (⟨C.val - 9216 + 6992, by omega⟩ : Fin 14160)) fun k => by
      match k with
      | ⟨0, _⟩ => show d.val = 0 + d.val; omega
      | ⟨1, _⟩ => show C.val - 9216 + 6992 = 6992 + (C.val - 9216); omega
  by_cases h5 : C.val < 11264
  · rw [src_5 _ (by omega) h5]
    refine (concatenate_apply_piece (1 : Fin S2048x14464.rank) _ _ (ix2 d C) 5 (by show 5 < 13; decide) S2048x1024 _ rfl rfl 10240 rfl
      (ix2 d (⟨C.val - 10240, by omega⟩ : Fin 1024)) (fun a ha => by
        match a, ha with
        | ⟨0, _⟩, _ => rfl
        | ⟨1, _⟩, ha => exact absurd rfl ha) (by show 10240 + (C.val - 10240) = C.val; omega)).trans ?_
    exact extractStridedSlice_apply _ _ _ _ (ix2 d (⟨C.val - 10240 + 0, by omega⟩ : Fin 14160)) fun k => by
      match k with
      | ⟨0, _⟩ => show d.val = 0 + d.val; omega
      | ⟨1, _⟩ => show C.val - 10240 + 0 = 0 + (C.val - 10240); omega
  by_cases h6 : C.val < 12800
  · rw [src_6 _ (by omega) h6]
    refine (concatenate_apply_piece (1 : Fin S2048x14464.rank) _ _ (ix2 d C) 6 (by show 6 < 13; decide) S2048x1536 _ rfl rfl 11264 rfl
      (ix2 d (⟨C.val - 11264, by omega⟩ : Fin 1536)) (fun a ha => by
        match a, ha with
        | ⟨0, _⟩, _ => rfl
        | ⟨1, _⟩, ha => exact absurd rfl ha) (by show 11264 + (C.val - 11264) = C.val; omega)).trans ?_
    exact extractStridedSlice_apply _ _ _ _ (ix2 d (⟨C.val - 11264 + 1024, by omega⟩ : Fin 14160)) fun k => by
      match k with
      | ⟨0, _⟩ => show d.val = 0 + d.val; omega
      | ⟨1, _⟩ => show C.val - 11264 + 1024 = 1024 + (C.val - 11264); omega
  by_cases h7 : C.val < 12864
  · rw [src_7 _ (by omega) h7]
    refine (concatenate_apply_piece (1 : Fin S2048x14464.rank) _ _ (ix2 d C) 7 (by show 7 < 13; decide) S2048x64 _ rfl rfl 12800 rfl
      (ix2 d (⟨C.val - 12800, by omega⟩ : Fin 64)) (fun a ha => by
        match a, ha with
        | ⟨0, _⟩, _ => rfl
        | ⟨1, _⟩, ha => exact absurd rfl ha) (by show 12800 + (C.val - 12800) = C.val; omega)).trans ?_
    exact extractStridedSlice_apply _ _ _ _ (ix2 d (⟨C.val - 12800 + 3856, by omega⟩ : Fin 14160)) fun k => by
      match k with
      | ⟨0, _⟩ => show d.val = 0 + d.val; omega
      | ⟨1, _⟩ => show C.val - 12800 + 3856 = 3856 + (C.val - 12800); omega
  by_cases h8 : C.val < 13056
  · rw [src_8 _ (by omega) h8]
    refine (concatenate_apply_piece (1 : Fin S2048x14464.rank) _ _ (ix2 d C) 8 (by show 8 < 13; decide) S2048x192 _ rfl rfl 12864 rfl
      (ix2 d (⟨C.val - 12864, by omega⟩ : Fin 192)) (fun a ha => by
        match a, ha with
        | ⟨0, _⟩, _ => rfl
        | ⟨1, _⟩, ha => exact absurd rfl ha) (by show 12864 + (C.val - 12864) = C.val; omega)).trans ?_
    exact zero_bf16
  by_cases h9 : C.val < 13824
  · rw [src_9 _ (by omega) h9]
    refine (concatenate_apply_piece (1 : Fin S2048x14464.rank) _ _ (ix2 d C) 9 (by show 9 < 13; decide) S2048x768 _ rfl rfl 13056 rfl
      (ix2 d (⟨C.val - 13056, by omega⟩ : Fin 768)) (fun a ha => by
        match a, ha with
        | ⟨0, _⟩, _ => rfl
        | ⟨1, _⟩, ha => exact absurd rfl ha) (by show 13056 + (C.val - 13056) = C.val; omega)).trans ?_
    exact extractStridedSlice_apply _ _ _ _ (ix2 d (⟨C.val - 13056 + 2576, by omega⟩ : Fin 14160)) fun k => by
      match k with
      | ⟨0, _⟩ => show d.val = 0 + d.val; omega
      | ⟨1, _⟩ => show C.val - 13056 + 2576 = 2576 + (C.val - 13056); omega
  by_cases h10 : C.val < 14336
  · rw [src_10 _ (by omega) h10]
    refine (concatenate_apply_piece (1 : Fin S2048x14464.rank) _ _ (ix2 d C) 10 (by show 10 < 13; decide) S2048x512 _ rfl rfl 13824 rfl
      (ix2 d (⟨C.val - 13824, by omega⟩ : Fin 512)) (fun a ha => by
        match a, ha with
        | ⟨0, _⟩, _ => rfl
        | ⟨1, _⟩, ha => exact absurd rfl ha) (by show 13824 + (C.val - 13824) = C.val; omega)).trans ?_
    exact extractStridedSlice_apply _ _ _ _ (ix2 d (⟨C.val - 13824 + 3344, by omega⟩ : Fin 14160)) fun k => by
      match k with
      | ⟨0, _⟩ => show d.val = 0 + d.val; omega
      | ⟨1, _⟩ => show C.val - 13824 + 3344 = 3344 + (C.val - 13824); omega
  by_cases h11 : C.val < 14352
  · rw [src_11 _ (by omega) h11]
    refine (concatenate_apply_piece (1 : Fin S2048x14464.rank) _ _ (ix2 d C) 11 (by show 11 < 13; decide) S2048x16 _ rfl rfl 14336 rfl
      (ix2 d (⟨C.val - 14336, by omega⟩ : Fin 16)) (fun a ha => by
        match a, ha with
        | ⟨0, _⟩, _ => rfl
        | ⟨1, _⟩, ha => exact absurd rfl ha) (by show 14336 + (C.val - 14336) = C.val; omega)).trans ?_
    exact extractStridedSlice_apply _ _ _ _ (ix2 d (⟨C.val - 14336 + 2560, by omega⟩ : Fin 14160)) fun k => by
      match k with
      | ⟨0, _⟩ => show d.val = 0 + d.val; omega
      | ⟨1, _⟩ => show C.val - 14336 + 2560 = 2560 + (C.val - 14336); omega
  · rw [src_12 _ (by omega) hC]
    refine (concatenate_apply_piece (1 : Fin S2048x14464.rank) _ _ (ix2 d C) 12 (by show 12 < 13; decide) S2048x112 _ rfl rfl 14352 rfl
      (ix2 d (⟨C.val - 14352, by omega⟩ : Fin 112)) (fun a ha => by
        match a, ha with
        | ⟨0, _⟩, _ => rfl
        | ⟨1, _⟩, ha => exact absurd rfl ha) (by show 14352 + (C.val - 14352) = C.val; omega)).trans ?_
    exact zero_bf16

/-! ## What the region finds in its arrays -/

section Launch
variable (m : (ℓ : Loc nD τ sig) → Buf (Elt Ideal) ℓ) (c : Dev nD)

/-- The arguments: the rows, the norm's weights, the projection's weight, the seven weights of two layers. -/
abbrev A0 : FVec Ideal S4x4096x2048 .f32 := m ((c.tc : Thread nD τ).loc main_arg0)
abbrev A1 : FVec Ideal S2048 .f32 := m ((c.tc : Thread nD τ).loc main_arg1)
abbrev A2 : FVec Ideal S2048x14160 .f32 := m ((c.tc : Thread nD τ).loc main_arg2)
abbrev A3 : FVec Ideal S2x1024x2048 .f32 := m ((c.tc : Thread nD τ).loc main_arg3)
abbrev A4 : FVec Ideal S2x1024x2048 .f32 := m ((c.tc : Thread nD τ).loc main_arg4)
abbrev A5 : FVec Ideal S2x1024x2048 .f32 := m ((c.tc : Thread nD τ).loc main_arg5)
abbrev A6 : FVec Ideal S2x2048x2048 .f32 := m ((c.tc : Thread nD τ).loc main_arg6)
abbrev A7 : FVec Ideal S2x2048x5632 .f32 := m ((c.tc : Thread nD τ).loc main_arg7)
abbrev A8 : FVec Ideal S2x2048x5632 .f32 := m ((c.tc : Thread nD τ).loc main_arg8)
abbrev A9 : FVec Ideal S2x5632x2048 .f32 := m ((c.tc : Thread nD τ).loc main_arg9)

theorem V_x : (V m c main_v15 : FVec Ideal S16384x2048 .f32) = shapeCast S16384x2048 (A0 m c) shapeCasts_S4x4096x2048_S16384x2048 := by
  simp only [V, hostOps0, List.flatten_cons, List.flatten_nil, List.cons_append, List.nil_append, TRef.unary, TRef.binary,
    TRef.toBuf, TRef.ofBuf, cast_eq]
  after_results_simp <;> rfl

theorem V_n : (V m c main_v16 : FVec Ideal S1x2048 .f32) = shapeCast S1x2048 (A1 m c) shapeCasts_S2048_S1x2048 := by
  simp only [V, hostOps0, List.flatten_cons, List.flatten_nil, List.cons_append, List.nil_append, TRef.unary, TRef.binary,
    TRef.toBuf, TRef.ofBuf, cast_eq]
  after_results_simp <;> rfl

theorem V_w : (V m c main_v14 : FVec Ideal S2048x14464 .bf16) = relaid (truncf .bf16 (A2 m c) bitsLt_bf16_f32) := by
  simp only [V, hostOps0, List.flatten_cons, List.flatten_nil, List.cons_append, List.nil_append, TRef.unary, TRef.binary,
    TRef.toBuf, TRef.ofBuf, cast_eq]
  after_results_simp <;> rfl

theorem V_3 : (V m c main_arg3 : FVec Ideal S2x1024x2048 .f32) = A3 m c := by
  simp only [V, hostOps0, List.flatten_cons, List.flatten_nil, List.cons_append, List.nil_append, TRef.unary, TRef.binary,
    TRef.toBuf, TRef.ofBuf, cast_eq]
  after_results_simp <;> rfl

theorem V_4 : (V m c main_arg4 : FVec Ideal S2x1024x2048 .f32) = A4 m c := by
  simp only [V, hostOps0, List.flatten_cons, List.flatten_nil, List.cons_append, List.nil_append, TRef.unary, TRef.binary,
    TRef.toBuf, TRef.ofBuf, cast_eq]
  after_results_simp <;> rfl

theorem V_5 : (V m c main_arg5 : FVec Ideal S2x1024x2048 .f32) = A5 m c := by
  simp only [V, hostOps0, List.flatten_cons, List.flatten_nil, List.cons_append, List.nil_append, TRef.unary, TRef.binary,
    TRef.toBuf, TRef.ofBuf, cast_eq]
  after_results_simp <;> rfl

theorem V_6 : (V m c main_arg6 : FVec Ideal S2x2048x2048 .f32) = A6 m c := by
  simp only [V, hostOps0, List.flatten_cons, List.flatten_nil, List.cons_append, List.nil_append, TRef.unary, TRef.binary,
    TRef.toBuf, TRef.ofBuf, cast_eq]
  after_results_simp <;> rfl

theorem V_7 : (V m c main_arg7 : FVec Ideal S2x2048x5632 .f32) = A7 m c := by
  simp only [V, hostOps0, List.flatten_cons, List.flatten_nil, List.cons_append, List.nil_append, TRef.unary, TRef.binary,
    TRef.toBuf, TRef.ofBuf, cast_eq]
  after_results_simp <;> rfl

theorem V_8 : (V m c main_arg8 : FVec Ideal S2x2048x5632 .f32) = A8 m c := by
  simp only [V, hostOps0, List.flatten_cons, List.flatten_nil, List.cons_append, List.nil_append, TRef.unary, TRef.binary,
    TRef.toBuf, TRef.ofBuf, cast_eq]
  after_results_simp <;> rfl

theorem V_9 : (V m c main_arg9 : FVec Ideal S2x5632x2048 .f32) = A9 m c := by
  simp only [V, hostOps0, List.flatten_cons, List.flatten_nil, List.cons_append, List.nil_append, TRef.unary, TRef.binary,
    TRef.toBuf, TRef.ofBuf, cast_eq]
  after_results_simp <;> rfl

theorem w_at (d : Fin 2048) (C : Fin 14464) : (V m c main_v14 : FVec Ideal S2048x14464 .bf16) (ix2 d C)
    = (src C.val).elim 0 fun k => A2 m c (ix2 d k) := by
  rw [V_w, relaid_at]
  rfl

end Launch

/-! ## The stored blocks, an entry at a time -/

theorem row_lift (r : Fin 1024) (k : Fin 2048) :
    reduces_S1024x2048_S1024.lift (a := (1 : Fin S1024x2048.rank)) (ix1 r) k = ix2 r k := by
  funext a
  apply Fin.ext
  match a with
  | ⟨0, _⟩ => rfl
  | ⟨1, _⟩ => rfl

theorem xn_at (x : Vec Ideal S1024x2048 .f32) (n : Vec Ideal S1x2048 .f32) (r : Fin 1024) (d : Fin 2048) :
    xnOf x n (ix2 r d) = nrm (fun d => x (ix2 r d)) (fun d => n (ix2 (0 : Fin 1) d)) d := by
  unfold xnOf rms
  rw [shapeCast_self, shapeCast_self]
  show x (ix2 r d) * broadcastTo S1024x2048 _ broadcasts_S1024x1_S1024x2048 (ix2 r d)
    * broadcastTo S1024x2048 n broadcasts_S1x2048_S1024x2048 (ix2 r d) = _
  rw [broadcastTo_apply n broadcasts_S1x2048_S1024x2048 (ix2 r d) (ix2 (0 : Fin 1) d) fun a => by
      match a with
      | ⟨0, _⟩ => rfl
      | ⟨1, _⟩ => rfl,
    broadcastTo_apply _ broadcasts_S1024x1_S1024x2048 (ix2 r d) (ix2 r (0 : Fin 1)) fun a => by
      match a with
      | ⟨0, _⟩ => rfl
      | ⟨1, _⟩ => rfl]
  show x (ix2 r d) * Ideal.rsqrt (shapeCast S1024x1 _ shapeCasts_S1024_S1024x1 (ix2 r (0 : Fin 1)) * inv + eps) * _ = _
  rw [shapeCast_apply _ shapeCasts_S1024_S1024x1 (ix2 r (0 : Fin 1)) (ix1 r) (by
    rw [Shape.rowMajor_val_one, Shape.rowMajor_val_two]; show r.val = r.val * 1 + 0; omega)]
  unfold nrm
  congr 5
  refine (Ideal.multiReduction_add_single (a := (1 : Fin S1024x2048.rank)) _ _ _ _ _ _).trans ?_
  exact Finset.sum_congr rfl fun k _ => congrArg (fun y => x y * x y) (row_lift r k)

theorem product_at (s : FVec Ideal S1024x2048 .bf16) (w : FVec Ideal S2048x2048 .bf16) (r : Fin 1024) (e : Fin 2048) :
    matmul dot_S1024x2048_S2048x2048_S1024x2048_1_0_0_1_n_n none s w (constant S1024x2048 .f32 0x00000000#32) (ix2 r e)
      = ∑ d : Fin 2048, s (ix2 r d) * w (ix2 d e) := by
  refine (Ideal.matmul_plain_apply (M := 1024) (K := 2048) (N := 2048) none _ _ _ r e).trans ?_
  rw [constant_apply]
  show Ideal.ofBits .f32 0x00000000#32 + _ = _
  rw [Ideal.ofBits_zero_f32, zero_add]

theorem pr_at (s : FVec Ideal S1024x2048 .bf16) (w : Vec Ideal S2048x2048 .bf16) (r : Fin 1024) (e : Fin 2048) :
    prOf s w (ix2 r e) = ∑ d : Fin 2048, s (ix2 r d) * w (ix2 d e) := by
  unfold prOf
  rw [shapeCast_self]
  exact product_at s w r e

theorem dt_at (s : FVec Ideal S1024x2048 .bf16) (w : Vec Ideal S2048x128 .bf16) (r : Fin 1024) (e : Fin 128) :
    dtOf s w (ix2 r e) = ∑ d : Fin 2048, s (ix2 r d) * w (ix2 d e) := by
  unfold dtOf
  rw [shapeCast_self]
  refine (Ideal.matmul_plain_apply (M := 1024) (K := 2048) (N := 128) none _ _ _ r e).trans ?_
  rw [constant_apply]
  show Ideal.ofBits .f32 0x00000000#32 + _ = _
  rw [Ideal.ofBits_zero_f32, zero_add]

theorem sd16_at (v : Vec Ideal S1x16x2048 .f32) (r : Fin 16) (d : Fin 2048) : sd16 v (ix2 r d) = v (ix3 (0 : Fin 1) r d) := by
  show shapeCast S16x2048 v shapeCasts_S1x16x2048_S16x2048 (ix2 r d) = _
  refine shapeCast_apply (s := S1x16x2048) (t := S16x2048) _ _ _ (ix3 (0 : Fin 1) r d) ?_
  rw [Shape.rowMajor_val_three, Shape.rowMajor_val_two]
  show (0 * 16 + r.val) * 2048 + d.val = r.val * 2048 + d.val
  omega

theorem sd32_at (v : Vec Ideal S1x32x2048 .f32) (r : Fin 32) (d : Fin 2048) : sd32 v (ix2 r d) = v (ix3 (0 : Fin 1) r d) := by
  show shapeCast S32x2048 v shapeCasts_S1x32x2048_S32x2048 (ix2 r d) = _
  refine shapeCast_apply (s := S1x32x2048) (t := S32x2048) _ _ _ (ix3 (0 : Fin 1) r d) ?_
  rw [Shape.rowMajor_val_three, Shape.rowMajor_val_two]
  show (0 * 32 + r.val) * 2048 + d.val = r.val * 2048 + d.val
  omega

theorem sdw_at (v : Vec Ideal S1x32x5632 .f32) (r : Fin 32) (d : Fin 5632) : sdw v (ix2 r d) = v (ix3 (0 : Fin 1) r d) := by
  show shapeCast S32x5632 v shapeCasts_S1x32x5632_S32x5632 (ix2 r d) = _
  refine shapeCast_apply (s := S1x32x5632) (t := S32x5632) _ _ _ (ix3 (0 : Fin 1) r d) ?_
  rw [Shape.rowMajor_val_three, Shape.rowMajor_val_two]
  show (0 * 32 + r.val) * 5632 + d.val = r.val * 5632 + d.val
  omega

theorem sd64_at (v : Vec Ideal S1x64x2048 .f32) (r : Fin 64) (d : Fin 2048) : sd64 v (ix2 r d) = v (ix3 (0 : Fin 1) r d) := by
  show shapeCast S64x2048 v shapeCasts_S1x64x2048_S64x2048 (ix2 r d) = _
  refine shapeCast_apply (s := S1x64x2048) (t := S64x2048) _ _ _ (ix3 (0 : Fin 1) r d) ?_
  rw [Shape.rowMajor_val_three, Shape.rowMajor_val_two]
  show (0 * 64 + r.val) * 2048 + d.val = r.val * 2048 + d.val
  omega

/-! ## The blocks of a grid point -/

theorem t_lt (t : Fin cfg0.N) : t.val < 112 := lt_of_lt_of_eq t.isLt N_0

theorem idx0 : ∀ t : Fin cfg0.N, win0_0.index t (0 : Fin 2) = t.val / 7 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 7 :=
  (by decide +kernel : ∀ t : Fin grid0.N, _)
theorem idx3 : ∀ t : Fin cfg0.N, win0_3.index t (0 : Fin 2) = 0 ∧ win0_3.index t (1 : Fin 2) = 112 :=
  (by decide +kernel : ∀ t : Fin grid0.N, _)
theorem idx4 : ∀ t : Fin cfg0.N, win0_4.index t (0 : Fin 3) = 0 ∧ win0_4.index t (1 : Fin 3) = min t.val 63 ∧ win0_4.index t (2 : Fin 3) = 0 :=
  (by decide +kernel : ∀ t : Fin grid0.N, _)
theorem idx5 : ∀ t : Fin cfg0.N, win0_5.index t (0 : Fin 3) = 0 ∧ win0_5.index t (1 : Fin 3) = min t.val 63 ∧ win0_5.index t (2 : Fin 3) = 0 :=
  (by decide +kernel : ∀ t : Fin grid0.N, _)
theorem idx6 : ∀ t : Fin cfg0.N, win0_6.index t (0 : Fin 3) = 0 ∧ win0_6.index t (1 : Fin 3) = min t.val 63 ∧ win0_6.index t (2 : Fin 3) = 0 :=
  (by decide +kernel : ∀ t : Fin grid0.N, _)
theorem idx7 : ∀ t : Fin cfg0.N, win0_7.index t (0 : Fin 3) = 0 ∧ win0_7.index t (1 : Fin 3) = min t.val 63 ∧ win0_7.index t (2 : Fin 3) = 0 :=
  (by decide +kernel : ∀ t : Fin grid0.N, _)
theorem idx8 : ∀ t : Fin cfg0.N, win0_8.index t (0 : Fin 3) = 0 ∧ win0_8.index t (1 : Fin 3) = min t.val 63 ∧ win0_8.index t (2 : Fin 3) = 0 :=
  (by decide +kernel : ∀ t : Fin grid0.N, _)
theorem idx9 : ∀ t : Fin cfg0.N, win0_9.index t (0 : Fin 3) = 0 ∧ win0_9.index t (1 : Fin 3) = min t.val 63 ∧ win0_9.index t (2 : Fin 3) = 0 :=
  (by decide +kernel : ∀ t : Fin grid0.N, _)
theorem idx10 : ∀ t : Fin cfg0.N, win0_10.index t (0 : Fin 3) = 0 ∧ win0_10.index t (1 : Fin 3) = min t.val 87 ∧ win0_10.index t (2 : Fin 3) = 0 :=
  (by decide +kernel : ∀ t : Fin grid0.N, _)
theorem idx11 : ∀ t : Fin cfg0.N, win0_11.index t (0 : Fin 2) = t.val / 7 ∧ win0_11.index t (1 : Fin 2) = t.val % 7 :=
  (by decide +kernel : ∀ t : Fin grid0.N, _)
theorem idx12 : ∀ t : Fin cfg0.N, win0_12.index t (0 : Fin 2) = t.val / 7 ∧ win0_12.index t (1 : Fin 2) = 0 :=
  (by decide +kernel : ∀ t : Fin grid0.N, _)
theorem idx13 : ∀ t : Fin cfg0.N, win0_13.index t (0 : Fin 2) = min t.val 63 ∧ win0_13.index t (1 : Fin 2) = 0 :=
  (by decide +kernel : ∀ t : Fin grid0.N, _)
theorem idx14 : ∀ t : Fin cfg0.N, win0_14.index t (0 : Fin 2) = min t.val 63 ∧ win0_14.index t (1 : Fin 2) = 0 :=
  (by decide +kernel : ∀ t : Fin grid0.N, _)
theorem idx15 : ∀ t : Fin cfg0.N, win0_15.index t (0 : Fin 2) = min t.val 63 ∧ win0_15.index t (1 : Fin 2) = 0 :=
  (by decide +kernel : ∀ t : Fin grid0.N, _)
theorem idx16 : ∀ t : Fin cfg0.N, win0_16.index t (0 : Fin 2) = min t.val 63 ∧ win0_16.index t (1 : Fin 2) = 0 :=
  (by decide +kernel : ∀ t : Fin grid0.N, _)
theorem idx17 : ∀ t : Fin cfg0.N, win0_17.index t (0 : Fin 2) = min t.val 63 ∧ win0_17.index t (1 : Fin 2) = 0 :=
  (by decide +kernel : ∀ t : Fin grid0.N, _)
theorem idx18 : ∀ t : Fin cfg0.N, win0_18.index t (0 : Fin 2) = min t.val 63 ∧ win0_18.index t (1 : Fin 2) = 0 :=
  (by decide +kernel : ∀ t : Fin grid0.N, _)
theorem idx19 : ∀ t : Fin cfg0.N, win0_19.index t (0 : Fin 2) = min t.val 87 ∧ win0_19.index t (1 : Fin 2) = 0 :=
  (by decide +kernel : ∀ t : Fin grid0.N, _)

theorem first_row (t : Fin cfg0.N) : (first t.val).val / 7 = t.val / 7 := by
  have := t_lt t
  show t.val / 7 * 7 % 112 / 7 = t.val / 7
  omega

section Blocks
variable (m : (ℓ : Loc nD τ sig) → Buf (Elt Ideal) ℓ) (c : Dev nD) (t : Fin cfg0.N)

theorem iblk_x (r : Fin 1024) (b : Fin 4) (s : Fin 4096) (h : 1024 * (t.val / 7) + r.val = 4096 * b.val + s.val) (e : Fin 2048) :
    (iblk m c 0 t : Vec Ideal S1024x2048 .f32) (ix2 r e) = A0 m c (ix3 b s e) := by
  obtain ⟨e0, e1⟩ := idx0 t
  have ht := t_lt t
  refine Eq.trans (?_ : _ = (V m c main_v15 : FVec Ideal S16384x2048 .f32) (ix2 (⟨1024 * (t.val / 7) + r.val, by omega⟩ : Fin 16384) e)) ?_
  · show V m c main_v15 (((cfg0.win 0).blk t).view.emb (ix2 r e)) = V m c main_v15 _
    refine congrArg (V m c main_v15) (funext fun x => Fin.ext ?_)
    match x with
    | ⟨0, _⟩ => show win0_0.index t (0 : Fin 2) * 1024 + 1 * r.val = 1024 * (t.val / 7) + r.val; omega
    | ⟨1, _⟩ => show win0_0.index t (1 : Fin 2) * 2048 + 1 * e.val = e.val; omega
  · rw [V_x]
    refine shapeCast_apply (s := S4x4096x2048) (t := S16384x2048) _ _ _ (ix3 b s e) ?_
    rw [Shape.rowMajor_val_three, Shape.rowMajor_val_two]
    show (b.val * 4096 + s.val) * 2048 + e.val = (1024 * (t.val / 7) + r.val) * 2048 + e.val
    omega

theorem iblk_n (d : Fin 2048) : (iblk m c 1 t : Vec Ideal S1x2048 .f32) (ix2 (0 : Fin 1) d) = A1 m c (ix1 d) := by
  obtain ⟨e0, e1⟩ := idx1 t
  refine Eq.trans (?_ : _ = (V m c main_v16 : FVec Ideal S1x2048 .f32) (ix2 (0 : Fin 1) d)) ?_
  · show V m c main_v16 (((cfg0.win 1).blk t).view.emb (ix2 (0 : Fin 1) d)) = V m c main_v16 _
    refine congrArg (V m c main_v16) (funext fun x => Fin.ext ?_)
    match x with
    | ⟨0, _⟩ => show win0_1.index t (0 : Fin 2) * 1 + 1 * 0 = 0; omega
    | ⟨1, _⟩ => show win0_1.index t (1 : Fin 2) * 2048 + 1 * d.val = d.val; omega
  · rw [V_n]
    refine shapeCast_apply (s := S2048) (t := S1x2048) _ _ _ (ix1 d) ?_
    rw [Shape.rowMajor_val_one, Shape.rowMajor_val_two]
    show d.val = 0 * 2048 + d.val
    omega

theorem block_w (d e : Fin 2048) : (X0_2 m c t : Vec Ideal S2048x2048 .bf16) (ix2 d e)
    = (src (2048 * (t.val % 7) + e.val)).elim 0 fun k => A2 m c (ix2 d k) := by
  obtain ⟨e0, e1⟩ := idx2 t
  have he := e.isLt
  refine Eq.trans (?_ : _ = (V m c main_v14 : FVec Ideal S2048x14464 .bf16) (ix2 d (⟨2048 * (t.val % 7) + e.val, by omega⟩ : Fin 14464))) (w_at m c d _)
  unfold X0_2 Pipeline.Window.fill
  rw [dif_pos (moved0_2 t (ix2 d e))]
  show V m c main_v14 (((cfg0.win 2).blk t).view.emb _) = V m c main_v14 _
  refine congrArg (V m c main_v14) (funext fun x => Fin.ext ?_)
  match x with
  | ⟨0, _⟩ => show win0_2.index t (0 : Fin 2) * 2048 + 1 * d.val = d.val; omega
  | ⟨1, _⟩ => show win0_2.index t (1 : Fin 2) * 2048 + 1 * e.val = 2048 * (t.val % 7) + e.val; omega

theorem iblk_dt (d : Fin 2048) (e : Fin 128) : (iblk m c 3 t : Vec Ideal S2048x128 .bf16) (ix2 d e)
    = (src (14336 + e.val)).elim 0 fun k => A2 m c (ix2 d k) := by
  obtain ⟨e0, e1⟩ := idx3 t
  have he := e.isLt
  refine Eq.trans (?_ : _ = (V m c main_v14 : FVec Ideal S2048x14464 .bf16) (ix2 d (⟨14336 + e.val, by omega⟩ : Fin 14464))) (w_at m c d _)
  show V m c main_v14 (((cfg0.win 3).blk t).view.emb (ix2 d e)) = V m c main_v14 _
  refine congrArg (V m c main_v14) (funext fun x => Fin.ext ?_)
  match x with
  | ⟨0, _⟩ => show win0_3.index t (0 : Fin 2) * 2048 + 1 * d.val = d.val; omega
  | ⟨1, _⟩ => show win0_3.index t (1 : Fin 2) * 128 + 1 * e.val = 14336 + e.val; omega

theorem side_13 (r : Fin 16) (d : Fin 2048) : (dats m 0 c).after 13 t (ix2 r d)
    = A3 m c (ix3 (0 : Fin 2) (⟨16 * min t.val 63 + r.val, by omega⟩ : Fin 1024) d) := by
  obtain ⟨e0, e1, e2⟩ := idx4 t
  refine (congrFun (after0_13 m c t) (ix2 r d)).trans ((sd16_at _ r d).trans ?_)
  refine Eq.trans (?_ : _ = V m c main_arg3 (ix3 (0 : Fin 2) (⟨16 * min t.val 63 + r.val, by omega⟩ : Fin 1024) d)) (congrFun (V_3 m c) _)
  show V m c main_arg3 (((cfg0.win 4).blk t).view.emb (ix3 (0 : Fin 1) r d)) = V m c main_arg3 _
  refine congrArg (V m c main_arg3) (funext fun x => Fin.ext ?_)
  match x with
  | ⟨0, _⟩ => show win0_4.index t (0 : Fin 3) * 1 + 1 * 0 = 0; omega
  | ⟨1, _⟩ => show win0_4.index t (1 : Fin 3) * 16 + 1 * r.val = 16 * min t.val 63 + r.val; omega
  | ⟨2, _⟩ => show win0_4.index t (2 : Fin 3) * 2048 + 1 * d.val = d.val; omega

theorem emb_13 (r : Fin 16) (d : Fin 2048) : ((cfg0.win 13).blk t).view.emb (ix2 r d)
    = (ix2 (⟨16 * min t.val 63 + r.val, by omega⟩ : Fin 1024) d : S1024x2048.Idx) := by
  obtain ⟨e0, e1⟩ := idx13 t
  refine funext fun x => Fin.ext ?_
  match x with
  | ⟨0, _⟩ => show win0_13.index t (0 : Fin 2) * 16 + 1 * r.val = 16 * min t.val 63 + r.val; omega
  | ⟨1, _⟩ => show win0_13.index t (1 : Fin 2) * 2048 + 1 * d.val = d.val; omega

theorem side_14 (r : Fin 16) (d : Fin 2048) : (dats m 0 c).after 14 t (ix2 r d)
    = A4 m c (ix3 (0 : Fin 2) (⟨16 * min t.val 63 + r.val, by omega⟩ : Fin 1024) d) := by
  obtain ⟨e0, e1, e2⟩ := idx5 t
  refine (congrFun (after0_14 m c t) (ix2 r d)).trans ((sd16_at _ r d).trans ?_)
  refine Eq.trans (?_ : _ = V m c main_arg4 (ix3 (0 : Fin 2) (⟨16 * min t.val 63 + r.val, by omega⟩ : Fin 1024) d)) (congrFun (V_4 m c) _)
  show V m c main_arg4 (((cfg0.win 5).blk t).view.emb (ix3 (0 : Fin 1) r d)) = V m c main_arg4 _
  refine congrArg (V m c main_arg4) (funext fun x => Fin.ext ?_)
  match x with
  | ⟨0, _⟩ => show win0_5.index t (0 : Fin 3) * 1 + 1 * 0 = 0; omega
  | ⟨1, _⟩ => show win0_5.index t (1 : Fin 3) * 16 + 1 * r.val = 16 * min t.val 63 + r.val; omega
  | ⟨2, _⟩ => show win0_5.index t (2 : Fin 3) * 2048 + 1 * d.val = d.val; omega

theorem emb_14 (r : Fin 16) (d : Fin 2048) : ((cfg0.win 14).blk t).view.emb (ix2 r d)
    = (ix2 (⟨16 * min t.val 63 + r.val, by omega⟩ : Fin 1024) d : S1024x2048.Idx) := by
  obtain ⟨e0, e1⟩ := idx14 t
  refine funext fun x => Fin.ext ?_
  match x with
  | ⟨0, _⟩ => show win0_14.index t (0 : Fin 2) * 16 + 1 * r.val = 16 * min t.val 63 + r.val; omega
  | ⟨1, _⟩ => show win0_14.index t (1 : Fin 2) * 2048 + 1 * d.val = d.val; omega

theorem side_15 (r : Fin 16) (d : Fin 2048) : (dats m 0 c).after 15 t (ix2 r d)
    = A5 m c (ix3 (0 : Fin 2) (⟨16 * min t.val 63 + r.val, by omega⟩ : Fin 1024) d) := by
  obtain ⟨e0, e1, e2⟩ := idx6 t
  refine (congrFun (after0_15 m c t) (ix2 r d)).trans ((sd16_at _ r d).trans ?_)
  refine Eq.trans (?_ : _ = V m c main_arg5 (ix3 (0 : Fin 2) (⟨16 * min t.val 63 + r.val, by omega⟩ : Fin 1024) d)) (congrFun (V_5 m c) _)
  show V m c main_arg5 (((cfg0.win 6).blk t).view.emb (ix3 (0 : Fin 1) r d)) = V m c main_arg5 _
  refine congrArg (V m c main_arg5) (funext fun x => Fin.ext ?_)
  match x with
  | ⟨0, _⟩ => show win0_6.index t (0 : Fin 3) * 1 + 1 * 0 = 0; omega
  | ⟨1, _⟩ => show win0_6.index t (1 : Fin 3) * 16 + 1 * r.val = 16 * min t.val 63 + r.val; omega
  | ⟨2, _⟩ => show win0_6.index t (2 : Fin 3) * 2048 + 1 * d.val = d.val; omega

theorem emb_15 (r : Fin 16) (d : Fin 2048) : ((cfg0.win 15).blk t).view.emb (ix2 r d)
    = (ix2 (⟨16 * min t.val 63 + r.val, by omega⟩ : Fin 1024) d : S1024x2048.Idx) := by
  obtain ⟨e0, e1⟩ := idx15 t
  refine funext fun x => Fin.ext ?_
  match x with
  | ⟨0, _⟩ => show win0_15.index t (0 : Fin 2) * 16 + 1 * r.val = 16 * min t.val 63 + r.val; omega
  | ⟨1, _⟩ => show win0_15.index t (1 : Fin 2) * 2048 + 1 * d.val = d.val; omega

theorem side_16 (r : Fin 32) (d : Fin 2048) : (dats m 0 c).after 16 t (ix2 r d)
    = A6 m c (ix3 (0 : Fin 2) (⟨32 * min t.val 63 + r.val, by omega⟩ : Fin 2048) d) := by
  obtain ⟨e0, e1, e2⟩ := idx7 t
  refine (congrFun (after0_16 m c t) (ix2 r d)).trans ((sd32_at _ r d).trans ?_)
  refine Eq.trans (?_ : _ = V m c main_arg6 (ix3 (0 : Fin 2) (⟨32 * min t.val 63 + r.val, by omega⟩ : Fin 2048) d)) (congrFun (V_6 m c) _)
  show V m c main_arg6 (((cfg0.win 7).blk t).view.emb (ix3 (0 : Fin 1) r d)) = V m c main_arg6 _
  refine congrArg (V m c main_arg6) (funext fun x => Fin.ext ?_)
  match x with
  | ⟨0, _⟩ => show win0_7.index t (0 : Fin 3) * 1 + 1 * 0 = 0; omega
  | ⟨1, _⟩ => show win0_7.index t (1 : Fin 3) * 32 + 1 * r.val = 32 * min t.val 63 + r.val; omega
  | ⟨2, _⟩ => show win0_7.index t (2 : Fin 3) * 2048 + 1 * d.val = d.val; omega

theorem emb_16 (r : Fin 32) (d : Fin 2048) : ((cfg0.win 16).blk t).view.emb (ix2 r d)
    = (ix2 (⟨32 * min t.val 63 + r.val, by omega⟩ : Fin 2048) d : S2048x2048.Idx) := by
  obtain ⟨e0, e1⟩ := idx16 t
  refine funext fun x => Fin.ext ?_
  match x with
  | ⟨0, _⟩ => show win0_16.index t (0 : Fin 2) * 32 + 1 * r.val = 32 * min t.val 63 + r.val; omega
  | ⟨1, _⟩ => show win0_16.index t (1 : Fin 2) * 2048 + 1 * d.val = d.val; omega

theorem side_17 (r : Fin 32) (d : Fin 5632) : (dats m 0 c).after 17 t (ix2 r d)
    = A7 m c (ix3 (0 : Fin 2) (⟨32 * min t.val 63 + r.val, by omega⟩ : Fin 2048) d) := by
  obtain ⟨e0, e1, e2⟩ := idx8 t
  refine (congrFun (after0_17 m c t) (ix2 r d)).trans ((sdw_at _ r d).trans ?_)
  refine Eq.trans (?_ : _ = V m c main_arg7 (ix3 (0 : Fin 2) (⟨32 * min t.val 63 + r.val, by omega⟩ : Fin 2048) d)) (congrFun (V_7 m c) _)
  show V m c main_arg7 (((cfg0.win 8).blk t).view.emb (ix3 (0 : Fin 1) r d)) = V m c main_arg7 _
  refine congrArg (V m c main_arg7) (funext fun x => Fin.ext ?_)
  match x with
  | ⟨0, _⟩ => show win0_8.index t (0 : Fin 3) * 1 + 1 * 0 = 0; omega
  | ⟨1, _⟩ => show win0_8.index t (1 : Fin 3) * 32 + 1 * r.val = 32 * min t.val 63 + r.val; omega
  | ⟨2, _⟩ => show win0_8.index t (2 : Fin 3) * 5632 + 1 * d.val = d.val; omega

theorem emb_17 (r : Fin 32) (d : Fin 5632) : ((cfg0.win 17).blk t).view.emb (ix2 r d)
    = (ix2 (⟨32 * min t.val 63 + r.val, by omega⟩ : Fin 2048) d : S2048x5632.Idx) := by
  obtain ⟨e0, e1⟩ := idx17 t
  refine funext fun x => Fin.ext ?_
  match x with
  | ⟨0, _⟩ => show win0_17.index t (0 : Fin 2) * 32 + 1 * r.val = 32 * min t.val 63 + r.val; omega
  | ⟨1, _⟩ => show win0_17.index t (1 : Fin 2) * 5632 + 1 * d.val = d.val; omega

theorem side_18 (r : Fin 32) (d : Fin 5632) : (dats m 0 c).after 18 t (ix2 r d)
    = A8 m c (ix3 (0 : Fin 2) (⟨32 * min t.val 63 + r.val, by omega⟩ : Fin 2048) d) := by
  obtain ⟨e0, e1, e2⟩ := idx9 t
  refine (congrFun (after0_18 m c t) (ix2 r d)).trans ((sdw_at _ r d).trans ?_)
  refine Eq.trans (?_ : _ = V m c main_arg8 (ix3 (0 : Fin 2) (⟨32 * min t.val 63 + r.val, by omega⟩ : Fin 2048) d)) (congrFun (V_8 m c) _)
  show V m c main_arg8 (((cfg0.win 9).blk t).view.emb (ix3 (0 : Fin 1) r d)) = V m c main_arg8 _
  refine congrArg (V m c main_arg8) (funext fun x => Fin.ext ?_)
  match x with
  | ⟨0, _⟩ => show win0_9.index t (0 : Fin 3) * 1 + 1 * 0 = 0; omega
  | ⟨1, _⟩ => show win0_9.index t (1 : Fin 3) * 32 + 1 * r.val = 32 * min t.val 63 + r.val; omega
  | ⟨2, _⟩ => show win0_9.index t (2 : Fin 3) * 5632 + 1 * d.val = d.val; omega

theorem emb_18 (r : Fin 32) (d : Fin 5632) : ((cfg0.win 18).blk t).view.emb (ix2 r d)
    = (ix2 (⟨32 * min t.val 63 + r.val, by omega⟩ : Fin 2048) d : S2048x5632.Idx) := by
  obtain ⟨e0, e1⟩ := idx18 t
  refine funext fun x => Fin.ext ?_
  match x with
  | ⟨0, _⟩ => show win0_18.index t (0 : Fin 2) * 32 + 1 * r.val = 32 * min t.val 63 + r.val; omega
  | ⟨1, _⟩ => show win0_18.index t (1 : Fin 2) * 5632 + 1 * d.val = d.val; omega

theorem side_19 (r : Fin 64) (d : Fin 2048) : (dats m 0 c).after 19 t (ix2 r d)
    = A9 m c (ix3 (0 : Fin 2) (⟨64 * min t.val 87 + r.val, by omega⟩ : Fin 5632) d) := by
  obtain ⟨e0, e1, e2⟩ := idx10 t
  refine (congrFun (after0_19 m c t) (ix2 r d)).trans ((sd64_at _ r d).trans ?_)
  refine Eq.trans (?_ : _ = V m c main_arg9 (ix3 (0 : Fin 2) (⟨64 * min t.val 87 + r.val, by omega⟩ : Fin 5632) d)) (congrFun (V_9 m c) _)
  show V m c main_arg9 (((cfg0.win 10).blk t).view.emb (ix3 (0 : Fin 1) r d)) = V m c main_arg9 _
  refine congrArg (V m c main_arg9) (funext fun x => Fin.ext ?_)
  match x with
  | ⟨0, _⟩ => show win0_10.index t (0 : Fin 3) * 1 + 1 * 0 = 0; omega
  | ⟨1, _⟩ => show win0_10.index t (1 : Fin 3) * 64 + 1 * r.val = 64 * min t.val 87 + r.val; omega
  | ⟨2, _⟩ => show win0_10.index t (2 : Fin 3) * 2048 + 1 * d.val = d.val; omega

theorem emb_19 (r : Fin 64) (d : Fin 2048) : ((cfg0.win 19).blk t).view.emb (ix2 r d)
    = (ix2 (⟨64 * min t.val 87 + r.val, by omega⟩ : Fin 5632) d : S5632x2048.Idx) := by
  obtain ⟨e0, e1⟩ := idx19 t
  refine funext fun x => Fin.ext ?_
  match x with
  | ⟨0, _⟩ => show win0_19.index t (0 : Fin 2) * 64 + 1 * r.val = 64 * min t.val 87 + r.val; omega
  | ⟨1, _⟩ => show win0_19.index t (1 : Fin 2) * 2048 + 1 * d.val = d.val; omega

theorem emb_11 (r : Fin 1024) (e : Fin 2048) : ((cfg0.win 11).blk t).view.emb (ix2 r e)
    = (ix2 (⟨1024 * (t.val / 7) + r.val, by have := t_lt t; omega⟩ : Fin 16384) (⟨2048 * (t.val % 7) + e.val, by omega⟩ : Fin 14336) : S16384x14336.Idx) := by
  obtain ⟨e0, e1⟩ := idx11 t
  refine funext fun x => Fin.ext ?_
  match x with
  | ⟨0, _⟩ => show win0_11.index t (0 : Fin 2) * 1024 + 1 * r.val = 1024 * (t.val / 7) + r.val; omega
  | ⟨1, _⟩ => show win0_11.index t (1 : Fin 2) * 2048 + 1 * e.val = 2048 * (t.val % 7) + e.val; omega

theorem emb_12 (r : Fin 1024) (e : Fin 128) : ((cfg0.win 12).blk t).view.emb (ix2 r e)
    = (ix2 (⟨1024 * (t.val / 7) + r.val, by have := t_lt t; omega⟩ : Fin 16384) e : S16384x128.Idx) := by
  obtain ⟨e0, e1⟩ := idx12 t
  refine funext fun x => Fin.ext ?_
  match x with
  | ⟨0, _⟩ => show win0_12.index t (0 : Fin 2) * 1024 + 1 * r.val = 1024 * (t.val / 7) + r.val; omega
  | ⟨1, _⟩ => show win0_12.index t (1 : Fin 2) * 128 + 1 * e.val = e.val; omega

variable (r : Fin 1024) (b : Fin 4) (s : Fin 4096) (h : 1024 * (t.val / 7) + r.val = 4096 * b.val + s.val)

include h

theorem rows_at (d : Fin 2048) : rowsAt m c t.val (ix2 r d) = nrm (fun d => A0 m c (ix3 b s d)) (fun d => A1 m c (ix1 d)) d := by
  unfold rowsAt
  refine (xn_at _ _ r d).trans ?_
  refine congrArg₂ (fun p q => nrm p q d) (funext fun e => ?_) (funext fun e => ?_)
  · exact iblk_x m c (first t.val) r b s (by rw [first_row]; exact h) e
  · exact iblk_n m c (first t.val) e

theorem point_11 (e : Fin 2048) : (dats m 0 c).after 11 t (ix2 r e)
    = placed (nrm (fun d => A0 m c (ix3 b s d)) (fun d => A1 m c (ix1 d))) (fun d k => A2 m c (ix2 d k)) (2048 * (t.val % 7) + e.val) := by
  refine (congrFun (after0_11 m c t) (ix2 r e)).trans ?_
  unfold prAt
  refine (pr_at _ _ r e).trans (Eq.trans (Finset.sum_congr rfl fun d _ => ?_) (placed_eq _ _ _))
  exact congrArg₂ (fun p q : EReal => p * q) (rows_at m c t r b s h d) (block_w m c t d e)

theorem point_12 (e : Fin 128) : (dats m 0 c).after 12 t (ix2 r e)
    = placed (nrm (fun d => A0 m c (ix3 b s d)) (fun d => A1 m c (ix1 d))) (fun d k => A2 m c (ix2 d k)) (14336 + e.val) := by
  refine (congrFun (after0_12 m c t) (ix2 r e)).trans ?_
  unfold dtAt
  refine (dt_at _ _ r e).trans (Eq.trans (Finset.sum_congr rfl fun d _ => ?_) (placed_eq _ _ _))
  exact congrArg₂ (fun p q : EReal => p * q) (rows_at m c t r b s h d) (iblk_dt m c (first t.val) d e)

end Blocks

end Cert.ProjectionIdeal.Inp

end
-- ==== Proof.ProjRef.lean ====
module

public import proofs.«01_k».proof.Proof.Gen.ProjectionReferenceIdeal.Run
public import proofs.«01_k».proof.Proof.ProjMath
public import Idealize.ShloMosaic.Lib.ValueIdx
public import Idealize.ShloMosaic.Lib.ValueLayout
public import Idealize.ShloMosaic.Lib.KernelVsHost
public import Idealize.ShloMosaic.Lib.IdealHost

@[expose] public section

/-! The input projection's reference arrays, an element at a time. -/

set_option maxRecDepth 16384

noncomputable section

namespace Cert.ProjectionReferenceIdeal.Inp

open Idealize.ShloMosaic Idealize.ShloMosaic.TcCoe Idealize.ShloMosaic.ValueIdx
open Cert.ProjectionReferenceIdeal Cert.ProjectionReferenceIdeal.Gen Cert.Ffn Cert.Inp

section Stages
variable (x : FVec Ideal S4x4096x2048 .f32) (n : FVec Ideal S2048 .f32)

/-- Each row's sum of squares. -/
def squares : FVec Ideal S4x4096 .f32 :=
  Host.reduceAdd (mulf x x) (constant S_ .f32 0x00000000#32) reducesTo_S4x4096x2048_S4x4096_d2 h_S_

/-- The inverse of each row's root mean square. -/
def scale : FVec Ideal S4x4096x1 .f32 :=
  Host.rsqrt (addf (Host.divf (broadcastInDim S4x4096x1 ![0, 1] bcast_S4x4096_S4x4096x1_0_1 (squares x))
    (broadcastInDim S4x4096x1 ![] bcast_S_S4x4096x1 (constant S_ .f32 0x45000000#32)))
    (broadcastInDim S4x4096x1 ![] bcast_S_S4x4096x1 (constant S_ .f32 0x358637BD#32)))

/-- The normalised rows. -/
def normed : FVec Ideal S4x4096x2048 .f32 :=
  mulf (mulf x (broadcastInDim S4x4096x2048 ![0, 1, 2] bcast_S4x4096x1_S4x4096x2048_0_1_2 (scale x)))
    (broadcastInDim S4x4096x2048 ![0, 1, 2] bcast_S1x1x2048_S4x4096x2048_0_1_2 (broadcastInDim S1x1x2048 ![2] bcast_S2048_S1x1x2048_2 n))

/-- The normalised rows by a weight matrix. -/
def proj (h : FVec Ideal S4x4096x2048 .f32) (w : FVec Ideal S2048x14160 .f32) : FVec Ideal S4x4096x14160 .f32 :=
  Host.dotGeneral (φ₁ := .f32) dot_S4x4096x2048_S2048x14160_S4x4096x14160_2_0_01_1_n_n none h w

end Stages

/-- The projection's columns in the new order. -/
def cat (p : FVec Ideal S4x4096x14160 .f32) : FVec Ideal S4x4096x14336 .f32 :=
  concatenate S4x4096x14336 2 [⟨S4x4096x6144, ((extractStridedSlice S4x4096x6144 ![0, 0, 8016] p slices_S4x4096x14160_S4x4096x6144_0_0_8016) : FVec Ideal S4x4096x6144 .f32)⟩,
    ⟨S4x4096x1024, ((extractStridedSlice S4x4096x1024 ![0, 0, 3920] p slices_S4x4096x14160_S4x4096x1024_0_0_3920) : FVec Ideal S4x4096x1024 .f32)⟩,
    ⟨S4x4096x1024, ((extractStridedSlice S4x4096x1024 ![0, 0, 4944] p slices_S4x4096x14160_S4x4096x1024_0_0_4944) : FVec Ideal S4x4096x1024 .f32)⟩,
    ⟨S4x4096x1024, ((extractStridedSlice S4x4096x1024 ![0, 0, 5968] p slices_S4x4096x14160_S4x4096x1024_0_0_5968) : FVec Ideal S4x4096x1024 .f32)⟩,
    ⟨S4x4096x1024, ((extractStridedSlice S4x4096x1024 ![0, 0, 6992] p slices_S4x4096x14160_S4x4096x1024_0_0_6992) : FVec Ideal S4x4096x1024 .f32)⟩,
    ⟨S4x4096x1024, ((extractStridedSlice S4x4096x1024 ![0, 0, 0] p slices_S4x4096x14160_S4x4096x1024_0_0_0) : FVec Ideal S4x4096x1024 .f32)⟩,
    ⟨S4x4096x1536, ((extractStridedSlice S4x4096x1536 ![0, 0, 1024] p slices_S4x4096x14160_S4x4096x1536_0_0_1024) : FVec Ideal S4x4096x1536 .f32)⟩,
    ⟨S4x4096x64, ((extractStridedSlice S4x4096x64 ![0, 0, 512] (extractStridedSlice S4x4096x576 ![0, 0, 3344] p slices_S4x4096x14160_S4x4096x576_0_0_3344) slices_S4x4096x576_S4x4096x64_0_0_512) : FVec Ideal S4x4096x64 .f32)⟩,
    ⟨S4x4096x192, ((broadcastInDim S4x4096x192 ![] bcast_S_S4x4096x192 (constant S_ .f32 0x00000000#32)) : FVec Ideal S4x4096x192 .f32)⟩,
    ⟨S4x4096x768, ((extractStridedSlice S4x4096x768 ![0, 0, 2576] p slices_S4x4096x14160_S4x4096x768_0_0_2576) : FVec Ideal S4x4096x768 .f32)⟩,
    ⟨S4x4096x512, ((extractStridedSlice S4x4096x512 ![0, 0, 0] (extractStridedSlice S4x4096x576 ![0, 0, 3344] p slices_S4x4096x14160_S4x4096x576_0_0_3344) slices_S4x4096x576_S4x4096x512_0_0_0) : FVec Ideal S4x4096x512 .f32)⟩]
    concatenates_S4x4096x6144_S4x4096x1024_S4x4096x1024_S4x4096x1024_S4x4096x1024_S4x4096x1024_S4x4096x1536_S4x4096x64_S4x4096x192_S4x4096x768_S4x4096x512_S4x4096x14336_d2

/-- The narrow columns, zeros after them. -/
def few (p : FVec Ideal S4x4096x14160 .f32) : FVec Ideal S4x4096x128 .f32 :=
  concatenate S4x4096x128 2 [⟨S4x4096x16, (extractStridedSlice S4x4096x16 ![0, 0, 2560] p slices_S4x4096x14160_S4x4096x16_0_0_2560 : FVec Ideal S4x4096x16 .f32)⟩,
    ⟨S4x4096x112, (broadcastInDim S4x4096x112 ![] bcast_S_S4x4096x112 (constant S_ .f32 0x00000000#32) : FVec Ideal S4x4096x112 .f32)⟩]
    concatenates_S4x4096x16_S4x4096x112_S4x4096x128_d2

/-- The first result. -/
def wide (x : FVec Ideal S4x4096x2048 .f32) (n : FVec Ideal S2048 .f32) (w : FVec Ideal S2048x14160 .f32) : FVec Ideal S16384x14336 .bf16 :=
  truncf .bf16 (shapeCast S16384x14336 (cat (proj (normed x n) w)) shapeCasts_S4x4096x14336_S16384x14336) bitsLt_bf16_f32

/-- The second result. -/
def narrow (x : FVec Ideal S4x4096x2048 .f32) (n : FVec Ideal S2048 .f32) (w : FVec Ideal S2048x14160 .f32) : FVec Ideal S16384x128 .f32 :=
  shapeCast S16384x128 (few (proj (normed x n) w)) shapeCasts_S4x4096x128_S16384x128

/-- The first layer's 1024 by 2048 weight. -/
def sideA (w : FVec Ideal S2x1024x2048 .f32) : FVec Ideal S1024x2048 .bf16 :=
  truncf .bf16 (shapeCast S1024x2048 (extractStridedSlice S1x1024x2048 ![0, 0, 0] w slices_S2x1024x2048_S1x1024x2048_0_0_0) shapeCasts_S1x1024x2048_S1024x2048) bitsLt_bf16_f32

theorem sideA_at (w : FVec Ideal S2x1024x2048 .f32) (r : Fin 1024) (d : Fin 2048) : sideA w (ix2 r d) = w (ix3 (0 : Fin 2) r d) := by
  show shapeCast S1024x2048 (extractStridedSlice S1x1024x2048 ![0, 0, 0] w slices_S2x1024x2048_S1x1024x2048_0_0_0) shapeCasts_S1x1024x2048_S1024x2048 (ix2 r d) = _
  refine (shapeCast_apply (s := S1x1024x2048) (t := S1024x2048) _ _ _ (ix3 (0 : Fin 1) r d) ?_).trans ?_
  · rw [Shape.rowMajor_val_three, Shape.rowMajor_val_two]
    show (0 * 1024 + r.val) * 2048 + d.val = r.val * 2048 + d.val
    omega
  · exact extractStridedSlice_apply _ _ _ _ (ix3 (0 : Fin 2) r d) fun k => by
      match k with
      | ⟨0, _⟩ => rfl
      | ⟨1, _⟩ => show r.val = 0 + r.val; omega
      | ⟨2, _⟩ => show d.val = 0 + d.val; omega

/-- The first layer's 2048 by 2048 weight. -/
def sideB (w : FVec Ideal S2x2048x2048 .f32) : FVec Ideal S2048x2048 .bf16 :=
  truncf .bf16 (shapeCast S2048x2048 (extractStridedSlice S1x2048x2048 ![0, 0, 0] w slices_S2x2048x2048_S1x2048x2048_0_0_0) shapeCasts_S1x2048x2048_S2048x2048) bitsLt_bf16_f32

theorem sideB_at (w : FVec Ideal S2x2048x2048 .f32) (r : Fin 2048) (d : Fin 2048) : sideB w (ix2 r d) = w (ix3 (0 : Fin 2) r d) := by
  show shapeCast S2048x2048 (extractStridedSlice S1x2048x2048 ![0, 0, 0] w slices_S2x2048x2048_S1x2048x2048_0_0_0) shapeCasts_S1x2048x2048_S2048x2048 (ix2 r d) = _
  refine (shapeCast_apply (s := S1x2048x2048) (t := S2048x2048) _ _ _ (ix3 (0 : Fin 1) r d) ?_).trans ?_
  · rw [Shape.rowMajor_val_three, Shape.rowMajor_val_two]
    show (0 * 2048 + r.val) * 2048 + d.val = r.val * 2048 + d.val
    omega
  · exact extractStridedSlice_apply _ _ _ _ (ix3 (0 : Fin 2) r d) fun k => by
      match k with
      | ⟨0, _⟩ => rfl
      | ⟨1, _⟩ => show r.val = 0 + r.val; omega
      | ⟨2, _⟩ => show d.val = 0 + d.val; omega

/-- The first layer's 2048 by 5632 weight. -/
def sideC (w : FVec Ideal S2x2048x5632 .f32) : FVec Ideal S2048x5632 .bf16 :=
  truncf .bf16 (shapeCast S2048x5632 (extractStridedSlice S1x2048x5632 ![0, 0, 0] w slices_S2x2048x5632_S1x2048x5632_0_0_0) shapeCasts_S1x2048x5632_S2048x5632) bitsLt_bf16_f32

theorem sideC_at (w : FVec Ideal S2x2048x5632 .f32) (r : Fin 2048) (d : Fin 5632) : sideC w (ix2 r d) = w (ix3 (0 : Fin 2) r d) := by
  show shapeCast S2048x5632 (extractStridedSlice S1x2048x5632 ![0, 0, 0] w slices_S2x2048x5632_S1x2048x5632_0_0_0) shapeCasts_S1x2048x5632_S2048x5632 (ix2 r d) = _
  refine (shapeCast_apply (s := S1x2048x5632) (t := S2048x5632) _ _ _ (ix3 (0 : Fin 1) r d) ?_).trans ?_
  · rw [Shape.rowMajor_val_three, Shape.rowMajor_val_two]
    show (0 * 2048 + r.val) * 5632 + d.val = r.val * 5632 + d.val
    omega
  · exact extractStridedSlice_apply _ _ _ _ (ix3 (0 : Fin 2) r d) fun k => by
      match k with
      | ⟨0, _⟩ => rfl
      | ⟨1, _⟩ => show r.val = 0 + r.val; omega
      | ⟨2, _⟩ => show d.val = 0 + d.val; omega

/-- The first layer's 5632 by 2048 weight. -/
def sideD (w : FVec Ideal S2x5632x2048 .f32) : FVec Ideal S5632x2048 .bf16 :=
  truncf .bf16 (shapeCast S5632x2048 (extractStridedSlice S1x5632x2048 ![0, 0, 0] w slices_S2x5632x2048_S1x5632x2048_0_0_0) shapeCasts_S1x5632x2048_S5632x2048) bitsLt_bf16_f32

theorem sideD_at (w : FVec Ideal S2x5632x2048 .f32) (r : Fin 5632) (d : Fin 2048) : sideD w (ix2 r d) = w (ix3 (0 : Fin 2) r d) := by
  show shapeCast S5632x2048 (extractStridedSlice S1x5632x2048 ![0, 0, 0] w slices_S2x5632x2048_S1x5632x2048_0_0_0) shapeCasts_S1x5632x2048_S5632x2048 (ix2 r d) = _
  refine (shapeCast_apply (s := S1x5632x2048) (t := S5632x2048) _ _ _ (ix3 (0 : Fin 1) r d) ?_).trans ?_
  · rw [Shape.rowMajor_val_three, Shape.rowMajor_val_two]
    show (0 * 5632 + r.val) * 2048 + d.val = r.val * 2048 + d.val
    omega
  · exact extractStridedSlice_apply _ _ _ _ (ix3 (0 : Fin 2) r d) fun k => by
      match k with
      | ⟨0, _⟩ => rfl
      | ⟨1, _⟩ => show r.val = 0 + r.val; omega
      | ⟨2, _⟩ => show d.val = 0 + d.val; omega

theorem proj_rank : dot_S4x4096x2048_S2048x14160_S4x4096x14160_2_0_01_1_n_n.contr.rank = 1 := rfl
theorem proj_size : dot_S4x4096x2048_S2048x14160_S4x4096x14160_2_0_01_1_n_n.contr.size ⟨0, by rw [proj_rank]; decide⟩ = 2048 := rfl

theorem proj_at (h : FVec Ideal S4x4096x2048 .f32) (w : FVec Ideal S2048x14160 .f32) (b : Fin 4) (s : Fin 4096) (f : Fin 14160) :
    proj h w (ix3 b s f) = ∑ d : Fin 2048, h (ix3 b s d) * w (ix2 d f) := by
  unfold proj
  simp only [Host.dotGeneral]
  rw [Ideal.dotGeneral_apply, ← Equiv.sum_comp (contrEquiv1 _ 2048 proj_rank proj_size).symm]
  refine Finset.sum_congr rfl fun d _ => ?_
  have hd := contrEquiv1_symm_val _ 2048 proj_rank proj_size d
  refine congrArg₂ (· * ·) (congrArg h ?_) (congrArg w ?_)
  · funext x
    apply Fin.ext
    match x with
    | ⟨0, _⟩ => rfl
    | ⟨1, _⟩ => rfl
    | ⟨2, _⟩ => exact hd
  · funext x
    apply Fin.ext
    match x with
    | ⟨0, _⟩ => exact hd
    | ⟨1, _⟩ => rfl

set_option maxHeartbeats 4000000 in
theorem cat_at (p : FVec Ideal S4x4096x14160 .f32) (b : Fin 4) (s : Fin 4096) (C : Fin 14336) :
    cat p (ix3 b s C) = (src C.val).elim 0 fun k => p (ix3 b s k) := by
  have hC := C.isLt
  unfold cat
  by_cases h0 : C.val < 6144
  · rw [src_0 _ (by omega) h0]
    refine (concatenate_apply_piece (2 : Fin S4x4096x14336.rank) _ _ (ix3 b s C) 0 (by show 0 < 11; decide) S4x4096x6144 _ rfl rfl 0 rfl
      (ix3 b s (⟨C.val - 0, by omega⟩ : Fin 6144)) (fun a ha => by
        match a, ha with
        | ⟨0, _⟩, _ => rfl
        | ⟨1, _⟩, _ => rfl
        | ⟨2, _⟩, ha => exact absurd rfl ha) (by show 0 + (C.val - 0) = C.val; omega)).trans ?_
    exact extractStridedSlice_apply _ _ _ _ (ix3 b s (⟨C.val - 0 + 8016, by omega⟩ : Fin 14160)) fun k => by
      match k with
      | ⟨0, _⟩ => show b.val = 0 + b.val; omega
      | ⟨1, _⟩ => show s.val = 0 + s.val; omega
      | ⟨2, _⟩ => show C.val - 0 + 8016 = 8016 + (C.val - 0); omega
  by_cases h1 : C.val < 7168
  · rw [src_1 _ (by omega) h1]
    refine (concatenate_apply_piece (2 : Fin S4x4096x14336.rank) _ _ (ix3 b s C) 1 (by show 1 < 11; decide) S4x4096x1024 _ rfl rfl 6144 rfl
      (ix3 b s (⟨C.val - 6144, by omega⟩ : Fin 1024)) (fun a ha => by
        match a, ha with
        | ⟨0, _⟩, _ => rfl
        | ⟨1, _⟩, _ => rfl
        | ⟨2, _⟩, ha => exact absurd rfl ha) (by show 6144 + (C.val - 6144) = C.val; omega)).trans ?_
    exact extractStridedSlice_apply _ _ _ _ (ix3 b s (⟨C.val - 6144 + 3920, by omega⟩ : Fin 14160)) fun k => by
      match k with
      | ⟨0, _⟩ => show b.val = 0 + b.val; omega
      | ⟨1, _⟩ => show s.val = 0 + s.val; omega
      | ⟨2, _⟩ => show C.val - 6144 + 3920 = 3920 + (C.val - 6144); omega
  by_cases h2 : C.val < 8192
  · rw [src_2 _ (by omega) h2]
    refine (concatenate_apply_piece (2 : Fin S4x4096x14336.rank) _ _ (ix3 b s C) 2 (by show 2 < 11; decide) S4x4096x1024 _ rfl rfl 7168 rfl
      (ix3 b s (⟨C.val - 7168, by omega⟩ : Fin 1024)) (fun a ha => by
        match a, ha with
        | ⟨0, _⟩, _ => rfl
        | ⟨1, _⟩, _ => rfl
        | ⟨2, _⟩, ha => exact absurd rfl ha) (by show 7168 + (C.val - 7168) = C.val; omega)).trans ?_
    exact extractStridedSlice_apply _ _ _ _ (ix3 b s (⟨C.val - 7168 + 4944, by omega⟩ : Fin 14160)) fun k => by
      match k with
      | ⟨0, _⟩ => show b.val = 0 + b.val; omega
      | ⟨1, _⟩ => show s.val = 0 + s.val; omega
      | ⟨2, _⟩ => show C.val - 7168 + 4944 = 4944 + (C.val - 7168); omega
  by_cases h3 : C.val < 9216
  · rw [src_3 _ (by omega) h3]
    refine (concatenate_apply_piece (2 : Fin S4x4096x14336.rank) _ _ (ix3 b s C) 3 (by show 3 < 11; decide) S4x4096x1024 _ rfl rfl 8192 rfl
      (ix3 b s (⟨C.val - 8192, by omega⟩ : Fin 1024)) (fun a ha => by
        match a, ha with
        | ⟨0, _⟩, _ => rfl
        | ⟨1, _⟩, _ => rfl
        | ⟨2, _⟩, ha => exact absurd rfl ha) (by show 8192 + (C.val - 8192) = C.val; omega)).trans ?_
    exact extractStridedSlice_apply _ _ _ _ (ix3 b s (⟨C.val - 8192 + 5968, by omega⟩ : Fin 14160)) fun k => by
      match k with
      | ⟨0, _⟩ => show b.val = 0 + b.val; omega
      | ⟨1, _⟩ => show s.val = 0 + s.val; omega
      | ⟨2, _⟩ => show C.val - 8192 + 5968 = 5968 + (C.val - 8192); omega
  by_cases h4 : C.val < 10240
  · rw [src_4 _ (by omega) h4]
    refine (concatenate_apply_piece (2 : Fin S4x4096x14336.rank) _ _ (ix3 b s C) 4 (by show 4 < 11; decide) S4x4096x1024 _ rfl rfl 9216 rfl
      (ix3 b s (⟨C.val - 9216, by omega⟩ : Fin 1024)) (fun a ha => by
        match a, ha with
        | ⟨0, _⟩, _ => rfl
        | ⟨1, _⟩, _ => rfl
        | ⟨2, _⟩, ha => exact absurd rfl ha) (by show 9216 + (C.val - 9216) = C.val; omega)).trans ?_
    exact extractStridedSlice_apply _ _ _ _ (ix3 b s (⟨C.val - 9216 + 6992, by omega⟩ : Fin 14160)) fun k => by
      match k with
      | ⟨0, _⟩ => show b.val = 0 + b.val; omega
      | ⟨1, _⟩ => show s.val = 0 + s.val; omega
      | ⟨2, _⟩ => show C.val - 9216 + 6992 = 6992 + (C.val - 9216); omega
  by_cases h5 : C.val < 11264
  · rw [src_5 _ (by omega) h5]
    refine (concatenate_apply_piece (2 : Fin S4x4096x14336.rank) _ _ (ix3 b s C) 5 (by show 5 < 11; decide) S4x4096x1024 _ rfl rfl 10240 rfl
      (ix3 b s (⟨C.val - 10240, by omega⟩ : Fin 1024)) (fun a ha => by
        match a, ha with
        | ⟨0, _⟩, _ => rfl
        | ⟨1, _⟩, _ => rfl
        | ⟨2, _⟩, ha => exact absurd rfl ha) (by show 10240 + (C.val - 10240) = C.val; omega)).trans ?_
    exact extractStridedSlice_apply _ _ _ _ (ix3 b s (⟨C.val - 10240 + 0, by omega⟩ : Fin 14160)) fun k => by
      match k with
      | ⟨0, _⟩ => show b.val = 0 + b.val; omega
      | ⟨1, _⟩ => show s.val = 0 + s.val; omega
      | ⟨2, _⟩ => show C.val - 10240 + 0 = 0 + (C.val - 10240); omega
  by_cases h6 : C.val < 12800
  · rw [src_6 _ (by omega) h6]
    refine (concatenate_apply_piece (2 : Fin S4x4096x14336.rank) _ _ (ix3 b s C) 6 (by show 6 < 11; decide) S4x4096x1536 _ rfl rfl 11264 rfl
      (ix3 b s (⟨C.val - 11264, by omega⟩ : Fin 1536)) (fun a ha => by
        match a, ha with
        | ⟨0, _⟩, _ => rfl
        | ⟨1, _⟩, _ => rfl
        | ⟨2, _⟩, ha => exact absurd rfl ha) (by show 11264 + (C.val - 11264) = C.val; omega)).trans ?_
    exact extractStridedSlice_apply _ _ _ _ (ix3 b s (⟨C.val - 11264 + 1024, by omega⟩ : Fin 14160)) fun k => by
      match k with
      | ⟨0, _⟩ => show b.val = 0 + b.val; omega
      | ⟨1, _⟩ => show s.val = 0 + s.val; omega
      | ⟨2, _⟩ => show C.val - 11264 + 1024 = 1024 + (C.val - 11264); omega
  by_cases h7 : C.val < 12864
  · rw [src_7 _ (by omega) h7]
    refine (concatenate_apply_piece (2 : Fin S4x4096x14336.rank) _ _ (ix3 b s C) 7 (by show 7 < 11; decide) S4x4096x64 _ rfl rfl 12800 rfl
      (ix3 b s (⟨C.val - 12800, by omega⟩ : Fin 64)) (fun a ha => by
        match a, ha with
        | ⟨0, _⟩, _ => rfl
        | ⟨1, _⟩, _ => rfl
        | ⟨2, _⟩, ha => exact absurd rfl ha) (by show 12800 + (C.val - 12800) = C.val; omega)).trans ?_
    refine (extractStridedSlice_apply _ _ _ _ (ix3 b s (⟨C.val - 12800 + 512, by omega⟩ : Fin 576)) fun k => by
      match k with
      | ⟨0, _⟩ => show b.val = 0 + b.val; omega
      | ⟨1, _⟩ => show s.val = 0 + s.val; omega
      | ⟨2, _⟩ => show C.val - 12800 + 512 = 512 + (C.val - 12800); omega).trans ?_
    exact extractStridedSlice_apply _ _ _ _ (ix3 b s (⟨C.val - 12800 + 3856, by omega⟩ : Fin 14160)) fun k => by
      match k with
      | ⟨0, _⟩ => show b.val = 0 + b.val; omega
      | ⟨1, _⟩ => show s.val = 0 + s.val; omega
      | ⟨2, _⟩ => show C.val - 12800 + 3856 = 3344 + (C.val - 12800 + 512); omega
  by_cases h8 : C.val < 13056
  · rw [src_8 _ (by omega) h8]
    refine (concatenate_apply_piece (2 : Fin S4x4096x14336.rank) _ _ (ix3 b s C) 8 (by show 8 < 11; decide) S4x4096x192 _ rfl rfl 12864 rfl
      (ix3 b s (⟨C.val - 12864, by omega⟩ : Fin 192)) (fun a ha => by
        match a, ha with
        | ⟨0, _⟩, _ => rfl
        | ⟨1, _⟩, _ => rfl
        | ⟨2, _⟩, ha => exact absurd rfl ha) (by show 12864 + (C.val - 12864) = C.val; omega)).trans ?_
    exact Ideal.ofBits_zero_f32
  by_cases h9 : C.val < 13824
  · rw [src_9 _ (by omega) h9]
    refine (concatenate_apply_piece (2 : Fin S4x4096x14336.rank) _ _ (ix3 b s C) 9 (by show 9 < 11; decide) S4x4096x768 _ rfl rfl 13056 rfl
      (ix3 b s (⟨C.val - 13056, by omega⟩ : Fin 768)) (fun a ha => by
        match a, ha with
        | ⟨0, _⟩, _ => rfl
        | ⟨1, _⟩, _ => rfl
        | ⟨2, _⟩, ha => exact absurd rfl ha) (by show 13056 + (C.val - 13056) = C.val; omega)).trans ?_
    exact extractStridedSlice_apply _ _ _ _ (ix3 b s (⟨C.val - 13056 + 2576, by omega⟩ : Fin 14160)) fun k => by
      match k with
      | ⟨0, _⟩ => show b.val = 0 + b.val; omega
      | ⟨1, _⟩ => show s.val = 0 + s.val; omega
      | ⟨2, _⟩ => show C.val - 13056 + 2576 = 2576 + (C.val - 13056); omega
  · rw [src_10 _ (by omega) hC]
    refine (concatenate_apply_piece (2 : Fin S4x4096x14336.rank) _ _ (ix3 b s C) 10 (by show 10 < 11; decide) S4x4096x512 _ rfl rfl 13824 rfl
      (ix3 b s (⟨C.val - 13824, by omega⟩ : Fin 512)) (fun a ha => by
        match a, ha with
        | ⟨0, _⟩, _ => rfl
        | ⟨1, _⟩, _ => rfl
        | ⟨2, _⟩, ha => exact absurd rfl ha) (by show 13824 + (C.val - 13824) = C.val; omega)).trans ?_
    refine (extractStridedSlice_apply _ _ _ _ (ix3 b s (⟨C.val - 13824 + 0, by omega⟩ : Fin 576)) fun k => by
      match k with
      | ⟨0, _⟩ => show b.val = 0 + b.val; omega
      | ⟨1, _⟩ => show s.val = 0 + s.val; omega
      | ⟨2, _⟩ => show C.val - 13824 + 0 = 0 + (C.val - 13824); omega).trans ?_
    exact extractStridedSlice_apply _ _ _ _ (ix3 b s (⟨C.val - 13824 + 3344, by omega⟩ : Fin 14160)) fun k => by
      match k with
      | ⟨0, _⟩ => show b.val = 0 + b.val; omega
      | ⟨1, _⟩ => show s.val = 0 + s.val; omega
      | ⟨2, _⟩ => show C.val - 13824 + 3344 = 3344 + (C.val - 13824 + 0); omega

theorem few_at (p : FVec Ideal S4x4096x14160 .f32) (b : Fin 4) (s : Fin 4096) (C : Fin 128) :
    few p (ix3 b s C) = (src (14336 + C.val)).elim 0 fun k => p (ix3 b s k) := by
  have hC := C.isLt
  unfold few
  by_cases h : C.val < 16
  · rw [src_11 _ (by omega) (by omega)]
    refine (concatenate_apply_piece (2 : Fin S4x4096x128.rank) _ _ (ix3 b s C) 0 (by show 0 < 2; decide) S4x4096x16 _ rfl rfl 0 rfl
      (ix3 b s (⟨C.val - 0, by omega⟩ : Fin 16)) (fun a ha => by
        match a, ha with
        | ⟨0, _⟩, _ => rfl
        | ⟨1, _⟩, _ => rfl
        | ⟨2, _⟩, ha => exact absurd rfl ha) (by show 0 + (C.val - 0) = C.val; omega)).trans ?_
    exact extractStridedSlice_apply _ _ _ _ (ix3 b s (⟨14336 + C.val - 14336 + 2560, by omega⟩ : Fin 14160)) fun k => by
      match k with
      | ⟨0, _⟩ => show b.val = 0 + b.val; omega
      | ⟨1, _⟩ => show s.val = 0 + s.val; omega
      | ⟨2, _⟩ => show 14336 + C.val - 14336 + 2560 = 2560 + (C.val - 0); omega
  · rw [src_12 _ (by omega) (by omega)]
    refine (concatenate_apply_piece (2 : Fin S4x4096x128.rank) _ _ (ix3 b s C) 1 (by show 1 < 2; decide) S4x4096x112 _ rfl rfl 16 rfl
      (ix3 b s (⟨C.val - 16, by omega⟩ : Fin 112)) (fun a ha => by
        match a, ha with
        | ⟨0, _⟩, _ => rfl
        | ⟨1, _⟩, _ => rfl
        | ⟨2, _⟩, ha => exact absurd rfl ha) (by show 16 + (C.val - 16) = C.val; omega)).trans ?_
    exact Ideal.ofBits_zero_f32

theorem reduces_row : S4x4096x2048.Reduces [2] S4x4096 := by decide

theorem row_lift (b : Fin 4) (s : Fin 4096) (d : Fin 2048) : reduces_row.lift (ix2 b s) d = ix3 b s d := by
  funext x
  apply Fin.ext
  match x with
  | ⟨0, _⟩ => rfl
  | ⟨1, _⟩ => rfl
  | ⟨2, _⟩ => rfl

section Values
variable (x : FVec Ideal S4x4096x2048 .f32) (n : FVec Ideal S2048 .f32)

theorem squares_at (b : Fin 4) (s : Fin 4096) : squares x (ix2 b s) = ∑ d : Fin 2048, x (ix3 b s d) * x (ix3 b s d) := by
  unfold squares
  rw [hostReduceAdd_apply, Ideal.hostReduceAdd_single _ reduces_row]
  show Ideal.ofBits .f32 0x00000000#32 + _ = _
  rw [Ideal.ofBits_zero_f32, zero_add]
  exact Finset.sum_congr rfl fun d _ => congrArg (fun y => x y * x y) (row_lift b s d)

theorem scale_at (b : Fin 4) (s : Fin 4096) :
    scale x (ix3 b s (0 : Fin 1)) = Ideal.rsqrt ((∑ d : Fin 2048, x (ix3 b s d) * x (ix3 b s d)) * inv + eps) := by
  have e : broadcastInDim S4x4096x1 ![0, 1] bcast_S4x4096_S4x4096x1_0_1 (squares x) (ix3 b s (0 : Fin 1)) = _ :=
    (broadcastInDim_apply _ _ _ _ (ix2 b s) fun k => by
      match k with
      | ⟨0, _⟩ => rfl
      | ⟨1, _⟩ => rfl).trans (squares_at x b s)
  rw [← mean_eq, ← e]
  rfl

theorem normed_at (b : Fin 4) (s : Fin 4096) (d : Fin 2048) :
    normed x n (ix3 b s d) = nrm (fun d => x (ix3 b s d)) (fun d => n (ix1 d)) d := by
  have e1 : broadcastInDim S4x4096x2048 ![0, 1, 2] bcast_S4x4096x1_S4x4096x2048_0_1_2 (scale x) (ix3 b s d) = _ :=
    (broadcastInDim_apply _ _ _ _ (ix3 b s (0 : Fin 1)) fun k => by
      match k with
      | ⟨0, _⟩ => rfl
      | ⟨1, _⟩ => rfl
      | ⟨2, _⟩ => rfl).trans (scale_at x b s)
  have e2 : broadcastInDim S4x4096x2048 ![0, 1, 2] bcast_S1x1x2048_S4x4096x2048_0_1_2
      (broadcastInDim S1x1x2048 ![2] bcast_S2048_S1x1x2048_2 n) (ix3 b s d) = n (ix1 d) :=
    (broadcastInDim_apply _ _ _ _ (ix3 (0 : Fin 1) (0 : Fin 1) d) fun k => by
      match k with
      | ⟨0, _⟩ => rfl
      | ⟨1, _⟩ => rfl
      | ⟨2, _⟩ => rfl).trans (broadcastInDim_apply _ _ _ _ (ix1 d) fun k => by
        match k with
        | ⟨0, _⟩ => rfl)
  exact congrArg₂ (· * ·) (congrArg (x (ix3 b s d) * ·) e1) e2

theorem projected (w : FVec Ideal S2048x14160 .f32) (b : Fin 4) (s : Fin 4096) (k : Fin 14160) : proj (normed x n) w (ix3 b s k)
    = ∑ d, nrm (fun d => x (ix3 b s d)) (fun d => n (ix1 d)) d * w (ix2 d k) :=
  (proj_at _ w b s k).trans (Finset.sum_congr rfl fun d _ => by rw [normed_at])

theorem wide_at (w : FVec Ideal S2048x14160 .f32) (b : Fin 4) (s : Fin 4096) (R : Fin 16384) (hR : R.val = 4096 * b.val + s.val) (C : Fin 14336) :
    wide x n w (ix2 R C) = placed (nrm (fun d => x (ix3 b s d)) (fun d => n (ix1 d))) (fun d k => w (ix2 d k)) C.val := by
  show shapeCast S16384x14336 (cat (proj (normed x n) w)) shapeCasts_S4x4096x14336_S16384x14336 (ix2 R C) = _
  refine (shapeCast_apply (s := S4x4096x14336) (t := S16384x14336) _ _ _ (ix3 b s C) ?_).trans ?_
  · rw [Shape.rowMajor_val_three, Shape.rowMajor_val_two]
    show (b.val * 4096 + s.val) * 14336 + C.val = R.val * 14336 + C.val
    omega
  · rw [cat_at]
    exact congrArg ((src C.val).elim 0) (funext fun k => projected x n w b s k)

theorem narrow_at (w : FVec Ideal S2048x14160 .f32) (b : Fin 4) (s : Fin 4096) (R : Fin 16384) (hR : R.val = 4096 * b.val + s.val) (C : Fin 128) :
    narrow x n w (ix2 R C) = placed (nrm (fun d => x (ix3 b s d)) (fun d => n (ix1 d))) (fun d k => w (ix2 d k)) (14336 + C.val) := by
  unfold narrow
  refine (shapeCast_apply (s := S4x4096x128) (t := S16384x128) _ _ _ (ix3 b s C) ?_).trans ?_
  · rw [Shape.rowMajor_val_three, Shape.rowMajor_val_two]
    show (b.val * 4096 + s.val) * 128 + C.val = R.val * 128 + C.val
    omega
  · rw [few_at]
    exact congrArg ((src (14336 + C.val)).elim 0) (funext fun k => projected x n w b s k)

end Values

open Idealize.SL.Sem in
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = wide (m ((c.tc : Thread nD τ).loc main_arg0)) (m ((c.tc : Thread nD τ).loc main_arg1)) (m ((c.tc : Thread nD τ).loc main_arg2))
      ∧ r.2.mem ((c.tc : Thread nD τ).loc main_v32) = narrow (m ((c.tc : Thread nD τ).loc main_arg0)) (m ((c.tc : Thread nD τ).loc main_arg1)) (m ((c.tc : Thread nD τ).loc main_arg2))
      ∧ r.2.mem ((c.tc : Thread nD τ).loc main_v35) = sideA (m ((c.tc : Thread nD τ).loc main_arg3))
      ∧ r.2.mem ((c.tc : Thread nD τ).loc main_v38) = sideA (m ((c.tc : Thread nD τ).loc main_arg4))
      ∧ r.2.mem ((c.tc : Thread nD τ).loc main_v41) = sideA (m ((c.tc : Thread nD τ).loc main_arg5))
      ∧ r.2.mem ((c.tc : Thread nD τ).loc main_v44) = sideB (m ((c.tc : Thread nD τ).loc main_arg6))
      ∧ r.2.mem ((c.tc : Thread nD τ).loc main_v47) = sideC (m ((c.tc : Thread nD τ).loc main_arg7))
      ∧ r.2.mem ((c.tc : Thread nD τ).loc main_v50) = sideC (m ((c.tc : Thread nD τ).loc main_arg8))
      ∧ r.2.mem ((c.tc : Thread nD τ).loc main_v53) = sideD (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans rfl, (h c).2.1.trans rfl, (h c).2.2⟩) (Value.run m ρ)

end Cert.ProjectionReferenceIdeal.Inp

end
-- ==== Proof.ProjClose.lean ====
module

public import proofs.«01_k».proof.Defs
public import proofs.«01_k».proof.Proof.ProjWhole
public import proofs.«01_k».proof.Proof.ProjRef
public import Idealize.ShloMosaic.Lib.Pipeline.ValueKit.Geometry

@[expose] public section

/-! The input projection's value: over the extended reals, the kernel and the reference leave the same nine arrays. -/

set_option maxRecDepth 16384

noncomputable section

namespace Cert.Inp

open Idealize.ShloMosaic Idealize.ShloMosaic.TcCoe Idealize.SL.Sem Idealize.ShloMosaic.ValueIdx

section Kernel
open Cert.ProjectionIdeal Cert.ProjectionIdeal.Gen Cert.ProjectionIdeal.Inp

variable (m : (ℓ : Loc nD τ sig) → Buf (Elt Ideal) ℓ) (c : Dev nD)

theorem coords {A B : ℕ} (y : (⟨2, ![A, B]⟩ : Shape).Idx) : ∃ (r : Fin A) (e : Fin B), y = ix2 r e :=
  ⟨y 0, y 1, funext fun k => by
    match k with
    | ⟨0, _⟩ => rfl
    | ⟨1, _⟩ => rfl⟩

theorem whole_11 : (dats m 0 c).arrAt 11 cfg0.N = Cert.ProjectionReferenceIdeal.Inp.wide (A0 m c) (A1 m c) (A2 m c) := by
  refine (dats m 0 c).arrAt_eq_of_covers 11 _ (by decide +kernel) fun t hf y => ?_
  obtain ⟨r, e, rfl⟩ := coords (A := 1024) (B := 2048) y
  have ht := t_lt t
  obtain ⟨b, s, hbs⟩ : ∃ (b : Fin 4) (s : Fin 4096), 1024 * (t.val / 7) + r.val = 4096 * b.val + s.val :=
    ⟨⟨(1024 * (t.val / 7) + r.val) / 4096, by omega⟩, ⟨(1024 * (t.val / 7) + r.val) % 4096, by omega⟩, by
      show 1024 * (t.val / 7) + r.val = 4096 * ((1024 * (t.val / 7) + r.val) / 4096) + (1024 * (t.val / 7) + r.val) % 4096
      omega⟩
  refine (point_11 m c t r b s hbs e).trans (Eq.trans ?_ (congrArg (Cert.ProjectionReferenceIdeal.Inp.wide (A0 m c) (A1 m c) (A2 m c)) (emb_11 t r e)).symm)
  exact (Cert.ProjectionReferenceIdeal.Inp.wide_at (A0 m c) (A1 m c) (A2 m c) b s (⟨1024 * (t.val / 7) + r.val, by omega⟩ : Fin 16384) hbs (⟨2048 * (t.val % 7) + e.val, by omega⟩ : Fin 14336)).symm

theorem whole_12 : (dats m 0 c).arrAt 12 cfg0.N = Cert.ProjectionReferenceIdeal.Inp.narrow (A0 m c) (A1 m c) (A2 m c) := by
  refine (dats m 0 c).arrAt_eq_of_covers 12 _ (by decide +kernel) fun t hf y => ?_
  obtain ⟨r, e, rfl⟩ := coords (A := 1024) (B := 128) y
  have ht := t_lt t
  obtain ⟨b, s, hbs⟩ : ∃ (b : Fin 4) (s : Fin 4096), 1024 * (t.val / 7) + r.val = 4096 * b.val + s.val :=
    ⟨⟨(1024 * (t.val / 7) + r.val) / 4096, by omega⟩, ⟨(1024 * (t.val / 7) + r.val) % 4096, by omega⟩, by
      show 1024 * (t.val / 7) + r.val = 4096 * ((1024 * (t.val / 7) + r.val) / 4096) + (1024 * (t.val / 7) + r.val) % 4096
      omega⟩
  refine (point_12 m c t r b s hbs e).trans (Eq.trans ?_ (congrArg (Cert.ProjectionReferenceIdeal.Inp.narrow (A0 m c) (A1 m c) (A2 m c)) (emb_12 t r e)).symm)
  exact (Cert.ProjectionReferenceIdeal.Inp.narrow_at (A0 m c) (A1 m c) (A2 m c) b s (⟨1024 * (t.val / 7) + r.val, by omega⟩ : Fin 16384) hbs e).symm

theorem whole_13 : (dats m 0 c).arrAt 13 cfg0.N = Cert.ProjectionReferenceIdeal.Inp.sideA (A3 m c) := by
  refine (dats m 0 c).arrAt_eq_of_covers 13 _ (by decide +kernel) fun t hf y => ?_
  obtain ⟨r, d, rfl⟩ := coords (A := 16) (B := 2048) y
  refine (side_13 m c t r d).trans (Eq.trans ?_ (congrArg (Cert.ProjectionReferenceIdeal.Inp.sideA (A3 m c)) (emb_13 t r d)).symm)
  exact (Cert.ProjectionReferenceIdeal.Inp.sideA_at (A3 m c) _ d).symm

theorem whole_14 : (dats m 0 c).arrAt 14 cfg0.N = Cert.ProjectionReferenceIdeal.Inp.sideA (A4 m c) := by
  refine (dats m 0 c).arrAt_eq_of_covers 14 _ (by decide +kernel) fun t hf y => ?_
  obtain ⟨r, d, rfl⟩ := coords (A := 16) (B := 2048) y
  refine (side_14 m c t r d).trans (Eq.trans ?_ (congrArg (Cert.ProjectionReferenceIdeal.Inp.sideA (A4 m c)) (emb_14 t r d)).symm)
  exact (Cert.ProjectionReferenceIdeal.Inp.sideA_at (A4 m c) _ d).symm

theorem whole_15 : (dats m 0 c).arrAt 15 cfg0.N = Cert.ProjectionReferenceIdeal.Inp.sideA (A5 m c) := by
  refine (dats m 0 c).arrAt_eq_of_covers 15 _ (by decide +kernel) fun t hf y => ?_
  obtain ⟨r, d, rfl⟩ := coords (A := 16) (B := 2048) y
  refine (side_15 m c t r d).trans (Eq.trans ?_ (congrArg (Cert.ProjectionReferenceIdeal.Inp.sideA (A5 m c)) (emb_15 t r d)).symm)
  exact (Cert.ProjectionReferenceIdeal.Inp.sideA_at (A5 m c) _ d).symm

theorem whole_16 : (dats m 0 c).arrAt 16 cfg0.N = Cert.ProjectionReferenceIdeal.Inp.sideB (A6 m c) := by
  refine (dats m 0 c).arrAt_eq_of_covers 16 _ (by decide +kernel) fun t hf y => ?_
  obtain ⟨r, d, rfl⟩ := coords (A := 32) (B := 2048) y
  refine (side_16 m c t r d).trans (Eq.trans ?_ (congrArg (Cert.ProjectionReferenceIdeal.Inp.sideB (A6 m c)) (emb_16 t r d)).symm)
  exact (Cert.ProjectionReferenceIdeal.Inp.sideB_at (A6 m c) _ d).symm

theorem whole_17 : (dats m 0 c).arrAt 17 cfg0.N = Cert.ProjectionReferenceIdeal.Inp.sideC (A7 m c) := by
  refine (dats m 0 c).arrAt_eq_of_covers 17 _ (by decide +kernel) fun t hf y => ?_
  obtain ⟨r, d, rfl⟩ := coords (A := 32) (B := 5632) y
  refine (side_17 m c t r d).trans (Eq.trans ?_ (congrArg (Cert.ProjectionReferenceIdeal.Inp.sideC (A7 m c)) (emb_17 t r d)).symm)
  exact (Cert.ProjectionReferenceIdeal.Inp.sideC_at (A7 m c) _ d).symm

theorem whole_18 : (dats m 0 c).arrAt 18 cfg0.N = Cert.ProjectionReferenceIdeal.Inp.sideC (A8 m c) := by
  refine (dats m 0 c).arrAt_eq_of_covers 18 _ (by decide +kernel) fun t hf y => ?_
  obtain ⟨r, d, rfl⟩ := coords (A := 32) (B := 5632) y
  refine (side_18 m c t r d).trans (Eq.trans ?_ (congrArg (Cert.ProjectionReferenceIdeal.Inp.sideC (A8 m c)) (emb_18 t r d)).symm)
  exact (Cert.ProjectionReferenceIdeal.Inp.sideC_at (A8 m c) _ d).symm

theorem whole_19 : (dats m 0 c).arrAt 19 cfg0.N = Cert.ProjectionReferenceIdeal.Inp.sideD (A9 m c) := by
  refine (dats m 0 c).arrAt_eq_of_covers 19 _ (by decide +kernel) fun t hf y => ?_
  obtain ⟨r, d, rfl⟩ := coords (A := 64) (B := 2048) y
  refine (side_19 m c t r d).trans (Eq.trans ?_ (congrArg (Cert.ProjectionReferenceIdeal.Inp.sideD (A9 m c)) (emb_19 t r d)).symm)
  exact (Cert.ProjectionReferenceIdeal.Inp.sideD_at (A9 m c) _ d).symm

set_option maxHeartbeats 4000000 in
/-- The kernel's run, its nine results as the reference's functions of the arguments. -/
theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v17_0) = Cert.ProjectionReferenceIdeal.Inp.wide (A0 m c) (A1 m c) (A2 m c)
      ∧ r.2.mem ((c.tc : Thread nD τ).loc main_v17_1) = Cert.ProjectionReferenceIdeal.Inp.narrow (A0 m c) (A1 m c) (A2 m c)
      ∧ r.2.mem ((c.tc : Thread nD τ).loc main_v17_2) = Cert.ProjectionReferenceIdeal.Inp.sideA (A3 m c)
      ∧ r.2.mem ((c.tc : Thread nD τ).loc main_v17_3) = Cert.ProjectionReferenceIdeal.Inp.sideA (A4 m c)
      ∧ r.2.mem ((c.tc : Thread nD τ).loc main_v17_4) = Cert.ProjectionReferenceIdeal.Inp.sideA (A5 m c)
      ∧ r.2.mem ((c.tc : Thread nD τ).loc main_v17_5) = Cert.ProjectionReferenceIdeal.Inp.sideB (A6 m c)
      ∧ r.2.mem ((c.tc : Thread nD τ).loc main_v17_6) = Cert.ProjectionReferenceIdeal.Inp.sideC (A7 m c)
      ∧ r.2.mem ((c.tc : Thread nD τ).loc main_v17_7) = Cert.ProjectionReferenceIdeal.Inp.sideC (A8 m c)
      ∧ r.2.mem ((c.tc : Thread nD τ).loc main_v17_8) = Cert.ProjectionReferenceIdeal.Inp.sideD (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.1 c).1 11).trans (whole_11 m c),
      ((h.1 c).1 12).trans (whole_12 m c),
      ((h.1 c).1 13).trans (whole_13 m c),
      ((h.1 c).1 14).trans (whole_14 m c),
      ((h.1 c).1 15).trans (whole_15 m c),
      ((h.1 c).1 16).trans (whole_16 m c),
      ((h.1 c).1 17).trans (whole_17 m c),
      ((h.1 c).1 18).trans (whole_18 m c),
      ((h.1 c).1 19).trans (whole_19 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c))),
      ((h.1 c).1 6).trans (((dats m 0 c).arrAt_in 6 rfl _).trans ((A_eq m c 6).trans (V_main_arg5 m c))),
      ((h.1 c).1 7).trans (((dats m 0 c).arrAt_in 7 rfl _).trans ((A_eq m c 7).trans (V_main_arg6 m c))),
      ((h.1 c).1 8).trans (((dats m 0 c).arrAt_in 8 rfl _).trans ((A_eq m c 8).trans (V_main_arg7 m c))),
      ((h.1 c).1 9).trans (((dats m 0 c).arrAt_in 9 rfl _).trans ((A_eq m c 9).trans (V_main_arg8 m c))),
      ((h.1 c).1 10).trans (((dats m 0 c).arrAt_in 10 rfl _).trans ((A_eq m c 10).trans (V_main_arg9 m c)))⟩)
    (run_main (F := Ideal) m ρ)

end Kernel

set_option maxHeartbeats 4000000 in
theorem value_projection : Cert.algebraic_ProjectionIdeal_ProjectionReferenceIdeal := fun m g m' g' _ harg =>
  ⟨fun c => Cert.ProjectionReferenceIdeal.Inp.wide (Cert.ProjectionIdeal.Inp.A0 m c) (Cert.ProjectionIdeal.Inp.A1 m c) (Cert.ProjectionIdeal.Inp.A2 m c), fun c => Cert.ProjectionReferenceIdeal.Inp.narrow (Cert.ProjectionIdeal.Inp.A0 m c) (Cert.ProjectionIdeal.Inp.A1 m c) (Cert.ProjectionIdeal.Inp.A2 m c), fun c => Cert.ProjectionReferenceIdeal.Inp.sideA (Cert.ProjectionIdeal.Inp.A3 m c), fun c => Cert.ProjectionReferenceIdeal.Inp.sideA (Cert.ProjectionIdeal.Inp.A4 m c), fun c => Cert.ProjectionReferenceIdeal.Inp.sideA (Cert.ProjectionIdeal.Inp.A5 m c), fun c => Cert.ProjectionReferenceIdeal.Inp.sideB (Cert.ProjectionIdeal.Inp.A6 m c), fun c => Cert.ProjectionReferenceIdeal.Inp.sideC (Cert.ProjectionIdeal.Inp.A7 m c), fun c => Cert.ProjectionReferenceIdeal.Inp.sideC (Cert.ProjectionIdeal.Inp.A8 m c), fun c => Cert.ProjectionReferenceIdeal.Inp.sideD (Cert.ProjectionIdeal.Inp.A9 m c),
    run_kernel m g,
    (θ_run Cert.ProjectionReferenceIdeal.defs _ _).mono (fun r h c => by
      obtain ⟨a0, a1, a2, a3, a4, a5, a6, a7, a8, a9⟩ := harg c
      obtain ⟨h0, h1, h2, h3, h4, h5, h6, h7, h8, hr⟩ := h c
      exact ⟨h0.trans (by rw [a0, a1, a2]), h1.trans (by rw [a0, a1, a2]), h2.trans (by rw [a3]), h3.trans (by rw [a4]), h4.trans (by rw [a5]),
        h5.trans (by rw [a6]), h6.trans (by rw [a7]), h7.trans (by rw [a8]), h8.trans (by rw [a9]), hr⟩)
      (Cert.ProjectionReferenceIdeal.Inp.run m' g')⟩

end Cert.Inp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Projection.Frame
public import proofs.«01_k».proof.Proof.Gen.ProjectionIdeal.Frame
public import proofs.«01_k».proof.Proof.Gen.ProjectionReferenceIdeal.Run
public import proofs.«01_k».proof.Proof.Gen.Merge.Frame
public import proofs.«01_k».proof.Proof.Gen.MergeIdeal.Value
public import proofs.«01_k».proof.Proof.Gen.MergeReferenceIdeal.Run
public import proofs.«01_k».proof.Proof.Gen.FeedForward.Frame
public import proofs.«01_k».proof.Proof.Gen.FeedForwardIdeal.Value
public import proofs.«01_k».proof.Proof.Gen.FeedForwardReferenceIdeal.Run
public import proofs.«01_k».proof.Proof.Frames
public import proofs.«01_k».proof.Proof.Close
public import proofs.«01_k».proof.Proof.FfnClose
public import proofs.«01_k».proof.Proof.MergeClose
public import proofs.«01_k».proof.Proof.ProjFrames
public import proofs.«01_k».proof.Proof.ProjClose
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.FeedForward.Gen.facts, Cert.FeedForwardIdeal.Gen.facts, Cert.FeedForwardReferenceIdeal.Gen.facts,
  Cert.Merge.Gen.facts, Cert.MergeIdeal.Gen.facts, Cert.MergeReferenceIdeal.Gen.facts,
  Cert.Projection.Gen.facts, Cert.ProjectionIdeal.Gen.facts, Cert.ProjectionReferenceIdeal.Gen.facts, Cert.Att.preFacts, Cert.Ffn.preFacts,
  Cert.Att.frame_attention, Cert.Att.frame_attention_ideal, fun m ρ _ => Cert.Att.frame_attention_ideal m ρ trivial, Cert.Att.frame_reference,
  fun m ρ _ => Cert.Att.frame_reference m ρ trivial,
  Cert.Ffn.frame_ffn, Cert.Ffn.frame_ffn_ideal, fun m ρ _ => Cert.Ffn.frame_ffn_ideal m ρ trivial, Cert.Ffn.frame_ffn_reference,
  fun m ρ _ => Cert.Ffn.frame_ffn_reference m ρ trivial,
  Cert.Mix.frame_merge, Cert.Mix.frame_merge_ideal, Cert.Mix.frame_merge_reference,
  Cert.Inp.frame_projection, Cert.Inp.frame_projection_ideal, Cert.Inp.frame_projection_reference,
  trivial, Cert.Att.value_attention, trivial, Cert.Ffn.value_ffn, trivial, Cert.Mix.value_merge,
  trivial, Cert.Inp.value_projection⟩

end Cert.Proof

end
